-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.Statement Cert.KernelIdeal.S64x2x128 Cert.KernelIdeal.S64x1x128
  ∧ IdealRules.bf16_pair.Statement Cert.KernelIdeal.S128x128 Cert.KernelIdeal.S64x128
  ∧ IdealRules.bf16_pair.PackStatement Cert.KernelIdeal.S8x128
  ∧ IdealRules.bf16_pair.Statement Cert.KernelIdeal.S16x128 Cert.KernelIdeal.S8x128
  ∧ IdealRules.bf16_pair.Statement Cert.KernelIdeal.S8x2x128 Cert.KernelIdeal.S8x1x128
  ∧ IdealRules.bf16_pair.Statement Cert.KernelIdeal.S16x16 Cert.KernelIdeal.S8x16
  ∧ IdealRules.bf16_pair.PackStatement Cert.KernelIdeal.S8x256
  ∧ IdealRules.bf16_pair.Statement Cert.KernelIdeal.S16x256 Cert.KernelIdeal.S8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x8960 : Shape := ⟨3, ![256, 1, 8960]⟩
abbrev S5120x4480 : Shape := ⟨2, ![5120, 4480]⟩
abbrev S5120x140 : Shape := ⟨2, ![5120, 140]⟩
abbrev S2800 : Shape := ⟨1, ![2800]⟩
abbrev S_ : Shape := ⟨0, ![]⟩
abbrev S8960x16 : Shape := ⟨2, ![8960, 16]⟩
abbrev S16x5120 : Shape := ⟨2, ![16, 5120]⟩
abbrev S2x32x128 : Shape := ⟨3, ![2, 32, 128]⟩
abbrev S80x35 : Shape := ⟨2, ![80, 35]⟩
abbrev S80x128 : Shape := ⟨2, ![80, 128]⟩
abbrev S1x1 : Shape := ⟨2, ![1, 1]⟩
abbrev S256x8960 : Shape := ⟨2, ![256, 8960]⟩
abbrev S256x5120 : Shape := ⟨2, ![256, 5120]⟩
abbrev S1024x4480 : Shape := ⟨2, ![1024, 4480]⟩
abbrev S1024x256 : Shape := ⟨2, ![1024, 256]⟩
abbrev S16x128 : Shape := ⟨2, ![16, 128]⟩
abbrev S16x1024 : Shape := ⟨2, ![16, 1024]⟩
abbrev S256x1024 : Shape := ⟨2, ![256, 1024]⟩
abbrev S35x256x256 : Shape := ⟨3, ![35, 256, 256]⟩
abbrev S2x32x32x128 : Shape := ⟨4, ![2, 32, 32, 128]⟩
abbrev S256x16 : Shape := ⟨2, ![256, 16]⟩
abbrev S256x128 : Shape := ⟨2, ![256, 128]⟩
abbrev S1024x16 : Shape := ⟨2, ![1024, 16]⟩
abbrev S128x256 : Shape := ⟨2, ![128, 256]⟩
abbrev S128x128 : Shape := ⟨2, ![128, 128]⟩
abbrev S64x128 : Shape := ⟨2, ![64, 128]⟩
abbrev S128x2x128 : Shape := ⟨3, ![128, 2, 128]⟩
abbrev S64x2x128 : Shape := ⟨3, ![64, 2, 128]⟩
abbrev S64x1x128 : Shape := ⟨3, ![64, 1, 128]⟩
abbrev S1x128x128 : Shape := ⟨3, ![1, 128, 128]⟩
abbrev S8x128 : Shape := ⟨2, ![8, 128]⟩
abbrev S1x128 : Shape := ⟨2, ![1, 128]⟩
abbrev S32x128 : Shape := ⟨2, ![32, 128]⟩
abbrev S8x128x1 : Shape := ⟨3, ![8, 128, 1]⟩
abbrev S1x1x16x128 : Shape := ⟨4, ![1, 1, 16, 128]⟩
abbrev S128x16 : Shape := ⟨2, ![128, 16]⟩
abbrev S8x2x128 : Shape := ⟨3, ![8, 2, 128]⟩
abbrev S8x1x128 : Shape := ⟨3, ![8, 1, 128]⟩
abbrev S8x16 : Shape := ⟨2, ![8, 16]⟩
abbrev S16x16 : Shape := ⟨2, ![16, 16]⟩
abbrev S1x32x128 : Shape := ⟨3, ![1, 32, 128]⟩
abbrev S16x128x1 : Shape := ⟨3, ![16, 128, 1]⟩
abbrev S32x128x1 : Shape := ⟨3, ![32, 128, 1]⟩
abbrev S1x256x256 : Shape := ⟨3, ![1, 256, 256]⟩
abbrev S256x256 : Shape := ⟨2, ![256, 256]⟩
abbrev S32x256 : Shape := ⟨2, ![32, 256]⟩
abbrev S8x256 : Shape := ⟨2, ![8, 256]⟩
abbrev S16x256 : Shape := ⟨2, ![16, 256]⟩
abbrev S256x1x5120 : Shape := ⟨3, ![256, 1, 5120]⟩

abbrev nBuf : Space → Nat
  | .hbm => 16
  | .vmem => 20
  | .smem => 1
  | _ => 0

abbrev bufTy : (tb : Table) → Fin (tcTables nBuf tb) → BufTy
  | .hbm, ⟨0, _⟩ => ⟨S256x1x8960, .bf16⟩
  | .hbm, ⟨1, _⟩ => ⟨S5120x4480, .i8⟩
  | .hbm, ⟨2, _⟩ => ⟨S5120x140, .i8⟩
  | .hbm, ⟨3, _⟩ => ⟨S2800, .f32⟩
  | .hbm, ⟨4, _⟩ => ⟨S_, .f32⟩
  | .hbm, ⟨5, _⟩ => ⟨S8960x16, .bf16⟩
  | .hbm, ⟨6, _⟩ => ⟨S16x5120, .bf16⟩
  | .hbm, ⟨7, _⟩ => ⟨S2x32x128, .i8⟩
  | .hbm, ⟨8, _⟩ => ⟨S80x35, .f32⟩
  | .hbm, ⟨9, _⟩ => ⟨S_, .i32⟩
  | .hbm, ⟨10, _⟩ => ⟨S_, .f32⟩
  | .hbm, ⟨11, _⟩ => ⟨S80x128, .f32⟩
  | .hbm, ⟨12, _⟩ => ⟨S1x1, .f32⟩
  | .hbm, ⟨13, _⟩ => ⟨S256x8960, .bf16⟩
  | .hbm, ⟨14, _⟩ => ⟨S256x5120, .bf16⟩
  | .hbm, ⟨15, _⟩ => ⟨S256x1x5120, .bf16⟩
  | .local _ .vmem, ⟨0, _⟩ => ⟨S256x8960, .bf16⟩
  | .local _ .vmem, ⟨1, _⟩ => ⟨S1024x4480, .i8⟩
  | .local _ .vmem, ⟨2, _⟩ => ⟨S1024x4480, .i8⟩
  | .local _ .vmem, ⟨3, _⟩ => ⟨S1024x256, .i8⟩
  | .local _ .vmem, ⟨4, _⟩ => ⟨S1024x256, .i8⟩
  | .local _ .vmem, ⟨5, _⟩ => ⟨S16x128, .f32⟩
  | .local _ .vmem, ⟨6, _⟩ => ⟨S16x128, .f32⟩
  | .local _ .vmem, ⟨7, _⟩ => ⟨S8960x16, .bf16⟩
  | .local _ .vmem, ⟨8, _⟩ => ⟨S16x1024, .bf16⟩
  | .local _ .vmem, ⟨9, _⟩ => ⟨S16x1024, .bf16⟩
  | .local _ .vmem, ⟨10, _⟩ => ⟨S2x32x128, .i8⟩
  | .local _ .vmem, ⟨11, _⟩ => ⟨S256x1024, .bf16⟩
  | .local _ .vmem, ⟨12, _⟩ => ⟨S256x1024, .bf16⟩
  | .local _ .vmem, ⟨13, _⟩ => ⟨S35x256x256, .bf16⟩
  | .local _ .vmem, ⟨14, _⟩ => ⟨S2x32x32x128, .bf16⟩
  | .local _ .vmem, ⟨15, _⟩ => ⟨S256x16, .bf16⟩
  | .local _ .vmem, ⟨16, _⟩ => ⟨S256x128, .bf16⟩
  | .local _ .vmem, ⟨17, _⟩ => ⟨S1024x16, .bf16⟩
  | .local _ .vmem, ⟨18, _⟩ => ⟨S1024x256, .bf16⟩
  | .local _ .vmem, ⟨19, _⟩ => ⟨S1024x256, .f32⟩
  | .local _ .smem, ⟨0, _⟩ => ⟨S1x1, .f32⟩
  | _, _ => ⟨S256x1x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [BitOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3391 : BitVec 32 := 0#32
  let c35_i32_3392 : BitVec 32 := 35#32
  let v8640 : BitVec 32 := Scalar.addi c0_i32_3391 c35_i32_3392
  let c1_i32_3393 : BitVec 32 := 1#32
  ⟨c0_i32_3391, v8640, c1_i32_3393⟩
def k0_mult1 (k0_t1 : Fin k0_t1_loop.trips) : BitVec 32 :=
  let c0_i32_3391 : BitVec 32 := 0#32
  let c1_i32_3393 : BitVec 32 := 1#32
  let arg17 : BitVec 32 := Scf.iv c0_i32_3391 c1_i32_3393 k0_t1
  let c256_i32 : BitVec 32 := 256#32
  let v8641 : BitVec 32 := Scalar.muli arg17 c256_i32
  v8641
def k0_off1 (k0_t1 : Fin k0_t1_loop.trips) : Fin 2 → Nat :=
  let c0_3395 : Index := 0#32
  let c0_i32_3391 : BitVec 32 := 0#32
  let c1_i32_3393 : BitVec 32 := 1#32
  let arg17 : BitVec 32 := Scf.iv c0_i32_3391 c1_i32_3393 k0_t1
  let c256_i32 : BitVec 32 := 256#32
  let v8641 : BitVec 32 := Scalar.muli arg17 c256_i32
  let v8642 : BitVec 32 := v8641
  let v8643 : Index := Scalar.indexCast v8642
  ![0, v8643.toNat]
def k0_off2 (k0_t1 : Fin k0_t1_loop.trips) : Fin 3 → Nat :=
  let c0_i32_3391 : BitVec 32 := 0#32
  let c1_i32_3393 : BitVec 32 := 1#32
  let arg17 : BitVec 32 := Scf.iv c0_i32_3391 c1_i32_3393 k0_t1
  let v8665 : Index := Scalar.indexCast arg17
  let c0_3406 : Index := 0#32
  let c0_3407 : Index := 0#32
  ![v8665.toNat, 0, 0]
def k0_off3 (k0_t1 : Fin k0_t1_loop.trips) : Fin 3 → Nat :=
  let c0_i32_3391 : BitVec 32 := 0#32
  let c1_i32_3393 : BitVec 32 := 1#32
  let arg17 : BitVec 32 := Scf.iv c0_i32_3391 c1_i32_3393 k0_t1
  let v8670 : Index := Scalar.indexCast arg17
  let c128_3408 : Index := 128#32
  let c0_3409 : Index := 0#32
  ![v8670.toNat, 128, 0]
def k0_mult2 (k0_t1 : Fin k0_t1_loop.trips) : BitVec 32 :=
  let c0_i32_3391 : BitVec 32 := 0#32
  let c1_i32_3393 : BitVec 32 := 1#32
  let arg17 : BitVec 32 := Scf.iv c0_i32_3391 c1_i32_3393 k0_t1
  let c256_i32_3410 : BitVec 32 := 256#32
  let v8674 : BitVec 32 := Scalar.muli arg17 c256_i32_3410
  v8674
def k0_off4 (k0_t1 : Fin k0_t1_loop.trips) : Fin 2 → Nat :=
  let c128_3411 : Index := 128#32
  let c0_i32_3391 : BitVec 32 := 0#32
  let c1_i32_3393 : BitVec 32 := 1#32
  let arg17 : BitVec 32 := Scf.iv c0_i32_3391 c1_i32_3393 k0_t1
  let c256_i32_3410 : BitVec 32 := 256#32
  let v8674 : BitVec 32 := Scalar.muli arg17 c256_i32_3410
  let v8675 : BitVec 32 := v8674
  let v8676 : Index := Scalar.indexCast v8675
  ![128, v8676.toNat]
def k0_off5 (k0_t1 : Fin k0_t1_loop.trips) : Fin 3 → Nat :=
  let c0_i32_3391 : BitVec 32 := 0#32
  let c1_i32_3393 : BitVec 32 := 1#32
  let arg17 : BitVec 32 := Scf.iv c0_i32_3391 c1_i32_3393 k0_t1
  let v8698 : Index := Scalar.indexCast arg17
  let c0_3422 : Index := 0#32
  let c128_3423 : Index := 128#32
  ![v8698.toNat, 0, 128]
def k0_off6 (k0_t1 : Fin k0_t1_loop.trips) : Fin 3 → Nat :=
  let c0_i32_3391 : BitVec 32 := 0#32
  let c1_i32_3393 : BitVec 32 := 1#32
  let arg17 : BitVec 32 := Scf.iv c0_i32_3391 c1_i32_3393 k0_t1
  let v8703 : Index := Scalar.indexCast arg17
  let c128_3424 : Index := 128#32
  let c128_3425 : Index := 128#32
  ![v8703.toNat, 128, 128]
@[reducible] def k0_t2_loop : Scf.Loop 32 :=
  let c0_i32_3301 : BitVec 32 := 0#32
  let c35_i32 : BitVec 32 := 35#32
  let v8319 : BitVec 32 := Scalar.addi c0_i32_3301 c35_i32
  let c1_i32_3302 : BitVec 32 := 1#32
  ⟨c0_i32_3301, v8319, c1_i32_3302⟩
def k0_mult3 (k0_t2 : Fin k0_t2_loop.trips) : BitVec 32 :=
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  v8632
def k0_off7 (k0_t2 : Fin k0_t2_loop.trips) : Fin 2 → Nat :=
  let c0_3387 : Index := 0#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v8641 : Index := Scalar.indexCast v8633
  ![0, v8641.toNat]
def k0_off8 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3388 : BitVec 32 := 5#32
  let v8644 : BitVec 32 := Scalar.shrsi arg17 c5_i32_3388
  let v8645 : Index := Scalar.indexCast v8644
  let c0_3389 : Index := 0#32
  let c0_3390 : Index := 0#32
  let c0_3391 : Index := 0#32
  ![v8645.toNat, 0, 0, 0]
def k0_off9 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3392 : BitVec 32 := 5#32
  let v8653 : BitVec 32 := Scalar.shrsi arg17 c5_i32_3392
  let v8654 : Index := Scalar.indexCast v8653
  let c0_3393 : Index := 0#32
  let c16_3394 : Index := 16#32
  let c0_3395 : Index := 0#32
  ![v8654.toNat, 0, 16, 0]
def k0_off10 (k0_t2 : Fin k0_t2_loop.trips) : Fin 2 → Nat :=
  let c32_3410 : Index := 32#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v8730 : Index := Scalar.indexCast v8633
  ![32, v8730.toNat]
def k0_off11 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3411 : BitVec 32 := 5#32
  let v8733 : BitVec 32 := Scalar.shrsi arg17 c5_i32_3411
  let v8734 : Index := Scalar.indexCast v8733
  let c1_3412 : Index := 1#32
  let c0_3413 : Index := 0#32
  let c0_3414 : Index := 0#32
  ![v8734.toNat, 1, 0, 0]
def k0_off12 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3415 : BitVec 32 := 5#32
  let v8742 : BitVec 32 := Scalar.shrsi arg17 c5_i32_3415
  let v8743 : Index := Scalar.indexCast v8742
  let c1_3416 : Index := 1#32
  let c16_3417 : Index := 16#32
  let c0_3418 : Index := 0#32
  ![v8743.toNat, 1, 16, 0]
def k0_off13 (k0_t2 : Fin k0_t2_loop.trips) : Fin 2 → Nat :=
  let c64_3434 : Index := 64#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v8819 : Index := Scalar.indexCast v8633
  ![64, v8819.toNat]
def k0_off14 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3435 : BitVec 32 := 5#32
  let v8822 : BitVec 32 := Scalar.shrsi arg17 c5_i32_3435
  let v8823 : Index := Scalar.indexCast v8822
  let c2_3436 : Index := 2#32
  let c0_3437 : Index := 0#32
  let c0_3438 : Index := 0#32
  ![v8823.toNat, 2, 0, 0]
def k0_off15 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3439 : BitVec 32 := 5#32
  let v8831 : BitVec 32 := Scalar.shrsi arg17 c5_i32_3439
  let v8832 : Index := Scalar.indexCast v8831
  let c2_3440 : Index := 2#32
  let c16_3441 : Index := 16#32
  let c0_3442 : Index := 0#32
  ![v8832.toNat, 2, 16, 0]
def k0_off16 (k0_t2 : Fin k0_t2_loop.trips) : Fin 2 → Nat :=
  let c96_3458 : Index := 96#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v8908 : Index := Scalar.indexCast v8633
  ![96, v8908.toNat]
def k0_off17 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3459 : BitVec 32 := 5#32
  let v8911 : BitVec 32 := Scalar.shrsi arg17 c5_i32_3459
  let v8912 : Index := Scalar.indexCast v8911
  let c3_3460 : Index := 3#32
  let c0_3461 : Index := 0#32
  let c0_3462 : Index := 0#32
  ![v8912.toNat, 3, 0, 0]
def k0_off18 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3463 : BitVec 32 := 5#32
  let v8920 : BitVec 32 := Scalar.shrsi arg17 c5_i32_3463
  let v8921 : Index := Scalar.indexCast v8920
  let c3_3464 : Index := 3#32
  let c16_3465 : Index := 16#32
  let c0_3466 : Index := 0#32
  ![v8921.toNat, 3, 16, 0]
def k0_off19 (k0_t2 : Fin k0_t2_loop.trips) : Fin 2 → Nat :=
  let c128_3482 : Index := 128#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v8997 : Index := Scalar.indexCast v8633
  ![128, v8997.toNat]
def k0_off20 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3483 : BitVec 32 := 5#32
  let v9000 : BitVec 32 := Scalar.shrsi arg17 c5_i32_3483
  let v9001 : Index := Scalar.indexCast v9000
  let c4_3484 : Index := 4#32
  let c0_3485 : Index := 0#32
  let c0_3486 : Index := 0#32
  ![v9001.toNat, 4, 0, 0]
def k0_off21 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3487 : BitVec 32 := 5#32
  let v9009 : BitVec 32 := Scalar.shrsi arg17 c5_i32_3487
  let v9010 : Index := Scalar.indexCast v9009
  let c4_3488 : Index := 4#32
  let c16_3489 : Index := 16#32
  let c0_3490 : Index := 0#32
  ![v9010.toNat, 4, 16, 0]
def k0_off22 (k0_t2 : Fin k0_t2_loop.trips) : Fin 2 → Nat :=
  let c160_3506 : Index := 160#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v9086 : Index := Scalar.indexCast v8633
  ![160, v9086.toNat]
def k0_off23 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3507 : BitVec 32 := 5#32
  let v9089 : BitVec 32 := Scalar.shrsi arg17 c5_i32_3507
  let v9090 : Index := Scalar.indexCast v9089
  let c5_3508 : Index := 5#32
  let c0_3509 : Index := 0#32
  let c0_3510 : Index := 0#32
  ![v9090.toNat, 5, 0, 0]
def k0_off24 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3511 : BitVec 32 := 5#32
  let v9098 : BitVec 32 := Scalar.shrsi arg17 c5_i32_3511
  let v9099 : Index := Scalar.indexCast v9098
  let c5_3512 : Index := 5#32
  let c16_3513 : Index := 16#32
  let c0_3514 : Index := 0#32
  ![v9099.toNat, 5, 16, 0]
def k0_off25 (k0_t2 : Fin k0_t2_loop.trips) : Fin 2 → Nat :=
  let c192_3530 : Index := 192#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v9175 : Index := Scalar.indexCast v8633
  ![192, v9175.toNat]
def k0_off26 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3531 : BitVec 32 := 5#32
  let v9178 : BitVec 32 := Scalar.shrsi arg17 c5_i32_3531
  let v9179 : Index := Scalar.indexCast v9178
  let c6_3532 : Index := 6#32
  let c0_3533 : Index := 0#32
  let c0_3534 : Index := 0#32
  ![v9179.toNat, 6, 0, 0]
def k0_off27 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3535 : BitVec 32 := 5#32
  let v9187 : BitVec 32 := Scalar.shrsi arg17 c5_i32_3535
  let v9188 : Index := Scalar.indexCast v9187
  let c6_3536 : Index := 6#32
  let c16_3537 : Index := 16#32
  let c0_3538 : Index := 0#32
  ![v9188.toNat, 6, 16, 0]
def k0_off28 (k0_t2 : Fin k0_t2_loop.trips) : Fin 2 → Nat :=
  let c224_3554 : Index := 224#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v9264 : Index := Scalar.indexCast v8633
  ![224, v9264.toNat]
def k0_off29 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3555 : BitVec 32 := 5#32
  let v9267 : BitVec 32 := Scalar.shrsi arg17 c5_i32_3555
  let v9268 : Index := Scalar.indexCast v9267
  let c7_3556 : Index := 7#32
  let c0_3557 : Index := 0#32
  let c0_3558 : Index := 0#32
  ![v9268.toNat, 7, 0, 0]
def k0_off30 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3559 : BitVec 32 := 5#32
  let v9276 : BitVec 32 := Scalar.shrsi arg17 c5_i32_3559
  let v9277 : Index := Scalar.indexCast v9276
  let c7_3560 : Index := 7#32
  let c16_3561 : Index := 16#32
  let c0_3562 : Index := 0#32
  ![v9277.toNat, 7, 16, 0]
def k0_off31 (k0_t2 : Fin k0_t2_loop.trips) : Fin 2 → Nat :=
  let c256_3578 : Index := 256#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v9353 : Index := Scalar.indexCast v8633
  ![256, v9353.toNat]
def k0_off32 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3579 : BitVec 32 := 5#32
  let v9356 : BitVec 32 := Scalar.shrsi arg17 c5_i32_3579
  let v9357 : Index := Scalar.indexCast v9356
  let c8_3580 : Index := 8#32
  let c0_3581 : Index := 0#32
  let c0_3582 : Index := 0#32
  ![v9357.toNat, 8, 0, 0]
def k0_off33 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3583 : BitVec 32 := 5#32
  let v9365 : BitVec 32 := Scalar.shrsi arg17 c5_i32_3583
  let v9366 : Index := Scalar.indexCast v9365
  let c8_3584 : Index := 8#32
  let c16_3585 : Index := 16#32
  let c0_3586 : Index := 0#32
  ![v9366.toNat, 8, 16, 0]
def k0_off34 (k0_t2 : Fin k0_t2_loop.trips) : Fin 2 → Nat :=
  let c288_3602 : Index := 288#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v9442 : Index := Scalar.indexCast v8633
  ![288, v9442.toNat]
def k0_off35 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3603 : BitVec 32 := 5#32
  let v9445 : BitVec 32 := Scalar.shrsi arg17 c5_i32_3603
  let v9446 : Index := Scalar.indexCast v9445
  let c9_3604 : Index := 9#32
  let c0_3605 : Index := 0#32
  let c0_3606 : Index := 0#32
  ![v9446.toNat, 9, 0, 0]
def k0_off36 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3607 : BitVec 32 := 5#32
  let v9454 : BitVec 32 := Scalar.shrsi arg17 c5_i32_3607
  let v9455 : Index := Scalar.indexCast v9454
  let c9_3608 : Index := 9#32
  let c16_3609 : Index := 16#32
  let c0_3610 : Index := 0#32
  ![v9455.toNat, 9, 16, 0]
def k0_off37 (k0_t2 : Fin k0_t2_loop.trips) : Fin 2 → Nat :=
  let c320_3626 : Index := 320#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v9531 : Index := Scalar.indexCast v8633
  ![320, v9531.toNat]
def k0_off38 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3627 : BitVec 32 := 5#32
  let v9534 : BitVec 32 := Scalar.shrsi arg17 c5_i32_3627
  let v9535 : Index := Scalar.indexCast v9534
  let c10_3628 : Index := 10#32
  let c0_3629 : Index := 0#32
  let c0_3630 : Index := 0#32
  ![v9535.toNat, 10, 0, 0]
def k0_off39 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3631 : BitVec 32 := 5#32
  let v9543 : BitVec 32 := Scalar.shrsi arg17 c5_i32_3631
  let v9544 : Index := Scalar.indexCast v9543
  let c10_3632 : Index := 10#32
  let c16_3633 : Index := 16#32
  let c0_3634 : Index := 0#32
  ![v9544.toNat, 10, 16, 0]
def k0_off40 (k0_t2 : Fin k0_t2_loop.trips) : Fin 2 → Nat :=
  let c352_3650 : Index := 352#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v9620 : Index := Scalar.indexCast v8633
  ![352, v9620.toNat]
def k0_off41 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3651 : BitVec 32 := 5#32
  let v9623 : BitVec 32 := Scalar.shrsi arg17 c5_i32_3651
  let v9624 : Index := Scalar.indexCast v9623
  let c11_3652 : Index := 11#32
  let c0_3653 : Index := 0#32
  let c0_3654 : Index := 0#32
  ![v9624.toNat, 11, 0, 0]
def k0_off42 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3655 : BitVec 32 := 5#32
  let v9632 : BitVec 32 := Scalar.shrsi arg17 c5_i32_3655
  let v9633 : Index := Scalar.indexCast v9632
  let c11_3656 : Index := 11#32
  let c16_3657 : Index := 16#32
  let c0_3658 : Index := 0#32
  ![v9633.toNat, 11, 16, 0]
def k0_off43 (k0_t2 : Fin k0_t2_loop.trips) : Fin 2 → Nat :=
  let c384_3674 : Index := 384#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v9709 : Index := Scalar.indexCast v8633
  ![384, v9709.toNat]
def k0_off44 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3675 : BitVec 32 := 5#32
  let v9712 : BitVec 32 := Scalar.shrsi arg17 c5_i32_3675
  let v9713 : Index := Scalar.indexCast v9712
  let c12_3676 : Index := 12#32
  let c0_3677 : Index := 0#32
  let c0_3678 : Index := 0#32
  ![v9713.toNat, 12, 0, 0]
def k0_off45 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3679 : BitVec 32 := 5#32
  let v9721 : BitVec 32 := Scalar.shrsi arg17 c5_i32_3679
  let v9722 : Index := Scalar.indexCast v9721
  let c12_3680 : Index := 12#32
  let c16_3681 : Index := 16#32
  let c0_3682 : Index := 0#32
  ![v9722.toNat, 12, 16, 0]
def k0_off46 (k0_t2 : Fin k0_t2_loop.trips) : Fin 2 → Nat :=
  let c416_3698 : Index := 416#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v9798 : Index := Scalar.indexCast v8633
  ![416, v9798.toNat]
def k0_off47 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3699 : BitVec 32 := 5#32
  let v9801 : BitVec 32 := Scalar.shrsi arg17 c5_i32_3699
  let v9802 : Index := Scalar.indexCast v9801
  let c13_3700 : Index := 13#32
  let c0_3701 : Index := 0#32
  let c0_3702 : Index := 0#32
  ![v9802.toNat, 13, 0, 0]
def k0_off48 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3703 : BitVec 32 := 5#32
  let v9810 : BitVec 32 := Scalar.shrsi arg17 c5_i32_3703
  let v9811 : Index := Scalar.indexCast v9810
  let c13_3704 : Index := 13#32
  let c16_3705 : Index := 16#32
  let c0_3706 : Index := 0#32
  ![v9811.toNat, 13, 16, 0]
def k0_off49 (k0_t2 : Fin k0_t2_loop.trips) : Fin 2 → Nat :=
  let c448_3722 : Index := 448#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v9887 : Index := Scalar.indexCast v8633
  ![448, v9887.toNat]
def k0_off50 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3723 : BitVec 32 := 5#32
  let v9890 : BitVec 32 := Scalar.shrsi arg17 c5_i32_3723
  let v9891 : Index := Scalar.indexCast v9890
  let c14_3724 : Index := 14#32
  let c0_3725 : Index := 0#32
  let c0_3726 : Index := 0#32
  ![v9891.toNat, 14, 0, 0]
def k0_off51 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3727 : BitVec 32 := 5#32
  let v9899 : BitVec 32 := Scalar.shrsi arg17 c5_i32_3727
  let v9900 : Index := Scalar.indexCast v9899
  let c14_3728 : Index := 14#32
  let c16_3729 : Index := 16#32
  let c0_3730 : Index := 0#32
  ![v9900.toNat, 14, 16, 0]
def k0_off52 (k0_t2 : Fin k0_t2_loop.trips) : Fin 2 → Nat :=
  let c480_3746 : Index := 480#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v9976 : Index := Scalar.indexCast v8633
  ![480, v9976.toNat]
def k0_off53 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3747 : BitVec 32 := 5#32
  let v9979 : BitVec 32 := Scalar.shrsi arg17 c5_i32_3747
  let v9980 : Index := Scalar.indexCast v9979
  let c15_3748 : Index := 15#32
  let c0_3749 : Index := 0#32
  let c0_3750 : Index := 0#32
  ![v9980.toNat, 15, 0, 0]
def k0_off54 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3751 : BitVec 32 := 5#32
  let v9988 : BitVec 32 := Scalar.shrsi arg17 c5_i32_3751
  let v9989 : Index := Scalar.indexCast v9988
  let c15_3752 : Index := 15#32
  let c16_3753 : Index := 16#32
  let c0_3754 : Index := 0#32
  ![v9989.toNat, 15, 16, 0]
def k0_off55 (k0_t2 : Fin k0_t2_loop.trips) : Fin 2 → Nat :=
  let c512_3770 : Index := 512#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v10065 : Index := Scalar.indexCast v8633
  ![512, v10065.toNat]
def k0_off56 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3771 : BitVec 32 := 5#32
  let v10068 : BitVec 32 := Scalar.shrsi arg17 c5_i32_3771
  let v10069 : Index := Scalar.indexCast v10068
  let c16_3772 : Index := 16#32
  let c0_3773 : Index := 0#32
  let c0_3774 : Index := 0#32
  ![v10069.toNat, 16, 0, 0]
def k0_off57 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3775 : BitVec 32 := 5#32
  let v10077 : BitVec 32 := Scalar.shrsi arg17 c5_i32_3775
  let v10078 : Index := Scalar.indexCast v10077
  let c16_3776 : Index := 16#32
  let c16_3777 : Index := 16#32
  let c0_3778 : Index := 0#32
  ![v10078.toNat, 16, 16, 0]
def k0_off58 (k0_t2 : Fin k0_t2_loop.trips) : Fin 2 → Nat :=
  let c544_3794 : Index := 544#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v10154 : Index := Scalar.indexCast v8633
  ![544, v10154.toNat]
def k0_off59 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3795 : BitVec 32 := 5#32
  let v10157 : BitVec 32 := Scalar.shrsi arg17 c5_i32_3795
  let v10158 : Index := Scalar.indexCast v10157
  let c17_3796 : Index := 17#32
  let c0_3797 : Index := 0#32
  let c0_3798 : Index := 0#32
  ![v10158.toNat, 17, 0, 0]
def k0_off60 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3799 : BitVec 32 := 5#32
  let v10166 : BitVec 32 := Scalar.shrsi arg17 c5_i32_3799
  let v10167 : Index := Scalar.indexCast v10166
  let c17_3800 : Index := 17#32
  let c16_3801 : Index := 16#32
  let c0_3802 : Index := 0#32
  ![v10167.toNat, 17, 16, 0]
def k0_off61 (k0_t2 : Fin k0_t2_loop.trips) : Fin 2 → Nat :=
  let c576_3818 : Index := 576#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v10243 : Index := Scalar.indexCast v8633
  ![576, v10243.toNat]
def k0_off62 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3819 : BitVec 32 := 5#32
  let v10246 : BitVec 32 := Scalar.shrsi arg17 c5_i32_3819
  let v10247 : Index := Scalar.indexCast v10246
  let c18_3820 : Index := 18#32
  let c0_3821 : Index := 0#32
  let c0_3822 : Index := 0#32
  ![v10247.toNat, 18, 0, 0]
def k0_off63 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3823 : BitVec 32 := 5#32
  let v10255 : BitVec 32 := Scalar.shrsi arg17 c5_i32_3823
  let v10256 : Index := Scalar.indexCast v10255
  let c18_3824 : Index := 18#32
  let c16_3825 : Index := 16#32
  let c0_3826 : Index := 0#32
  ![v10256.toNat, 18, 16, 0]
def k0_off64 (k0_t2 : Fin k0_t2_loop.trips) : Fin 2 → Nat :=
  let c608_3842 : Index := 608#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v10332 : Index := Scalar.indexCast v8633
  ![608, v10332.toNat]
def k0_off65 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3843 : BitVec 32 := 5#32
  let v10335 : BitVec 32 := Scalar.shrsi arg17 c5_i32_3843
  let v10336 : Index := Scalar.indexCast v10335
  let c19_3844 : Index := 19#32
  let c0_3845 : Index := 0#32
  let c0_3846 : Index := 0#32
  ![v10336.toNat, 19, 0, 0]
def k0_off66 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3847 : BitVec 32 := 5#32
  let v10344 : BitVec 32 := Scalar.shrsi arg17 c5_i32_3847
  let v10345 : Index := Scalar.indexCast v10344
  let c19_3848 : Index := 19#32
  let c16_3849 : Index := 16#32
  let c0_3850 : Index := 0#32
  ![v10345.toNat, 19, 16, 0]
def k0_off67 (k0_t2 : Fin k0_t2_loop.trips) : Fin 2 → Nat :=
  let c640_3866 : Index := 640#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v10421 : Index := Scalar.indexCast v8633
  ![640, v10421.toNat]
def k0_off68 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3867 : BitVec 32 := 5#32
  let v10424 : BitVec 32 := Scalar.shrsi arg17 c5_i32_3867
  let v10425 : Index := Scalar.indexCast v10424
  let c20_3868 : Index := 20#32
  let c0_3869 : Index := 0#32
  let c0_3870 : Index := 0#32
  ![v10425.toNat, 20, 0, 0]
def k0_off69 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3871 : BitVec 32 := 5#32
  let v10433 : BitVec 32 := Scalar.shrsi arg17 c5_i32_3871
  let v10434 : Index := Scalar.indexCast v10433
  let c20_3872 : Index := 20#32
  let c16_3873 : Index := 16#32
  let c0_3874 : Index := 0#32
  ![v10434.toNat, 20, 16, 0]
def k0_off70 (k0_t2 : Fin k0_t2_loop.trips) : Fin 2 → Nat :=
  let c672_3890 : Index := 672#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v10510 : Index := Scalar.indexCast v8633
  ![672, v10510.toNat]
def k0_off71 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3891 : BitVec 32 := 5#32
  let v10513 : BitVec 32 := Scalar.shrsi arg17 c5_i32_3891
  let v10514 : Index := Scalar.indexCast v10513
  let c21_3892 : Index := 21#32
  let c0_3893 : Index := 0#32
  let c0_3894 : Index := 0#32
  ![v10514.toNat, 21, 0, 0]
def k0_off72 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3895 : BitVec 32 := 5#32
  let v10522 : BitVec 32 := Scalar.shrsi arg17 c5_i32_3895
  let v10523 : Index := Scalar.indexCast v10522
  let c21_3896 : Index := 21#32
  let c16_3897 : Index := 16#32
  let c0_3898 : Index := 0#32
  ![v10523.toNat, 21, 16, 0]
def k0_off73 (k0_t2 : Fin k0_t2_loop.trips) : Fin 2 → Nat :=
  let c704_3914 : Index := 704#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v10599 : Index := Scalar.indexCast v8633
  ![704, v10599.toNat]
def k0_off74 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3915 : BitVec 32 := 5#32
  let v10602 : BitVec 32 := Scalar.shrsi arg17 c5_i32_3915
  let v10603 : Index := Scalar.indexCast v10602
  let c22_3916 : Index := 22#32
  let c0_3917 : Index := 0#32
  let c0_3918 : Index := 0#32
  ![v10603.toNat, 22, 0, 0]
def k0_off75 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3919 : BitVec 32 := 5#32
  let v10611 : BitVec 32 := Scalar.shrsi arg17 c5_i32_3919
  let v10612 : Index := Scalar.indexCast v10611
  let c22_3920 : Index := 22#32
  let c16_3921 : Index := 16#32
  let c0_3922 : Index := 0#32
  ![v10612.toNat, 22, 16, 0]
def k0_off76 (k0_t2 : Fin k0_t2_loop.trips) : Fin 2 → Nat :=
  let c736_3938 : Index := 736#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v10688 : Index := Scalar.indexCast v8633
  ![736, v10688.toNat]
def k0_off77 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3939 : BitVec 32 := 5#32
  let v10691 : BitVec 32 := Scalar.shrsi arg17 c5_i32_3939
  let v10692 : Index := Scalar.indexCast v10691
  let c23_3940 : Index := 23#32
  let c0_3941 : Index := 0#32
  let c0_3942 : Index := 0#32
  ![v10692.toNat, 23, 0, 0]
def k0_off78 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3943 : BitVec 32 := 5#32
  let v10700 : BitVec 32 := Scalar.shrsi arg17 c5_i32_3943
  let v10701 : Index := Scalar.indexCast v10700
  let c23_3944 : Index := 23#32
  let c16_3945 : Index := 16#32
  let c0_3946 : Index := 0#32
  ![v10701.toNat, 23, 16, 0]
def k0_off79 (k0_t2 : Fin k0_t2_loop.trips) : Fin 2 → Nat :=
  let c768_3962 : Index := 768#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v10777 : Index := Scalar.indexCast v8633
  ![768, v10777.toNat]
def k0_off80 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3963 : BitVec 32 := 5#32
  let v10780 : BitVec 32 := Scalar.shrsi arg17 c5_i32_3963
  let v10781 : Index := Scalar.indexCast v10780
  let c24_3964 : Index := 24#32
  let c0_3965 : Index := 0#32
  let c0_3966 : Index := 0#32
  ![v10781.toNat, 24, 0, 0]
def k0_off81 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3967 : BitVec 32 := 5#32
  let v10789 : BitVec 32 := Scalar.shrsi arg17 c5_i32_3967
  let v10790 : Index := Scalar.indexCast v10789
  let c24_3968 : Index := 24#32
  let c16_3969 : Index := 16#32
  let c0_3970 : Index := 0#32
  ![v10790.toNat, 24, 16, 0]
def k0_off82 (k0_t2 : Fin k0_t2_loop.trips) : Fin 2 → Nat :=
  let c800_3986 : Index := 800#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v10866 : Index := Scalar.indexCast v8633
  ![800, v10866.toNat]
def k0_off83 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3987 : BitVec 32 := 5#32
  let v10869 : BitVec 32 := Scalar.shrsi arg17 c5_i32_3987
  let v10870 : Index := Scalar.indexCast v10869
  let c25_3988 : Index := 25#32
  let c0_3989 : Index := 0#32
  let c0_3990 : Index := 0#32
  ![v10870.toNat, 25, 0, 0]
def k0_off84 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_3991 : BitVec 32 := 5#32
  let v10878 : BitVec 32 := Scalar.shrsi arg17 c5_i32_3991
  let v10879 : Index := Scalar.indexCast v10878
  let c25_3992 : Index := 25#32
  let c16_3993 : Index := 16#32
  let c0_3994 : Index := 0#32
  ![v10879.toNat, 25, 16, 0]
def k0_off85 (k0_t2 : Fin k0_t2_loop.trips) : Fin 2 → Nat :=
  let c832_4010 : Index := 832#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v10955 : Index := Scalar.indexCast v8633
  ![832, v10955.toNat]
def k0_off86 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_4011 : BitVec 32 := 5#32
  let v10958 : BitVec 32 := Scalar.shrsi arg17 c5_i32_4011
  let v10959 : Index := Scalar.indexCast v10958
  let c26_4012 : Index := 26#32
  let c0_4013 : Index := 0#32
  let c0_4014 : Index := 0#32
  ![v10959.toNat, 26, 0, 0]
def k0_off87 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_4015 : BitVec 32 := 5#32
  let v10967 : BitVec 32 := Scalar.shrsi arg17 c5_i32_4015
  let v10968 : Index := Scalar.indexCast v10967
  let c26_4016 : Index := 26#32
  let c16_4017 : Index := 16#32
  let c0_4018 : Index := 0#32
  ![v10968.toNat, 26, 16, 0]
def k0_off88 (k0_t2 : Fin k0_t2_loop.trips) : Fin 2 → Nat :=
  let c864_4034 : Index := 864#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v11044 : Index := Scalar.indexCast v8633
  ![864, v11044.toNat]
def k0_off89 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_4035 : BitVec 32 := 5#32
  let v11047 : BitVec 32 := Scalar.shrsi arg17 c5_i32_4035
  let v11048 : Index := Scalar.indexCast v11047
  let c27_4036 : Index := 27#32
  let c0_4037 : Index := 0#32
  let c0_4038 : Index := 0#32
  ![v11048.toNat, 27, 0, 0]
def k0_off90 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_4039 : BitVec 32 := 5#32
  let v11056 : BitVec 32 := Scalar.shrsi arg17 c5_i32_4039
  let v11057 : Index := Scalar.indexCast v11056
  let c27_4040 : Index := 27#32
  let c16_4041 : Index := 16#32
  let c0_4042 : Index := 0#32
  ![v11057.toNat, 27, 16, 0]
def k0_off91 (k0_t2 : Fin k0_t2_loop.trips) : Fin 2 → Nat :=
  let c896_4058 : Index := 896#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v11133 : Index := Scalar.indexCast v8633
  ![896, v11133.toNat]
def k0_off92 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_4059 : BitVec 32 := 5#32
  let v11136 : BitVec 32 := Scalar.shrsi arg17 c5_i32_4059
  let v11137 : Index := Scalar.indexCast v11136
  let c28_4060 : Index := 28#32
  let c0_4061 : Index := 0#32
  let c0_4062 : Index := 0#32
  ![v11137.toNat, 28, 0, 0]
def k0_off93 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_4063 : BitVec 32 := 5#32
  let v11145 : BitVec 32 := Scalar.shrsi arg17 c5_i32_4063
  let v11146 : Index := Scalar.indexCast v11145
  let c28_4064 : Index := 28#32
  let c16_4065 : Index := 16#32
  let c0_4066 : Index := 0#32
  ![v11146.toNat, 28, 16, 0]
def k0_off94 (k0_t2 : Fin k0_t2_loop.trips) : Fin 2 → Nat :=
  let c928_4082 : Index := 928#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v11222 : Index := Scalar.indexCast v8633
  ![928, v11222.toNat]
def k0_off95 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_4083 : BitVec 32 := 5#32
  let v11225 : BitVec 32 := Scalar.shrsi arg17 c5_i32_4083
  let v11226 : Index := Scalar.indexCast v11225
  let c29_4084 : Index := 29#32
  let c0_4085 : Index := 0#32
  let c0_4086 : Index := 0#32
  ![v11226.toNat, 29, 0, 0]
def k0_off96 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_4087 : BitVec 32 := 5#32
  let v11234 : BitVec 32 := Scalar.shrsi arg17 c5_i32_4087
  let v11235 : Index := Scalar.indexCast v11234
  let c29_4088 : Index := 29#32
  let c16_4089 : Index := 16#32
  let c0_4090 : Index := 0#32
  ![v11235.toNat, 29, 16, 0]
def k0_off97 (k0_t2 : Fin k0_t2_loop.trips) : Fin 2 → Nat :=
  let c960_4106 : Index := 960#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v11311 : Index := Scalar.indexCast v8633
  ![960, v11311.toNat]
def k0_off98 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_4107 : BitVec 32 := 5#32
  let v11314 : BitVec 32 := Scalar.shrsi arg17 c5_i32_4107
  let v11315 : Index := Scalar.indexCast v11314
  let c30_4108 : Index := 30#32
  let c0_4109 : Index := 0#32
  let c0_4110 : Index := 0#32
  ![v11315.toNat, 30, 0, 0]
def k0_off99 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_4111 : BitVec 32 := 5#32
  let v11323 : BitVec 32 := Scalar.shrsi arg17 c5_i32_4111
  let v11324 : Index := Scalar.indexCast v11323
  let c30_4112 : Index := 30#32
  let c16_4113 : Index := 16#32
  let c0_4114 : Index := 0#32
  ![v11324.toNat, 30, 16, 0]
def k0_off100 (k0_t2 : Fin k0_t2_loop.trips) : Fin 2 → Nat :=
  let c992_4130 : Index := 992#32
  let c0_i32_3301 : BitVec 32 := 0#32
  let c1_i32_3302 : BitVec 32 := 1#32
  let arg17 : BitVec 32 := Scf.iv c0_i32_3301 c1_i32_3302 k0_t2
  let c128_i32_3384 : BitVec 32 := 128#32
  let v8632 : BitVec 32 := Scalar.muli arg17 c128_i32_3384
  let v8633 : BitVec 32 := v8632
  let v11400 : Index := Scalar.indexCast v8633
  ![992, v11400.toNat]
def k0_off101 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_4131 : BitVec 32 := 5#32
  let v11403 : BitVec 32 := Scalar.shrsi arg17 c5_i32_4131
  let v11404 : Index := Scalar.indexCast v11403
  let c31_4132 : Index := 31#32
  let c0_4133 : Index := 0#32
  let c0_4134 : Index := 0#32
  ![v11404.toNat, 31, 0, 0]
def k0_off102 (k0_t2 : Fin k0_t2_loop.trips) : Fin 4 → Nat :=
  let c0_i32_3301 : BitVec 32 := 0#32
  let c1_i32_3302 : BitVec 32 := 1#32
  let arg17 : BitVec 32 := Scf.iv c0_i32_3301 c1_i32_3302 k0_t2
  let c5_i32_4135 : BitVec 32 := 5#32
  let v11412 : BitVec 32 := Scalar.shrsi arg17 c5_i32_4135
  let v11413 : Index := Scalar.indexCast v11412
  let c31_4136 : Index := 31#32
  let c16_4137 : Index := 16#32
  let c0_4138 : Index := 0#32
  ![v11413.toNat, 31, 16, 0]
def k0_off103 (k0_t2 : Fin k0_t2_loop.trips) : Fin 3 → Nat :=
  let c0_i32_3301 : BitVec 32 := 0#32
  let c1_i32_3302 : BitVec 32 := 1#32
  let arg17 : BitVec 32 := Scf.iv c0_i32_3301 c1_i32_3302 k0_t2
  let v11491 : Index := Scalar.indexCast arg17
  let c0_4158 : Index := 0#32
  let c0_4159 : Index := 0#32
  ![v11491.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x8960 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4480 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8960x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x32x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F]
-- ==== ReferenceIdeal.lean ====
abbrev S256x1x8960 : Shape := ⟨3, ![256, 1, 8960]⟩
abbrev S5120x4480 : Shape := ⟨2, ![5120, 4480]⟩
abbrev S5120x140 : Shape := ⟨2, ![5120, 140]⟩
abbrev S2800 : Shape := ⟨1, ![2800]⟩
abbrev S_ : Shape := ⟨0, ![]⟩
abbrev S8960x16 : Shape := ⟨2, ![8960, 16]⟩
abbrev S16x5120 : Shape := ⟨2, ![16, 5120]⟩
abbrev S2800x256 : Shape := ⟨2, ![2800, 256]⟩
abbrev S2800x1 : Shape := ⟨2, ![2800, 1]⟩
abbrev S4480 : Shape := ⟨1, ![4480]⟩
abbrev S1x4480 : Shape := ⟨2, ![1, 4480]⟩
abbrev S140 : Shape := ⟨1, ![140]⟩
abbrev S140x1 : Shape := ⟨2, ![140, 1]⟩
abbrev S140x4480 : Shape := ⟨2, ![140, 4480]⟩
abbrev S256x8960 : Shape := ⟨2, ![256, 8960]⟩
abbrev S256x4480 : Shape := ⟨2, ![256, 4480]⟩
abbrev S256x16 : Shape := ⟨2, ![256, 16]⟩
abbrev S2560x4480 : Shape := ⟨2, ![2560, 4480]⟩
abbrev S256x2560 : Shape := ⟨2, ![256, 2560]⟩
abbrev S16x2560 : Shape := ⟨2, ![16, 2560]⟩
abbrev S256x5120 : Shape := ⟨2, ![256, 5120]⟩
abbrev S256x1x5120 : Shape := ⟨3, ![256, 1, 5120]⟩

abbrev nBuf : Space → Nat
  | .hbm => 432
  | .vmem => 0
  | .smem => 0
  | _ => 0

abbrev hbmTy0_0 (i : Nat) : BufTy := match i % 128 with
  | 0 => ⟨S256x1x8960, .bf16⟩
  | 1 => ⟨S5120x4480, .i8⟩
  | 2 => ⟨S5120x140, .i8⟩
  | 3 => ⟨S2800, .f32⟩
  | 4 => ⟨S_, .f32⟩
  | 5 => ⟨S8960x16, .bf16⟩
  | 6 => ⟨S16x5120, .bf16⟩
  | 7 => ⟨S5120x140, .i32⟩
  | 8 => ⟨S5120x140, .f32⟩
  | 9 => ⟨S2800x256, .f32⟩
  | 10 => ⟨S2800x1, .f32⟩
  | 11 => ⟨S2800x256, .f32⟩
  | 12 => ⟨S2800x256, .f32⟩
  | 13 => ⟨S2800x256, .f32⟩
  | 14 => ⟨S2800x256, .f32⟩
  | 15 => ⟨S5120x140, .f32⟩
  | 16 => ⟨S5120x140, .bf16⟩
  | 17 => ⟨S4480, .i32⟩
  | 18 => ⟨S1x4480, .i32⟩
  | 19 => ⟨S_, .i32⟩
  | 20 => ⟨S_, .i32⟩
  | 21 => ⟨S1x4480, .i32⟩
  | 22 => ⟨S1x4480, .i32⟩
  | 23 => ⟨S1x4480, .i32⟩
  | 24 => ⟨S_, .i32⟩
  | 25 => ⟨S1x4480, .i32⟩
  | 26 => ⟨S1x4480, .i1⟩
  | 27 => ⟨S1x4480, .i32⟩
  | 28 => ⟨S1x4480, .i32⟩
  | 29 => ⟨S_, .i32⟩
  | 30 => ⟨S1x4480, .i32⟩
  | 31 => ⟨S1x4480, .i1⟩
  | 32 => ⟨S1x4480, .i1⟩
  | 33 => ⟨S_, .i32⟩
  | 34 => ⟨S1x4480, .i32⟩
  | 35 => ⟨S1x4480, .i32⟩
  | 36 => ⟨S1x4480, .i32⟩
  | 37 => ⟨S140, .i32⟩
  | 38 => ⟨S140x1, .i32⟩
  | 39 => ⟨S140x4480, .i32⟩
  | 40 => ⟨S140x4480, .i32⟩
  | 41 => ⟨S140x4480, .i1⟩
  | 42 => ⟨S140x4480, .bf16⟩
  | 43 => ⟨S5120x4480, .f32⟩
  | 44 => ⟨S5120x4480, .bf16⟩
  | 45 => ⟨S256x8960, .bf16⟩
  | 46 => ⟨S256x4480, .bf16⟩
  | 47 => ⟨S256x4480, .bf16⟩
  | 48 => ⟨S256x16, .f32⟩
  | 49 => ⟨S256x16, .bf16⟩
  | 50 => ⟨S2560x4480, .i8⟩
  | 51 => ⟨S2560x4480, .i32⟩
  | 52 => ⟨S2560x4480, .bf16⟩
  | 53 => ⟨S_, .i32⟩
  | 54 => ⟨S2560x4480, .i32⟩
  | 55 => ⟨S2560x4480, .i32⟩
  | 56 => ⟨S_, .i32⟩
  | 57 => ⟨S2560x4480, .i32⟩
  | 58 => ⟨S2560x4480, .i32⟩
  | 59 => ⟨S_, .i32⟩
  | 60 => ⟨S2560x4480, .i32⟩
  | 61 => ⟨S2560x4480, .i32⟩
  | 62 => ⟨S_, .i32⟩
  | 63 => ⟨S2560x4480, .i32⟩
  | 64 => ⟨S2560x4480, .i32⟩
  | 65 => ⟨S_, .i32⟩
  | 66 => ⟨S2560x4480, .i32⟩
  | 67 => ⟨S2560x4480, .i1⟩
  | 68 => ⟨S_, .bf16⟩
  | 69 => ⟨S_, .bf16⟩
  | 70 => ⟨S2560x4480, .bf16⟩
  | 71 => ⟨S2560x4480, .bf16⟩
  | 72 => ⟨S2560x4480, .bf16⟩
  | 73 => ⟨S_, .bf16⟩
  | 74 => ⟨S_, .bf16⟩
  | 75 => ⟨S2560x4480, .bf16⟩
  | 76 => ⟨S2560x4480, .bf16⟩
  | 77 => ⟨S2560x4480, .bf16⟩
  | 78 => ⟨S_, .bf16⟩
  | 79 => ⟨S_, .bf16⟩
  | 80 => ⟨S2560x4480, .bf16⟩
  | 81 => ⟨S2560x4480, .bf16⟩
  | 82 => ⟨S2560x4480, .bf16⟩
  | 83 => ⟨S_, .bf16⟩
  | 84 => ⟨S_, .bf16⟩
  | 85 => ⟨S2560x4480, .bf16⟩
  | 86 => ⟨S2560x4480, .bf16⟩
  | 87 => ⟨S2560x4480, .bf16⟩
  | 88 => ⟨S_, .bf16⟩
  | 89 => ⟨S_, .bf16⟩
  | 90 => ⟨S2560x4480, .bf16⟩
  | 91 => ⟨S2560x4480, .bf16⟩
  | 92 => ⟨S2560x4480, .bf16⟩
  | 93 => ⟨S_, .bf16⟩
  | 94 => ⟨S_, .bf16⟩
  | 95 => ⟨S2560x4480, .bf16⟩
  | 96 => ⟨S2560x4480, .bf16⟩
  | 97 => ⟨S2560x4480, .bf16⟩
  | 98 => ⟨S_, .bf16⟩
  | 99 => ⟨S_, .bf16⟩
  | 100 => ⟨S2560x4480, .bf16⟩
  | 101 => ⟨S2560x4480, .bf16⟩
  | 102 => ⟨S2560x4480, .bf16⟩
  | 103 => ⟨S_, .bf16⟩
  | 104 => ⟨S_, .bf16⟩
  | 105 => ⟨S2560x4480, .bf16⟩
  | 106 => ⟨S2560x4480, .bf16⟩
  | 107 => ⟨S2560x4480, .bf16⟩
  | 108 => ⟨S_, .i32⟩
  | 109 => ⟨S2560x4480, .i32⟩
  | 110 => ⟨S2560x4480, .i32⟩
  | 111 => ⟨S_, .i32⟩
  | 112 => ⟨S2560x4480, .i32⟩
  | 113 => ⟨S2560x4480, .i32⟩
  | 114 => ⟨S_, .i32⟩
  | 115 => ⟨S2560x4480, .i32⟩
  | 116 => ⟨S2560x4480, .i1⟩
  | 117 => ⟨S2560x4480, .bf16⟩
  | 118 => ⟨S2560x4480, .bf16⟩
  | 119 => ⟨S2560x4480, .bf16⟩
  | 120 => ⟨S2560x4480, .bf16⟩
  | 121 => ⟨S_, .i32⟩
  | 122 => ⟨S2560x4480, .i32⟩
  | 123 => ⟨S2560x4480, .i32⟩
  | 124 => ⟨S_, .i32⟩
  | 125 => ⟨S2560x4480, .i32⟩
  | 126 => ⟨S2560x4480, .i32⟩
  | 127 => ⟨S_, .i32⟩
  | _ => ⟨S256x1x8960, .bf16⟩

abbrev hbmTy0_1 (i : Nat) : BufTy := match i % 128 with
  | 0 => ⟨S2560x4480, .i32⟩
  | 1 => ⟨S2560x4480, .i1⟩
  | 2 => ⟨S2560x4480, .bf16⟩
  | 3 => ⟨S2560x4480, .bf16⟩
  | 4 => ⟨S_, .i32⟩
  | 5 => ⟨S2560x4480, .i32⟩
  | 6 => ⟨S2560x4480, .i32⟩
  | 7 => ⟨S_, .i32⟩
  | 8 => ⟨S2560x4480, .i32⟩
  | 9 => ⟨S2560x4480, .i32⟩
  | 10 => ⟨S_, .i32⟩
  | 11 => ⟨S2560x4480, .i32⟩
  | 12 => ⟨S2560x4480, .i1⟩
  | 13 => ⟨S2560x4480, .bf16⟩
  | 14 => ⟨S2560x4480, .bf16⟩
  | 15 => ⟨S_, .i32⟩
  | 16 => ⟨S2560x4480, .i32⟩
  | 17 => ⟨S2560x4480, .i32⟩
  | 18 => ⟨S_, .i32⟩
  | 19 => ⟨S2560x4480, .i32⟩
  | 20 => ⟨S2560x4480, .i32⟩
  | 21 => ⟨S_, .i32⟩
  | 22 => ⟨S2560x4480, .i32⟩
  | 23 => ⟨S2560x4480, .i32⟩
  | 24 => ⟨S_, .i32⟩
  | 25 => ⟨S2560x4480, .i32⟩
  | 26 => ⟨S2560x4480, .i1⟩
  | 27 => ⟨S_, .bf16⟩
  | 28 => ⟨S_, .bf16⟩
  | 29 => ⟨S2560x4480, .bf16⟩
  | 30 => ⟨S2560x4480, .bf16⟩
  | 31 => ⟨S2560x4480, .bf16⟩
  | 32 => ⟨S_, .bf16⟩
  | 33 => ⟨S_, .bf16⟩
  | 34 => ⟨S2560x4480, .bf16⟩
  | 35 => ⟨S2560x4480, .bf16⟩
  | 36 => ⟨S2560x4480, .bf16⟩
  | 37 => ⟨S_, .bf16⟩
  | 38 => ⟨S_, .bf16⟩
  | 39 => ⟨S2560x4480, .bf16⟩
  | 40 => ⟨S2560x4480, .bf16⟩
  | 41 => ⟨S2560x4480, .bf16⟩
  | 42 => ⟨S_, .bf16⟩
  | 43 => ⟨S_, .bf16⟩
  | 44 => ⟨S2560x4480, .bf16⟩
  | 45 => ⟨S2560x4480, .bf16⟩
  | 46 => ⟨S2560x4480, .bf16⟩
  | 47 => ⟨S_, .bf16⟩
  | 48 => ⟨S_, .bf16⟩
  | 49 => ⟨S2560x4480, .bf16⟩
  | 50 => ⟨S2560x4480, .bf16⟩
  | 51 => ⟨S2560x4480, .bf16⟩
  | 52 => ⟨S_, .bf16⟩
  | 53 => ⟨S_, .bf16⟩
  | 54 => ⟨S2560x4480, .bf16⟩
  | 55 => ⟨S2560x4480, .bf16⟩
  | 56 => ⟨S2560x4480, .bf16⟩
  | 57 => ⟨S_, .bf16⟩
  | 58 => ⟨S_, .bf16⟩
  | 59 => ⟨S2560x4480, .bf16⟩
  | 60 => ⟨S2560x4480, .bf16⟩
  | 61 => ⟨S2560x4480, .bf16⟩
  | 62 => ⟨S_, .bf16⟩
  | 63 => ⟨S_, .bf16⟩
  | 64 => ⟨S2560x4480, .bf16⟩
  | 65 => ⟨S2560x4480, .bf16⟩
  | 66 => ⟨S2560x4480, .bf16⟩
  | 67 => ⟨S_, .i32⟩
  | 68 => ⟨S2560x4480, .i32⟩
  | 69 => ⟨S2560x4480, .i32⟩
  | 70 => ⟨S_, .i32⟩
  | 71 => ⟨S2560x4480, .i32⟩
  | 72 => ⟨S2560x4480, .i32⟩
  | 73 => ⟨S_, .i32⟩
  | 74 => ⟨S2560x4480, .i32⟩
  | 75 => ⟨S2560x4480, .i1⟩
  | 76 => ⟨S2560x4480, .bf16⟩
  | 77 => ⟨S2560x4480, .bf16⟩
  | 78 => ⟨S2560x4480, .bf16⟩
  | 79 => ⟨S2560x4480, .bf16⟩
  | 80 => ⟨S_, .i32⟩
  | 81 => ⟨S2560x4480, .i32⟩
  | 82 => ⟨S2560x4480, .i32⟩
  | 83 => ⟨S_, .i32⟩
  | 84 => ⟨S2560x4480, .i32⟩
  | 85 => ⟨S2560x4480, .i32⟩
  | 86 => ⟨S_, .i32⟩
  | 87 => ⟨S2560x4480, .i32⟩
  | 88 => ⟨S2560x4480, .i1⟩
  | 89 => ⟨S2560x4480, .bf16⟩
  | 90 => ⟨S2560x4480, .bf16⟩
  | 91 => ⟨S_, .i32⟩
  | 92 => ⟨S2560x4480, .i32⟩
  | 93 => ⟨S2560x4480, .i32⟩
  | 94 => ⟨S_, .i32⟩
  | 95 => ⟨S2560x4480, .i32⟩
  | 96 => ⟨S2560x4480, .i32⟩
  | 97 => ⟨S_, .i32⟩
  | 98 => ⟨S2560x4480, .i32⟩
  | 99 => ⟨S2560x4480, .i1⟩
  | 100 => ⟨S2560x4480, .bf16⟩
  | 101 => ⟨S2560x4480, .bf16⟩
  | 102 => ⟨S256x2560, .f32⟩
  | 103 => ⟨S256x2560, .f32⟩
  | 104 => ⟨S16x2560, .bf16⟩
  | 105 => ⟨S256x2560, .f32⟩
  | 106 => ⟨S256x2560, .f32⟩
  | 107 => ⟨S_, .f32⟩
  | 108 => ⟨S256x2560, .f32⟩
  | 109 => ⟨S256x2560, .f32⟩
  | 110 => ⟨S256x2560, .f32⟩
  | 111 => ⟨S256x2560, .bf16⟩
  | 112 => ⟨S2560x4480, .i8⟩
  | 113 => ⟨S2560x4480, .i32⟩
  | 114 => ⟨S2560x4480, .bf16⟩
  | 115 => ⟨S_, .i32⟩
  | 116 => ⟨S2560x4480, .i32⟩
  | 117 => ⟨S2560x4480, .i32⟩
  | 118 => ⟨S_, .i32⟩
  | 119 => ⟨S2560x4480, .i32⟩
  | 120 => ⟨S2560x4480, .i32⟩
  | 121 => ⟨S_, .i32⟩
  | 122 => ⟨S2560x4480, .i32⟩
  | 123 => ⟨S2560x4480, .i32⟩
  | 124 => ⟨S_, .i32⟩
  | 125 => ⟨S2560x4480, .i32⟩
  | 126 => ⟨S2560x4480, .i32⟩
  | 127 => ⟨S_, .i32⟩
  | _ => ⟨S256x1x8960, .bf16⟩

abbrev hbmTy0_2 (i : Nat) : BufTy := match i % 128 with
  | 0 => ⟨S2560x4480, .i32⟩
  | 1 => ⟨S2560x4480, .i1⟩
  | 2 => ⟨S_, .bf16⟩
  | 3 => ⟨S_, .bf16⟩
  | 4 => ⟨S2560x4480, .bf16⟩
  | 5 => ⟨S2560x4480, .bf16⟩
  | 6 => ⟨S2560x4480, .bf16⟩
  | 7 => ⟨S_, .bf16⟩
  | 8 => ⟨S_, .bf16⟩
  | 9 => ⟨S2560x4480, .bf16⟩
  | 10 => ⟨S2560x4480, .bf16⟩
  | 11 => ⟨S2560x4480, .bf16⟩
  | 12 => ⟨S_, .bf16⟩
  | 13 => ⟨S_, .bf16⟩
  | 14 => ⟨S2560x4480, .bf16⟩
  | 15 => ⟨S2560x4480, .bf16⟩
  | 16 => ⟨S2560x4480, .bf16⟩
  | 17 => ⟨S_, .bf16⟩
  | 18 => ⟨S_, .bf16⟩
  | 19 => ⟨S2560x4480, .bf16⟩
  | 20 => ⟨S2560x4480, .bf16⟩
  | 21 => ⟨S2560x4480, .bf16⟩
  | 22 => ⟨S_, .bf16⟩
  | 23 => ⟨S_, .bf16⟩
  | 24 => ⟨S2560x4480, .bf16⟩
  | 25 => ⟨S2560x4480, .bf16⟩
  | 26 => ⟨S2560x4480, .bf16⟩
  | 27 => ⟨S_, .bf16⟩
  | 28 => ⟨S_, .bf16⟩
  | 29 => ⟨S2560x4480, .bf16⟩
  | 30 => ⟨S2560x4480, .bf16⟩
  | 31 => ⟨S2560x4480, .bf16⟩
  | 32 => ⟨S_, .bf16⟩
  | 33 => ⟨S_, .bf16⟩
  | 34 => ⟨S2560x4480, .bf16⟩
  | 35 => ⟨S2560x4480, .bf16⟩
  | 36 => ⟨S2560x4480, .bf16⟩
  | 37 => ⟨S_, .bf16⟩
  | 38 => ⟨S_, .bf16⟩
  | 39 => ⟨S2560x4480, .bf16⟩
  | 40 => ⟨S2560x4480, .bf16⟩
  | 41 => ⟨S2560x4480, .bf16⟩
  | 42 => ⟨S_, .i32⟩
  | 43 => ⟨S2560x4480, .i32⟩
  | 44 => ⟨S2560x4480, .i32⟩
  | 45 => ⟨S_, .i32⟩
  | 46 => ⟨S2560x4480, .i32⟩
  | 47 => ⟨S2560x4480, .i32⟩
  | 48 => ⟨S_, .i32⟩
  | 49 => ⟨S2560x4480, .i32⟩
  | 50 => ⟨S2560x4480, .i1⟩
  | 51 => ⟨S2560x4480, .bf16⟩
  | 52 => ⟨S2560x4480, .bf16⟩
  | 53 => ⟨S2560x4480, .bf16⟩
  | 54 => ⟨S2560x4480, .bf16⟩
  | 55 => ⟨S_, .i32⟩
  | 56 => ⟨S2560x4480, .i32⟩
  | 57 => ⟨S2560x4480, .i32⟩
  | 58 => ⟨S_, .i32⟩
  | 59 => ⟨S2560x4480, .i32⟩
  | 60 => ⟨S2560x4480, .i32⟩
  | 61 => ⟨S_, .i32⟩
  | 62 => ⟨S2560x4480, .i32⟩
  | 63 => ⟨S2560x4480, .i1⟩
  | 64 => ⟨S2560x4480, .bf16⟩
  | 65 => ⟨S2560x4480, .bf16⟩
  | 66 => ⟨S_, .i32⟩
  | 67 => ⟨S2560x4480, .i32⟩
  | 68 => ⟨S2560x4480, .i32⟩
  | 69 => ⟨S_, .i32⟩
  | 70 => ⟨S2560x4480, .i32⟩
  | 71 => ⟨S2560x4480, .i32⟩
  | 72 => ⟨S_, .i32⟩
  | 73 => ⟨S2560x4480, .i32⟩
  | 74 => ⟨S2560x4480, .i1⟩
  | 75 => ⟨S2560x4480, .bf16⟩
  | 76 => ⟨S2560x4480, .bf16⟩
  | 77 => ⟨S_, .i32⟩
  | 78 => ⟨S2560x4480, .i32⟩
  | 79 => ⟨S2560x4480, .i32⟩
  | 80 => ⟨S_, .i32⟩
  | 81 => ⟨S2560x4480, .i32⟩
  | 82 => ⟨S2560x4480, .i32⟩
  | 83 => ⟨S_, .i32⟩
  | 84 => ⟨S2560x4480, .i32⟩
  | 85 => ⟨S2560x4480, .i32⟩
  | 86 => ⟨S_, .i32⟩
  | 87 => ⟨S2560x4480, .i32⟩
  | 88 => ⟨S2560x4480, .i1⟩
  | 89 => ⟨S_, .bf16⟩
  | 90 => ⟨S_, .bf16⟩
  | 91 => ⟨S2560x4480, .bf16⟩
  | 92 => ⟨S2560x4480, .bf16⟩
  | 93 => ⟨S2560x4480, .bf16⟩
  | 94 => ⟨S_, .bf16⟩
  | 95 => ⟨S_, .bf16⟩
  | 96 => ⟨S2560x4480, .bf16⟩
  | 97 => ⟨S2560x4480, .bf16⟩
  | 98 => ⟨S2560x4480, .bf16⟩
  | 99 => ⟨S_, .bf16⟩
  | 100 => ⟨S_, .bf16⟩
  | 101 => ⟨S2560x4480, .bf16⟩
  | 102 => ⟨S2560x4480, .bf16⟩
  | 103 => ⟨S2560x4480, .bf16⟩
  | 104 => ⟨S_, .bf16⟩
  | 105 => ⟨S_, .bf16⟩
  | 106 => ⟨S2560x4480, .bf16⟩
  | 107 => ⟨S2560x4480, .bf16⟩
  | 108 => ⟨S2560x4480, .bf16⟩
  | 109 => ⟨S_, .bf16⟩
  | 110 => ⟨S_, .bf16⟩
  | 111 => ⟨S2560x4480, .bf16⟩
  | 112 => ⟨S2560x4480, .bf16⟩
  | 113 => ⟨S2560x4480, .bf16⟩
  | 114 => ⟨S_, .bf16⟩
  | 115 => ⟨S_, .bf16⟩
  | 116 => ⟨S2560x4480, .bf16⟩
  | 117 => ⟨S2560x4480, .bf16⟩
  | 118 => ⟨S2560x4480, .bf16⟩
  | 119 => ⟨S_, .bf16⟩
  | 120 => ⟨S_, .bf16⟩
  | 121 => ⟨S2560x4480, .bf16⟩
  | 122 => ⟨S2560x4480, .bf16⟩
  | 123 => ⟨S2560x4480, .bf16⟩
  | 124 => ⟨S_, .bf16⟩
  | 125 => ⟨S_, .bf16⟩
  | 126 => ⟨S2560x4480, .bf16⟩
  | 127 => ⟨S2560x4480, .bf16⟩
  | _ => ⟨S256x1x8960, .bf16⟩

abbrev hbmTy0_3 (i : Nat) : BufTy := match i % 128 with
  | 0 => ⟨S2560x4480, .bf16⟩
  | 1 => ⟨S_, .i32⟩
  | 2 => ⟨S2560x4480, .i32⟩
  | 3 => ⟨S2560x4480, .i32⟩
  | 4 => ⟨S_, .i32⟩
  | 5 => ⟨S2560x4480, .i32⟩
  | 6 => ⟨S2560x4480, .i32⟩
  | 7 => ⟨S_, .i32⟩
  | 8 => ⟨S2560x4480, .i32⟩
  | 9 => ⟨S2560x4480, .i1⟩
  | 10 => ⟨S2560x4480, .bf16⟩
  | 11 => ⟨S2560x4480, .bf16⟩
  | 12 => ⟨S2560x4480, .bf16⟩
  | 13 => ⟨S2560x4480, .bf16⟩
  | 14 => ⟨S_, .i32⟩
  | 15 => ⟨S2560x4480, .i32⟩
  | 16 => ⟨S2560x4480, .i32⟩
  | 17 => ⟨S_, .i32⟩
  | 18 => ⟨S2560x4480, .i32⟩
  | 19 => ⟨S2560x4480, .i32⟩
  | 20 => ⟨S_, .i32⟩
  | 21 => ⟨S2560x4480, .i32⟩
  | 22 => ⟨S2560x4480, .i1⟩
  | 23 => ⟨S2560x4480, .bf16⟩
  | 24 => ⟨S2560x4480, .bf16⟩
  | 25 => ⟨S_, .i32⟩
  | 26 => ⟨S2560x4480, .i32⟩
  | 27 => ⟨S2560x4480, .i32⟩
  | 28 => ⟨S_, .i32⟩
  | 29 => ⟨S2560x4480, .i32⟩
  | 30 => ⟨S2560x4480, .i32⟩
  | 31 => ⟨S_, .i32⟩
  | 32 => ⟨S2560x4480, .i32⟩
  | 33 => ⟨S2560x4480, .i1⟩
  | 34 => ⟨S2560x4480, .bf16⟩
  | 35 => ⟨S2560x4480, .bf16⟩
  | 36 => ⟨S256x2560, .f32⟩
  | 37 => ⟨S256x2560, .f32⟩
  | 38 => ⟨S16x2560, .bf16⟩
  | 39 => ⟨S256x2560, .f32⟩
  | 40 => ⟨S256x2560, .f32⟩
  | 41 => ⟨S_, .f32⟩
  | 42 => ⟨S256x2560, .f32⟩
  | 43 => ⟨S256x2560, .f32⟩
  | 44 => ⟨S256x2560, .f32⟩
  | 45 => ⟨S256x2560, .bf16⟩
  | 46 => ⟨S256x5120, .bf16⟩
  | 47 => ⟨S256x1x5120, .bf16⟩
  | _ => ⟨S256x1x8960, .bf16⟩

abbrev hbmTy (i : Nat) : BufTy := match i / 128 with
  | 0 => hbmTy0_0 i
  | 1 => hbmTy0_1 i
  | 2 => hbmTy0_2 i
  | 3 => hbmTy0_3 i
  | _ => ⟨S256x1x8960, .bf16⟩

abbrev bufTy : (tb : Table) → Fin (tcTables nBuf tb) → BufTy
  | .hbm, ⟨i, _⟩ => hbmTy i
  | _, _ => ⟨S256x1x8960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_0 : Ref sig .tc := ⟨.hbm, 53, rfl⟩
abbrev main_v29 : Ref sig .tc := ⟨.hbm, 54, rfl⟩
abbrev main_v30 : Ref sig .tc := ⟨.hbm, 55, rfl⟩
abbrev main_c_1 : Ref sig .tc := ⟨.hbm, 56, rfl⟩
abbrev main_v31 : Ref sig .tc := ⟨.hbm, 57, rfl⟩
abbrev main_v32 : Ref sig .tc := ⟨.hbm, 58, rfl⟩
abbrev main_c_2 : Ref sig .tc := ⟨.hbm, 59, rfl⟩
abbrev main_v33 : Ref sig .tc := ⟨.hbm, 60, rfl⟩
abbrev main_v34 : Ref sig .tc := ⟨.hbm, 61, rfl⟩
abbrev main_c_3 : Ref sig .tc := ⟨.hbm, 62, rfl⟩
abbrev main_v35 : Ref sig .tc := ⟨.hbm, 63, rfl⟩
abbrev main_v36 : Ref sig .tc := ⟨.hbm, 64, rfl⟩
abbrev main_c_4 : Ref sig .tc := ⟨.hbm, 65, rfl⟩
abbrev main_v37 : Ref sig .tc := ⟨.hbm, 66, rfl⟩
abbrev main_v38 : Ref sig .tc := ⟨.hbm, 67, rfl⟩
abbrev main_cst : Ref sig .tc := ⟨.hbm, 68, rfl⟩
abbrev main_cst_5 : Ref sig .tc := ⟨.hbm, 69, rfl⟩
abbrev main_call1_v0 : Ref sig .tc := ⟨.hbm, 70, rfl⟩
abbrev main_call1_v1 : Ref sig .tc := ⟨.hbm, 71, rfl⟩
abbrev main_v39 : Ref sig .tc := ⟨.hbm, 72, rfl⟩
abbrev main_cst_6 : Ref sig .tc := ⟨.hbm, 73, rfl⟩
abbrev main_cst_7 : Ref sig .tc := ⟨.hbm, 74, rfl⟩
abbrev main_call2_v0 : Ref sig .tc := ⟨.hbm, 75, rfl⟩
abbrev main_call2_v1 : Ref sig .tc := ⟨.hbm, 76, rfl⟩
abbrev main_v40 : Ref sig .tc := ⟨.hbm, 77, rfl⟩
abbrev main_cst_8 : Ref sig .tc := ⟨.hbm, 78, rfl⟩
abbrev main_cst_9 : Ref sig .tc := ⟨.hbm, 79, rfl⟩
abbrev main_call3_v0 : Ref sig .tc := ⟨.hbm, 80, rfl⟩
abbrev main_call3_v1 : Ref sig .tc := ⟨.hbm, 81, rfl⟩
abbrev main_v41 : Ref sig .tc := ⟨.hbm, 82, rfl⟩
abbrev main_cst_10 : Ref sig .tc := ⟨.hbm, 83, rfl⟩
abbrev main_cst_11 : Ref sig .tc := ⟨.hbm, 84, rfl⟩
abbrev main_call4_v0 : Ref sig .tc := ⟨.hbm, 85, rfl⟩
abbrev main_call4_v1 : Ref sig .tc := ⟨.hbm, 86, rfl⟩
abbrev main_v42 : Ref sig .tc := ⟨.hbm, 87, rfl⟩
abbrev main_cst_12 : Ref sig .tc := ⟨.hbm, 88, rfl⟩
abbrev main_cst_13 : Ref sig .tc := ⟨.hbm, 89, rfl⟩
abbrev main_call5_v0 : Ref sig .tc := ⟨.hbm, 90, rfl⟩
abbrev main_call5_v1 : Ref sig .tc := ⟨.hbm, 91, rfl⟩
abbrev main_v43 : Ref sig .tc := ⟨.hbm, 92, rfl⟩
abbrev main_cst_14 : Ref sig .tc := ⟨.hbm, 93, rfl⟩
abbrev main_cst_15 : Ref sig .tc := ⟨.hbm, 94, rfl⟩
abbrev main_call6_v0 : Ref sig .tc := ⟨.hbm, 95, rfl⟩
abbrev main_call6_v1 : Ref sig .tc := ⟨.hbm, 96, rfl⟩
abbrev main_v44 : Ref sig .tc := ⟨.hbm, 97, rfl⟩
abbrev main_cst_16 : Ref sig .tc := ⟨.hbm, 98, rfl⟩
abbrev main_cst_17 : Ref sig .tc := ⟨.hbm, 99, rfl⟩
abbrev main_call7_v0 : Ref sig .tc := ⟨.hbm, 100, rfl⟩
abbrev main_call7_v1 : Ref sig .tc := ⟨.hbm, 101, rfl⟩
abbrev main_v45 : Ref sig .tc := ⟨.hbm, 102, rfl⟩
abbrev main_cst_18 : Ref sig .tc := ⟨.hbm, 103, rfl⟩
abbrev main_cst_19 : Ref sig .tc := ⟨.hbm, 104, rfl⟩
abbrev main_call8_v0 : Ref sig .tc := ⟨.hbm, 105, rfl⟩
abbrev main_call8_v1 : Ref sig .tc := ⟨.hbm, 106, rfl⟩
abbrev main_v46 : Ref sig .tc := ⟨.hbm, 107, rfl⟩
abbrev main_c_20 : Ref sig .tc := ⟨.hbm, 108, rfl⟩
abbrev main_v47 : Ref sig .tc := ⟨.hbm, 109, rfl⟩
abbrev main_v48 : Ref sig .tc := ⟨.hbm, 110, rfl⟩
abbrev main_c_21 : Ref sig .tc := ⟨.hbm, 111, rfl⟩
abbrev main_v49 : Ref sig .tc := ⟨.hbm, 112, rfl⟩
abbrev main_v50 : Ref sig .tc := ⟨.hbm, 113, rfl⟩
abbrev main_c_22 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_c_23 : Ref sig .tc := ⟨.hbm, 121, rfl⟩
abbrev main_v57 : Ref sig .tc := ⟨.hbm, 122, rfl⟩
abbrev main_v58 : Ref sig .tc := ⟨.hbm, 123, rfl⟩
abbrev main_c_24 : Ref sig .tc := ⟨.hbm, 124, rfl⟩
abbrev main_v59 : Ref sig .tc := ⟨.hbm, 125, rfl⟩
abbrev main_v60 : Ref sig .tc := ⟨.hbm, 126, rfl⟩
abbrev main_c_25 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_c_26 : Ref sig .tc := ⟨.hbm, 132, rfl⟩
abbrev main_v65 : Ref sig .tc := ⟨.hbm, 133, rfl⟩
abbrev main_v66 : Ref sig .tc := ⟨.hbm, 134, rfl⟩
abbrev main_c_27 : Ref sig .tc := ⟨.hbm, 135, rfl⟩
abbrev main_v67 : Ref sig .tc := ⟨.hbm, 136, rfl⟩
abbrev main_v68 : Ref sig .tc := ⟨.hbm, 137, rfl⟩
abbrev main_c_28 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_c_29 : Ref sig .tc := ⟨.hbm, 143, rfl⟩
abbrev main_v73 : Ref sig .tc := ⟨.hbm, 144, rfl⟩
abbrev main_v74 : Ref sig .tc := ⟨.hbm, 145, rfl⟩
abbrev main_c_30 : Ref sig .tc := ⟨.hbm, 146, rfl⟩
abbrev main_v75 : Ref sig .tc := ⟨.hbm, 147, rfl⟩
abbrev main_v76 : Ref sig .tc := ⟨.hbm, 148, rfl⟩
abbrev main_c_31 : Ref sig .tc := ⟨.hbm, 149, rfl⟩
abbrev main_v77 : Ref sig .tc := ⟨.hbm, 150, rfl⟩
abbrev main_v78 : Ref sig .tc := ⟨.hbm, 151, rfl⟩
abbrev main_c_32 : Ref sig .tc := ⟨.hbm, 152, rfl⟩
abbrev main_v79 : Ref sig .tc := ⟨.hbm, 153, rfl⟩
abbrev main_v80 : Ref sig .tc := ⟨.hbm, 154, rfl⟩
abbrev main_cst_33 : Ref sig .tc := ⟨.hbm, 155, rfl⟩
abbrev main_cst_34 : Ref sig .tc := ⟨.hbm, 156, rfl⟩
abbrev main_call16_v0 : Ref sig .tc := ⟨.hbm, 157, rfl⟩
abbrev main_call16_v1 : Ref sig .tc := ⟨.hbm, 158, rfl⟩
abbrev main_v81 : Ref sig .tc := ⟨.hbm, 159, rfl⟩
abbrev main_cst_35 : Ref sig .tc := ⟨.hbm, 160, rfl⟩
abbrev main_cst_36 : Ref sig .tc := ⟨.hbm, 161, rfl⟩
abbrev main_call17_v0 : Ref sig .tc := ⟨.hbm, 162, rfl⟩
abbrev main_call17_v1 : Ref sig .tc := ⟨.hbm, 163, rfl⟩
abbrev main_v82 : Ref sig .tc := ⟨.hbm, 164, rfl⟩
abbrev main_cst_37 : Ref sig .tc := ⟨.hbm, 165, rfl⟩
abbrev main_cst_38 : Ref sig .tc := ⟨.hbm, 166, rfl⟩
abbrev main_call18_v0 : Ref sig .tc := ⟨.hbm, 167, rfl⟩
abbrev main_call18_v1 : Ref sig .tc := ⟨.hbm, 168, rfl⟩
abbrev main_v83 : Ref sig .tc := ⟨.hbm, 169, rfl⟩
abbrev main_cst_39 : Ref sig .tc := ⟨.hbm, 170, rfl⟩
abbrev main_cst_40 : Ref sig .tc := ⟨.hbm, 171, rfl⟩
abbrev main_call19_v0 : Ref sig .tc := ⟨.hbm, 172, rfl⟩
abbrev main_call19_v1 : Ref sig .tc := ⟨.hbm, 173, rfl⟩
abbrev main_v84 : Ref sig .tc := ⟨.hbm, 174, rfl⟩
abbrev main_cst_41 : Ref sig .tc := ⟨.hbm, 175, rfl⟩
abbrev main_cst_42 : Ref sig .tc := ⟨.hbm, 176, rfl⟩
abbrev main_call20_v0 : Ref sig .tc := ⟨.hbm, 177, rfl⟩
abbrev main_call20_v1 : Ref sig .tc := ⟨.hbm, 178, rfl⟩
abbrev main_v85 : Ref sig .tc := ⟨.hbm, 179, rfl⟩
abbrev main_cst_43 : Ref sig .tc := ⟨.hbm, 180, rfl⟩
abbrev main_cst_44 : Ref sig .tc := ⟨.hbm, 181, rfl⟩
abbrev main_call21_v0 : Ref sig .tc := ⟨.hbm, 182, rfl⟩
abbrev main_call21_v1 : Ref sig .tc := ⟨.hbm, 183, rfl⟩
abbrev main_v86 : Ref sig .tc := ⟨.hbm, 184, rfl⟩
abbrev main_cst_45 : Ref sig .tc := ⟨.hbm, 185, rfl⟩
abbrev main_cst_46 : Ref sig .tc := ⟨.hbm, 186, rfl⟩
abbrev main_call22_v0 : Ref sig .tc := ⟨.hbm, 187, rfl⟩
abbrev main_call22_v1 : Ref sig .tc := ⟨.hbm, 188, rfl⟩
abbrev main_v87 : Ref sig .tc := ⟨.hbm, 189, rfl⟩
abbrev main_cst_47 : Ref sig .tc := ⟨.hbm, 190, rfl⟩
abbrev main_cst_48 : Ref sig .tc := ⟨.hbm, 191, rfl⟩
abbrev main_call23_v0 : Ref sig .tc := ⟨.hbm, 192, rfl⟩
abbrev main_call23_v1 : Ref sig .tc := ⟨.hbm, 193, rfl⟩
abbrev main_v88 : Ref sig .tc := ⟨.hbm, 194, rfl⟩
abbrev main_c_49 : Ref sig .tc := ⟨.hbm, 195, rfl⟩
abbrev main_v89 : Ref sig .tc := ⟨.hbm, 196, rfl⟩
abbrev main_v90 : Ref sig .tc := ⟨.hbm, 197, rfl⟩
abbrev main_c_50 : Ref sig .tc := ⟨.hbm, 198, rfl⟩
abbrev main_v91 : Ref sig .tc := ⟨.hbm, 199, rfl⟩
abbrev main_v92 : Ref sig .tc := ⟨.hbm, 200, rfl⟩
abbrev main_c_51 : Ref sig .tc := ⟨.hbm, 201, rfl⟩
abbrev main_v93 : Ref sig .tc := ⟨.hbm, 202, rfl⟩
abbrev main_v94 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_v98 : Ref sig .tc := ⟨.hbm, 207, rfl⟩
abbrev main_c_52 : Ref sig .tc := ⟨.hbm, 208, rfl⟩
abbrev main_v99 : Ref sig .tc := ⟨.hbm, 209, rfl⟩
abbrev main_v100 : Ref sig .tc := ⟨.hbm, 210, rfl⟩
abbrev main_c_53 : Ref sig .tc := ⟨.hbm, 211, rfl⟩
abbrev main_v101 : Ref sig .tc := ⟨.hbm, 212, rfl⟩
abbrev main_v102 : Ref sig .tc := ⟨.hbm, 213, rfl⟩
abbrev main_c_54 : Ref sig .tc := ⟨.hbm, 214, rfl⟩
abbrev main_v103 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_c_55 : Ref sig .tc := ⟨.hbm, 219, rfl⟩
abbrev main_v107 : Ref sig .tc := ⟨.hbm, 220, rfl⟩
abbrev main_v108 : Ref sig .tc := ⟨.hbm, 221, rfl⟩
abbrev main_c_56 : Ref sig .tc := ⟨.hbm, 222, rfl⟩
abbrev main_v109 : Ref sig .tc := ⟨.hbm, 223, rfl⟩
abbrev main_v110 : Ref sig .tc := ⟨.hbm, 224, rfl⟩
abbrev main_c_57 : Ref sig .tc := ⟨.hbm, 225, rfl⟩
abbrev main_v111 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_v115 : Ref sig .tc := ⟨.hbm, 230, rfl⟩
abbrev main_v116 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_cst_58 : Ref sig .tc := ⟨.hbm, 235, rfl⟩
abbrev main_v120 : Ref sig .tc := ⟨.hbm, 236, rfl⟩
abbrev main_v121 : Ref sig .tc := ⟨.hbm, 237, rfl⟩
abbrev main_v122 : Ref sig .tc := ⟨.hbm, 238, rfl⟩
abbrev main_v123 : Ref sig .tc := ⟨.hbm, 239, rfl⟩
abbrev main_v124 : Ref sig .tc := ⟨.hbm, 240, rfl⟩
abbrev main_v125 : Ref sig .tc := ⟨.hbm, 241, rfl⟩
abbrev main_v126 : Ref sig .tc := ⟨.hbm, 242, rfl⟩
abbrev main_c_59 : Ref sig .tc := ⟨.hbm, 243, rfl⟩
abbrev main_v127 : Ref sig .tc := ⟨.hbm, 244, rfl⟩
abbrev main_v128 : Ref sig .tc := ⟨.hbm, 245, rfl⟩
abbrev main_c_60 : Ref sig .tc := ⟨.hbm, 246, rfl⟩
abbrev main_v129 : Ref sig .tc := ⟨.hbm, 247, rfl⟩
abbrev main_v130 : Ref sig .tc := ⟨.hbm, 248, rfl⟩
abbrev main_c_61 : Ref sig .tc := ⟨.hbm, 249, rfl⟩
abbrev main_v131 : Ref sig .tc := ⟨.hbm, 250, rfl⟩
abbrev main_v132 : Ref sig .tc := ⟨.hbm, 251, rfl⟩
abbrev main_c_62 : Ref sig .tc := ⟨.hbm, 252, rfl⟩
abbrev main_v133 : Ref sig .tc := ⟨.hbm, 253, rfl⟩
abbrev main_v134 : Ref sig .tc := ⟨.hbm, 254, rfl⟩
abbrev main_c_63 : Ref sig .tc := ⟨.hbm, 255, rfl⟩
abbrev main_v135 : Ref sig .tc := ⟨.hbm, 256, rfl⟩
abbrev main_v136 : Ref sig .tc := ⟨.hbm, 257, rfl⟩
abbrev main_cst_64 : Ref sig .tc := ⟨.hbm, 258, rfl⟩
abbrev main_cst_65 : Ref sig .tc := ⟨.hbm, 259, rfl⟩
abbrev main_call31_v0 : Ref sig .tc := ⟨.hbm, 260, rfl⟩
abbrev main_call31_v1 : Ref sig .tc := ⟨.hbm, 261, rfl⟩
abbrev main_v137 : Ref sig .tc := ⟨.hbm, 262, rfl⟩
abbrev main_cst_66 : Ref sig .tc := ⟨.hbm, 263, rfl⟩
abbrev main_cst_67 : Ref sig .tc := ⟨.hbm, 264, rfl⟩
abbrev main_call32_v0 : Ref sig .tc := ⟨.hbm, 265, rfl⟩
abbrev main_call32_v1 : Ref sig .tc := ⟨.hbm, 266, rfl⟩
abbrev main_v138 : Ref sig .tc := ⟨.hbm, 267, rfl⟩
abbrev main_cst_68 : Ref sig .tc := ⟨.hbm, 268, rfl⟩
abbrev main_cst_69 : Ref sig .tc := ⟨.hbm, 269, rfl⟩
abbrev main_call33_v0 : Ref sig .tc := ⟨.hbm, 270, rfl⟩
abbrev main_call33_v1 : Ref sig .tc := ⟨.hbm, 271, rfl⟩
abbrev main_v139 : Ref sig .tc := ⟨.hbm, 272, rfl⟩
abbrev main_cst_70 : Ref sig .tc := ⟨.hbm, 273, rfl⟩
abbrev main_cst_71 : Ref sig .tc := ⟨.hbm, 274, rfl⟩
abbrev main_call34_v0 : Ref sig .tc := ⟨.hbm, 275, rfl⟩
abbrev main_call34_v1 : Ref sig .tc := ⟨.hbm, 276, rfl⟩
abbrev main_v140 : Ref sig .tc := ⟨.hbm, 277, rfl⟩
abbrev main_cst_72 : Ref sig .tc := ⟨.hbm, 278, rfl⟩
abbrev main_cst_73 : Ref sig .tc := ⟨.hbm, 279, rfl⟩
abbrev main_call35_v0 : Ref sig .tc := ⟨.hbm, 280, rfl⟩
abbrev main_call35_v1 : Ref sig .tc := ⟨.hbm, 281, rfl⟩
abbrev main_v141 : Ref sig .tc := ⟨.hbm, 282, rfl⟩
abbrev main_cst_74 : Ref sig .tc := ⟨.hbm, 283, rfl⟩
abbrev main_cst_75 : Ref sig .tc := ⟨.hbm, 284, rfl⟩
abbrev main_call36_v0 : Ref sig .tc := ⟨.hbm, 285, rfl⟩
abbrev main_call36_v1 : Ref sig .tc := ⟨.hbm, 286, rfl⟩
abbrev main_v142 : Ref sig .tc := ⟨.hbm, 287, rfl⟩
abbrev main_cst_76 : Ref sig .tc := ⟨.hbm, 288, rfl⟩
abbrev main_cst_77 : Ref sig .tc := ⟨.hbm, 289, rfl⟩
abbrev main_call37_v0 : Ref sig .tc := ⟨.hbm, 290, rfl⟩
abbrev main_call37_v1 : Ref sig .tc := ⟨.hbm, 291, rfl⟩
abbrev main_v143 : Ref sig .tc := ⟨.hbm, 292, rfl⟩
abbrev main_cst_78 : Ref sig .tc := ⟨.hbm, 293, rfl⟩
abbrev main_cst_79 : Ref sig .tc := ⟨.hbm, 294, rfl⟩
abbrev main_call38_v0 : Ref sig .tc := ⟨.hbm, 295, rfl⟩
abbrev main_call38_v1 : Ref sig .tc := ⟨.hbm, 296, rfl⟩
abbrev main_v144 : Ref sig .tc := ⟨.hbm, 297, rfl⟩
abbrev main_c_80 : Ref sig .tc := ⟨.hbm, 298, rfl⟩
abbrev main_v145 : Ref sig .tc := ⟨.hbm, 299, rfl⟩
abbrev main_v146 : Ref sig .tc := ⟨.hbm, 300, rfl⟩
abbrev main_c_81 : Ref sig .tc := ⟨.hbm, 301, rfl⟩
abbrev main_v147 : Ref sig .tc := ⟨.hbm, 302, rfl⟩
abbrev main_v148 : Ref sig .tc := ⟨.hbm, 303, rfl⟩
abbrev main_c_82 : Ref sig .tc := ⟨.hbm, 304, rfl⟩
abbrev main_v149 : Ref sig .tc := ⟨.hbm, 305, rfl⟩
abbrev main_v150 : Ref sig .tc := ⟨.hbm, 306, rfl⟩
abbrev main_v151 : Ref sig .tc := ⟨.hbm, 307, rfl⟩
abbrev main_v152 : Ref sig .tc := ⟨.hbm, 308, rfl⟩
abbrev main_v153 : Ref sig .tc := ⟨.hbm, 309, rfl⟩
abbrev main_v154 : Ref sig .tc := ⟨.hbm, 310, rfl⟩
abbrev main_c_83 : Ref sig .tc := ⟨.hbm, 311, rfl⟩
abbrev main_v155 : Ref sig .tc := ⟨.hbm, 312, rfl⟩
abbrev main_v156 : Ref sig .tc := ⟨.hbm, 313, rfl⟩
abbrev main_c_84 : Ref sig .tc := ⟨.hbm, 314, rfl⟩
abbrev main_v157 : Ref sig .tc := ⟨.hbm, 315, rfl⟩
abbrev main_v158 : Ref sig .tc := ⟨.hbm, 316, rfl⟩
abbrev main_c_85 : Ref sig .tc := ⟨.hbm, 317, rfl⟩
abbrev main_v159 : Ref sig .tc := ⟨.hbm, 318, rfl⟩
abbrev main_v160 : Ref sig .tc := ⟨.hbm, 319, rfl⟩
abbrev main_v161 : Ref sig .tc := ⟨.hbm, 320, rfl⟩
abbrev main_v162 : Ref sig .tc := ⟨.hbm, 321, rfl⟩
abbrev main_c_86 : Ref sig .tc := ⟨.hbm, 322, rfl⟩
abbrev main_v163 : Ref sig .tc := ⟨.hbm, 323, rfl⟩
abbrev main_v164 : Ref sig .tc := ⟨.hbm, 324, rfl⟩
abbrev main_c_87 : Ref sig .tc := ⟨.hbm, 325, rfl⟩
abbrev main_v165 : Ref sig .tc := ⟨.hbm, 326, rfl⟩
abbrev main_v166 : Ref sig .tc := ⟨.hbm, 327, rfl⟩
abbrev main_c_88 : Ref sig .tc := ⟨.hbm, 328, rfl⟩
abbrev main_v167 : Ref sig .tc := ⟨.hbm, 329, rfl⟩
abbrev main_v168 : Ref sig .tc := ⟨.hbm, 330, rfl⟩
abbrev main_v169 : Ref sig .tc := ⟨.hbm, 331, rfl⟩
abbrev main_v170 : Ref sig .tc := ⟨.hbm, 332, rfl⟩
abbrev main_c_89 : Ref sig .tc := ⟨.hbm, 333, rfl⟩
abbrev main_v171 : Ref sig .tc := ⟨.hbm, 334, rfl⟩
abbrev main_v172 : Ref sig .tc := ⟨.hbm, 335, rfl⟩
abbrev main_c_90 : Ref sig .tc := ⟨.hbm, 336, rfl⟩
abbrev main_v173 : Ref sig .tc := ⟨.hbm, 337, rfl⟩
abbrev main_v174 : Ref sig .tc := ⟨.hbm, 338, rfl⟩
abbrev main_c_91 : Ref sig .tc := ⟨.hbm, 339, rfl⟩
abbrev main_v175 : Ref sig .tc := ⟨.hbm, 340, rfl⟩
abbrev main_v176 : Ref sig .tc := ⟨.hbm, 341, rfl⟩
abbrev main_c_92 : Ref sig .tc := ⟨.hbm, 342, rfl⟩
abbrev main_v177 : Ref sig .tc := ⟨.hbm, 343, rfl⟩
abbrev main_v178 : Ref sig .tc := ⟨.hbm, 344, rfl⟩
abbrev main_cst_93 : Ref sig .tc := ⟨.hbm, 345, rfl⟩
abbrev main_cst_94 : Ref sig .tc := ⟨.hbm, 346, rfl⟩
abbrev main_call46_v0 : Ref sig .tc := ⟨.hbm, 347, rfl⟩
abbrev main_call46_v1 : Ref sig .tc := ⟨.hbm, 348, rfl⟩
abbrev main_v179 : Ref sig .tc := ⟨.hbm, 349, rfl⟩
abbrev main_cst_95 : Ref sig .tc := ⟨.hbm, 350, rfl⟩
abbrev main_cst_96 : Ref sig .tc := ⟨.hbm, 351, rfl⟩
abbrev main_call47_v0 : Ref sig .tc := ⟨.hbm, 352, rfl⟩
abbrev main_call47_v1 : Ref sig .tc := ⟨.hbm, 353, rfl⟩
abbrev main_v180 : Ref sig .tc := ⟨.hbm, 354, rfl⟩
abbrev main_cst_97 : Ref sig .tc := ⟨.hbm, 355, rfl⟩
abbrev main_cst_98 : Ref sig .tc := ⟨.hbm, 356, rfl⟩
abbrev main_call48_v0 : Ref sig .tc := ⟨.hbm, 357, rfl⟩
abbrev main_call48_v1 : Ref sig .tc := ⟨.hbm, 358, rfl⟩
abbrev main_v181 : Ref sig .tc := ⟨.hbm, 359, rfl⟩
abbrev main_cst_99 : Ref sig .tc := ⟨.hbm, 360, rfl⟩
abbrev main_cst_100 : Ref sig .tc := ⟨.hbm, 361, rfl⟩
abbrev main_call49_v0 : Ref sig .tc := ⟨.hbm, 362, rfl⟩
abbrev main_call49_v1 : Ref sig .tc := ⟨.hbm, 363, rfl⟩
abbrev main_v182 : Ref sig .tc := ⟨.hbm, 364, rfl⟩
abbrev main_cst_101 : Ref sig .tc := ⟨.hbm, 365, rfl⟩
abbrev main_cst_102 : Ref sig .tc := ⟨.hbm, 366, rfl⟩
abbrev main_call50_v0 : Ref sig .tc := ⟨.hbm, 367, rfl⟩
abbrev main_call50_v1 : Ref sig .tc := ⟨.hbm, 368, rfl⟩
abbrev main_v183 : Ref sig .tc := ⟨.hbm, 369, rfl⟩
abbrev main_cst_103 : Ref sig .tc := ⟨.hbm, 370, rfl⟩
abbrev main_cst_104 : Ref sig .tc := ⟨.hbm, 371, rfl⟩
abbrev main_call51_v0 : Ref sig .tc := ⟨.hbm, 372, rfl⟩
abbrev main_call51_v1 : Ref sig .tc := ⟨.hbm, 373, rfl⟩
abbrev main_v184 : Ref sig .tc := ⟨.hbm, 374, rfl⟩
abbrev main_cst_105 : Ref sig .tc := ⟨.hbm, 375, rfl⟩
abbrev main_cst_106 : Ref sig .tc := ⟨.hbm, 376, rfl⟩
abbrev main_call52_v0 : Ref sig .tc := ⟨.hbm, 377, rfl⟩
abbrev main_call52_v1 : Ref sig .tc := ⟨.hbm, 378, rfl⟩
abbrev main_v185 : Ref sig .tc := ⟨.hbm, 379, rfl⟩
abbrev main_cst_107 : Ref sig .tc := ⟨.hbm, 380, rfl⟩
abbrev main_cst_108 : Ref sig .tc := ⟨.hbm, 381, rfl⟩
abbrev main_call53_v0 : Ref sig .tc := ⟨.hbm, 382, rfl⟩
abbrev main_call53_v1 : Ref sig .tc := ⟨.hbm, 383, rfl⟩
abbrev main_v186 : Ref sig .tc := ⟨.hbm, 384, rfl⟩
abbrev main_c_109 : Ref sig .tc := ⟨.hbm, 385, rfl⟩
abbrev main_v187 : Ref sig .tc := ⟨.hbm, 386, rfl⟩
abbrev main_v188 : Ref sig .tc := ⟨.hbm, 387, rfl⟩
abbrev main_c_110 : Ref sig .tc := ⟨.hbm, 388, rfl⟩
abbrev main_v189 : Ref sig .tc := ⟨.hbm, 389, rfl⟩
abbrev main_v190 : Ref sig .tc := ⟨.hbm, 390, rfl⟩
abbrev main_c_111 : Ref sig .tc := ⟨.hbm, 391, rfl⟩
abbrev main_v191 : Ref sig .tc := ⟨.hbm, 392, rfl⟩
abbrev main_v192 : Ref sig .tc := ⟨.hbm, 393, rfl⟩
abbrev main_v193 : Ref sig .tc := ⟨.hbm, 394, rfl⟩
abbrev main_v194 : Ref sig .tc := ⟨.hbm, 395, rfl⟩
abbrev main_v195 : Ref sig .tc := ⟨.hbm, 396, rfl⟩
abbrev main_v196 : Ref sig .tc := ⟨.hbm, 397, rfl⟩
abbrev main_c_112 : Ref sig .tc := ⟨.hbm, 398, rfl⟩
abbrev main_v197 : Ref sig .tc := ⟨.hbm, 399, rfl⟩
abbrev main_v198 : Ref sig .tc := ⟨.hbm, 400, rfl⟩
abbrev main_c_113 : Ref sig .tc := ⟨.hbm, 401, rfl⟩
abbrev main_v199 : Ref sig .tc := ⟨.hbm, 402, rfl⟩
abbrev main_v200 : Ref sig .tc := ⟨.hbm, 403, rfl⟩
abbrev main_c_114 : Ref sig .tc := ⟨.hbm, 404, rfl⟩
abbrev main_v201 : Ref sig .tc := ⟨.hbm, 405, rfl⟩
abbrev main_v202 : Ref sig .tc := ⟨.hbm, 406, rfl⟩
abbrev main_v203 : Ref sig .tc := ⟨.hbm, 407, rfl⟩
abbrev main_v204 : Ref sig .tc := ⟨.hbm, 408, rfl⟩
abbrev main_c_115 : Ref sig .tc := ⟨.hbm, 409, rfl⟩
abbrev main_v205 : Ref sig .tc := ⟨.hbm, 410, rfl⟩
abbrev main_v206 : Ref sig .tc := ⟨.hbm, 411, rfl⟩
abbrev main_c_116 : Ref sig .tc := ⟨.hbm, 412, rfl⟩
abbrev main_v207 : Ref sig .tc := ⟨.hbm, 413, rfl⟩
abbrev main_v208 : Ref sig .tc := ⟨.hbm, 414, rfl⟩
abbrev main_c_117 : Ref sig .tc := ⟨.hbm, 415, rfl⟩
abbrev main_v209 : Ref sig .tc := ⟨.hbm, 416, rfl⟩
abbrev main_v210 : Ref sig .tc := ⟨.hbm, 417, rfl⟩
abbrev main_v211 : Ref sig .tc := ⟨.hbm, 418, rfl⟩
abbrev main_v212 : Ref sig .tc := ⟨.hbm, 419, rfl⟩
abbrev main_v213 : Ref sig .tc := ⟨.hbm, 420, rfl⟩
abbrev main_v214 : Ref sig .tc := ⟨.hbm, 421, rfl⟩
abbrev main_v215 : Ref sig .tc := ⟨.hbm, 422, rfl⟩
abbrev main_v216 : Ref sig .tc := ⟨.hbm, 423, rfl⟩
abbrev main_v217 : Ref sig .tc := ⟨.hbm, 424, rfl⟩
abbrev main_cst_118 : Ref sig .tc := ⟨.hbm, 425, rfl⟩
abbrev main_v218 : Ref sig .tc := ⟨.hbm, 426, rfl⟩
abbrev main_v219 : Ref sig .tc := ⟨.hbm, 427, rfl⟩
abbrev main_v220 : Ref sig .tc := ⟨.hbm, 428, rfl⟩
abbrev main_v221 : Ref sig .tc := ⟨.hbm, 429, rfl⟩
abbrev main_v222 : Ref sig .tc := ⟨.hbm, 430, rfl⟩
abbrev main_v223 : Ref sig .tc := ⟨.hbm, 431, rfl⟩

abbrev nD : Nat := 1
abbrev τ : Topo := Topo.v7x

variable {F : FTy → Type} [FloatOps F]
-- ==== Proof.BitsBodyAny.lean ====
/- One run of the kernel's body at any grid point, with nothing said of what it computes: the input windows are handed
   back as they were, the output window and the scratch buffers at some contents. -/
module

public import proofs.«01_k».proof.Proof.Gen.Kernel.Frame
public import proofs.«01_k».proof.Proof.Gen.Kernel.Loops
public import proofs.«01_k».proof.Proof.Gen.Kernel.Points

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Kernel.Run

open Cert.Kernel Cert.Kernel.Gen

variable {F : FTy → Type} [BitOps F]

/-- No loop variants: the loops are counted. -/
abbrev 𝒱₀ : Variants := Variants.none

variable (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole)

/-- What the tile loop touches: the input block at its contents, the tile and transpose scratches at any. -/
abbrev TripAny (X2 : BufTy.Contents (Elt F) arg2.view.ty) : sProp (MT nD τ sig Unit (Elt F) ℕ (UR sig nD τ) ℕ) :=
  iprop((arg2.view.loc (c : Thread nD τ) ↦[arg2.view.set]{fullShare} X2) ∗ (∃ f : BufTy.Contents (Elt F) arg10.view.ty, arg10.view.loc (c : Thread nD τ) ↦[arg10.view.set]{fullShare} f) ∗ (∃ f : BufTy.Contents (Elt F) arg13.view.ty, arg13.view.loc (c : Thread nD τ) ↦[arg13.view.set]{fullShare} f))

/-- One trip of the tile loop keeps `TripAny`. -/
theorem tripAny (k0_h1 : k0_cond1 i = 1#1) (X2 : BufTy.Contents (Elt F) arg2.view.ty) (k : Fin k0_t1_loop.trips) :
    TripAny c arg2 arg10 arg13 X2
      ⊢ wp frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k PUnit.unit)
          (fun _ => TripAny c arg2 arg10 arg13 X2) := by
  have hk : k.val < 35 := Nat.lt_of_lt_of_le k.isLt k0_t1_abs.2.1
  unfold k0_t1_body
  iintro ⟨H2, ⟨%f10, H10⟩, ⟨%f13, H13⟩⟩
  sl_exec
  sl_step
  isplitl [H2]; · iexact H2
  isplitl [H10]; · iexists _; iexact H10
  iexists _; iexact H13

/-- The tile loop's invariant: `TripAny`. -/
@[sl_loop] def loopAny (k0_h1 : k0_cond1 i = 1#1) (X2 : BufTy.Contents (Elt F) arg2.view.ty) :
    LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 where
  inv := fun _ _ => TripAny c arg2 arg10 arg13 X2
  step := fun k _ => tripAny c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X2 k

/-- What the body touches: the eight input windows at their contents, the output window and the seven scratches at any. -/
abbrev BodyAny (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) : sProp (MT nD τ sig Unit (Elt F) ℕ (UR sig nD τ) ℕ) :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt F) arg9.view.ty, arg9.view.loc (c : Thread nD τ) ↦[arg9.view.set]{fullShare} f) ∗ (∃ f : BufTy.Contents (Elt F) arg10.view.ty, arg10.view.loc (c : Thread nD τ) ↦[arg10.view.set]{fullShare} f) ∗ (∃ f : BufTy.Contents (Elt F) arg11.view.ty, arg11.view.loc (c : Thread nD τ) ↦[arg11.view.set]{fullShare} f) ∗ (∃ f : BufTy.Contents (Elt F) arg12.view.ty, arg12.view.loc (c : Thread nD τ) ↦[arg12.view.set]{fullShare} f) ∗ (∃ f : BufTy.Contents (Elt F) arg13.view.ty, arg13.view.loc (c : Thread nD τ) ↦[arg13.view.set]{fullShare} f) ∗ (∃ f : BufTy.Contents (Elt F) arg14.view.ty, arg14.view.loc (c : Thread nD τ) ↦[arg14.view.set]{fullShare} f) ∗ (∃ f : BufTy.Contents (Elt F) arg15.view.ty, arg15.view.loc (c : Thread nD τ) ↦[arg15.view.set]{fullShare} f) ∗ (∃ f : BufTy.Contents (Elt F) arg16.view.ty, arg16.view.loc (c : Thread nD τ) ↦[arg16.view.set]{fullShare} f))

set_option maxHeartbeats 0 in
/-- The body at a point past the first keeps `BodyAny`. -/
theorem bodyAny_later (hc : ¬ k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    BodyAny c arg1 arg2 arg3 arg4 arg5 arg6 arg7 arg8 arg9 arg10 arg11 arg12 arg13 arg14 arg15 arg16 X1 X2 X3 X4 X5 X6 X7 X8
      ⊢ wp frame (wpE (defs₀ (F := F)) 𝒱₀ (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => BodyAny c arg1 arg2 arg3 arg4 arg5 arg6 arg7 arg8 arg9 arg10 arg11 arg12 arg13 arg14 arg15 arg16 X1 X2 X3 X4 X5 X6 X7 X8) := by
  simp only [cc0__body_eq_skeleton]; unfold cc0__body_skel
  iintro ⟨H1, H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := sl_exact hc)
  sl_step
  sl_close

set_option maxHeartbeats 0 in
/-- The body at the first point keeps `BodyAny`. -/
theorem bodyAny_first (hc : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    BodyAny c arg1 arg2 arg3 arg4 arg5 arg6 arg7 arg8 arg9 arg10 arg11 arg12 arg13 arg14 arg15 arg16 X1 X2 X3 X4 X5 X6 X7 X8
      ⊢ wp frame (wpE (defs₀ (F := F)) 𝒱₀ (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => BodyAny c arg1 arg2 arg3 arg4 arg5 arg6 arg7 arg8 arg9 arg10 arg11 arg12 arg13 arg14 arg15 arg16 X1 X2 X3 X4 X5 X6 X7 X8) := by
  simp only [cc0__body_eq_skeleton]; unfold cc0__body_skel
  iintro ⟨H1, H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := sl_exact hc)
  sl_step
  sl_close

end Cert.Kernel.Run

end
-- ==== Proof.BitsFrame.lean ====
/- The frame of the printed kernel: every run ends, nothing faults, the arguments end unchanged. The body's triple is
   BitsBodyAny.lean's; the output window is forgotten, so nothing is said of the result here. -/
module

public import proofs.«01_k».proof.Proof.BitsBodyAny
public import Idealize.ShloMosaic.Lib.Pipeline.FrameSuffix

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation BodyObligationLoose cellOf)

namespace Cert.Kernel.Run

open Cert.Kernel Cert.Kernel.Gen

variable {F : FTy → Type} [BitOps F]

variable (m : (ℓ : Loc nD τ sig) → Buf (Elt F) ℓ) (ρ : Dev nD → PrngReg)

/-- The proof data: each input's block stays in its buffer (the clipped window's beside anything), the scratches are at some
    contents throughout, the output's buffer is not described. -/
def datA : (p : Fin 1) → (c : Dev nD) → Dat τ (Elt F) Unit ℕ (UR sig nD τ) ℕ (cfgs p) c := fun _ c =>
  { A := fun w => V m c (Pipeline.arrRef spec0 w)
    after := fun w => match w with
      | 0 => fun t => iblk m c 0 t
      | 1 => fun t => iblk m c 1 t
      | 2 => fun t => iblk m c 2 t
      | 3 => fun t => (cfg0.win 3).fill (cfg0.grid.coords t) (fun _ => Classical.arbitrary _) (iblk m c 3 t)
      | 4 => fun t => iblk m c 4 t
      | 5 => fun t => iblk m c 5 t
      | 6 => fun t => iblk m c 6 t
      | 7 => fun t => iblk m c 7 t
      | 8 => fun _ _ => Classical.arbitrary _
    Φ := fun _ => Pipeline.ΦA spec0 c
    q := fun _ => fullShare
    owed := fun _ => 0 }

/-- The output window is the forgotten one. -/
def fgt : Fin cfg0.W → Bool := fun w => match w with
  | 8 => true
  | _ => false

/-- Window 0 before a point's body: its block. -/
theorem before_0 (c : Dev nD) (t : Fin cfg0.N) (d) : (datA m 0 c).before 0 t d = iblk m c 0 t :=
  before0_0_of m (datA m 0 c) rfl (fun _ => rfl) t d
/-- Window 1 before a point's body: its block. -/
theorem before_1 (c : Dev nD) (t : Fin cfg0.N) (d) : (datA m 0 c).before 1 t d = iblk m c 1 t :=
  before0_1_of m (datA m 0 c) rfl (fun _ => rfl) t d
/-- Window 2 before a point's body: its block. -/
theorem before_2 (c : Dev nD) (t : Fin cfg0.N) (d) : (datA m 0 c).before 2 t d = iblk m c 2 t :=
  before0_2_of m (datA m 0 c) rfl (fun _ => rfl) t d
/-- Window 4 before a point's body: its block. -/
theorem before_4 (c : Dev nD) (t : Fin cfg0.N) (d) : (datA m 0 c).before 4 t d = iblk m c 4 t :=
  before0_4_of m (datA m 0 c) rfl (fun _ => rfl) t d
/-- Window 5 before a point's body: its block. -/
theorem before_5 (c : Dev nD) (t : Fin cfg0.N) (d) : (datA m 0 c).before 5 t d = iblk m c 5 t :=
  before0_5_of m (datA m 0 c) rfl (fun _ => rfl) t d
/-- Window 6 before a point's body: its block. -/
theorem before_6 (c : Dev nD) (t : Fin cfg0.N) (d) : (datA m 0 c).before 6 t d = iblk m c 6 t :=
  before0_6_of m (datA m 0 c) rfl (fun _ => rfl) t d
/-- Window 7 before a point's body: its block. -/
theorem before_7 (c : Dev nD) (t : Fin cfg0.N) (d) : (datA m 0 c).before 7 t d = iblk m c 7 t :=
  before0_7_of m (datA m 0 c) rfl (fun _ => rfl) t d
/-- Window 3 before a point's body: its block where there is one, anything beyond. -/
theorem before_3 (c : Dev nD) (t : Fin cfg0.N) (d) :
    (datA m 0 c).before 3 t d = (cfg0.win 3).fill (cfg0.grid.coords t) d (iblk m c 3 t) := by
  unfold Dat.before
  rw [if_pos (fetch0_3 t)]
  rfl

/-- The invariant opened: the seven scratches at some contents, the generator register. -/
theorem PhiA_eq (c : Dev nD) :
    (Pipeline.ΦA (Val := Elt F) (U := UR sig nD τ) spec0 c : sProp (MT nD τ sig Unit (Elt F) ℕ (UR sig nD τ) ℕ))
      = iprop(iprop((∃ f, (Memref.whole cc0_scratch0).view.loc (c : Thread nD τ) ↦[(Memref.whole cc0_scratch0).view.set]{fullShare} f) ∗ (∃ f, (Memref.whole cc0_scratch1).view.loc (c : Thread nD τ) ↦[(Memref.whole cc0_scratch1).view.set]{fullShare} f) ∗ (∃ f, (Memref.whole cc0_scratch2).view.loc (c : Thread nD τ) ↦[(Memref.whole cc0_scratch2).view.set]{fullShare} f) ∗ (∃ f, (Memref.whole cc0_scratch3).view.loc (c : Thread nD τ) ↦[(Memref.whole cc0_scratch3).view.set]{fullShare} f) ∗ (∃ f, (Memref.whole cc0_scratch4).view.loc (c : Thread nD τ) ↦[(Memref.whole cc0_scratch4).view.set]{fullShare} f) ∗ (∃ f, (Memref.whole cc0_scratch5).view.loc (c : Thread nD τ) ↦[(Memref.whole cc0_scratch5).view.set]{fullShare} f) ∗ (∃ f, (Memref.whole cc0_scratch6).view.loc (c : Thread nD τ) ↦[(Memref.whole cc0_scratch6).view.set]{fullShare} f)) ∗ (∃ r, prngReg c r)) := by
  unfold Pipeline.ΦA; rw [scopedRest0_eq]
  simp only [Memref.view_whole, View.set_whole]; try rfl

set_option maxHeartbeats 0 in
/-- The body at a point, between what the pipeline hands it and what it takes back. -/
theorem sound_body (c : Dev nD) (t : Fin cfg0.N) :
    iprop(Pipeline.ΦA spec0 c ∗ (datA m 0 c).owesAt () t.castSucc ∗ (∃ d, owns (c : Thread nD τ) (win0_0.stage (cfg0.slots t 0)) fullShare ((datA m 0 c).before 0 t d)) ∗ (∃ d, owns (c : Thread nD τ) (win0_1.stage (cfg0.slots t 1)) fullShare ((datA m 0 c).before 1 t d)) ∗ (∃ d, owns (c : Thread nD τ) (win0_2.stage (cfg0.slots t 2)) fullShare ((datA m 0 c).before 2 t d)) ∗ (∃ d, owns (c : Thread nD τ) (win0_3.stage (cfg0.slots t 3)) fullShare ((datA m 0 c).before 3 t d)) ∗ (∃ d, owns (c : Thread nD τ) (win0_4.stage (cfg0.slots t 4)) fullShare ((datA m 0 c).before 4 t d)) ∗ (∃ d, owns (c : Thread nD τ) (win0_5.stage (cfg0.slots t 5)) fullShare ((datA m 0 c).before 5 t d)) ∗ (∃ d, owns (c : Thread nD τ) (win0_6.stage (cfg0.slots t 6)) fullShare ((datA m 0 c).before 6 t d)) ∗ (∃ d, owns (c : Thread nD τ) (win0_7.stage (cfg0.slots t 7)) fullShare ((datA m 0 c).before 7 t d)) ∗ (∃ X, owns (c : Thread nD τ) (win0_8.stage (cfg0.slots t 8)) fullShare X))
      ⊢ wp frame (wpE (defs₀ (F := F)) 𝒱₀ (c : Thread nD τ) none) Set.univ (bodyAt0 t)
        (fun _ => iprop(Pipeline.ΦA spec0 c ∗ (datA m 0 c).owesAt () t.castSucc ∗ owns (c : Thread nD τ) (win0_0.stage (cfg0.slots t 0)) fullShare ((datA m 0 c).after 0 t) ∗ owns (c : Thread nD τ) (win0_1.stage (cfg0.slots t 1)) fullShare ((datA m 0 c).after 1 t) ∗ owns (c : Thread nD τ) (win0_2.stage (cfg0.slots t 2)) fullShare ((datA m 0 c).after 2 t) ∗ (∃ d, owns (c : Thread nD τ) (win0_3.stage (cfg0.slots t 3)) fullShare ((cfg0.win 3).fill (cfg0.grid.coords t) d ((cfg0.win 3).cut (cfg0.grid.coords t) ((datA m 0 c).after 3 t)))) ∗ owns (c : Thread nD τ) (win0_4.stage (cfg0.slots t 4)) fullShare ((datA m 0 c).after 4 t) ∗ owns (c : Thread nD τ) (win0_5.stage (cfg0.slots t 5)) fullShare ((datA m 0 c).after 5 t) ∗ owns (c : Thread nD τ) (win0_6.stage (cfg0.slots t 6)) fullShare ((datA m 0 c).after 6 t) ∗ owns (c : Thread nD τ) (win0_7.stage (cfg0.slots t 7)) fullShare ((datA m 0 c).after 7 t) ∗ (∃ X, owns (c : Thread nD τ) (win0_8.stage (cfg0.slots t 8)) fullShare X))) := by
  unfold bodyAt0
  simp only [before_0, before_1, before_2, before_3, before_4, before_5, before_6, before_7]
  rw [PhiA_eq]
  unfold owns
  iintro ⟨⟨⟨S0, S1, S2, S3, S4, S5, S6⟩, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩⟩
  iapply (wp_wand_r Idealize.ShloMosaic.frame (wpE (defs₀ (F := F)) 𝒱₀ (c : Thread nD τ) none) Set.univ)
  isplitl [S0 S1 S2 S3 S4 S5 S6 H0 H1 H2 H3 H4 H5 H6 H7 H8]
  · by_cases hc : k0_cond1 (grid0.coords t) = 1#1
    · iapply (bodyAny_first (F := F) c (grid0.coords t) _ _ _ _ _ _ _ _ _ _ _ _ _ _ _ _ _ _ _ _ _ _ _ _ _ _ _ _ _ _ _ _ hc f0 f1 f2 f3 f4 f5 f6 f7)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [S0]; · iexact S0
      isplitl [S1]; · iexact S1
      isplitl [S2]; · iexact S2
      isplitl [S3]; · iexact S3
      isplitl [S4]; · iexact S4
      isplitl [S5]; · iexact S5
      iexact S6
    · iapply (bodyAny_later (F := F) c (grid0.coords t) _ _ _ _ _ _ _ _ _ _ _ _ _ _ _ _ _ _ _ _ _ _ _ _ _ _ _ _ _ _ _ _ hc f0 f1 f2 f3 f4 f5 f6 f7)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [S0]; · iexact S0
      isplitl [S1]; · iexact S1
      isplitl [S2]; · iexact S2
      isplitl [S3]; · iexact S3
      isplitl [S4]; · iexact S4
      isplitl [S5]; · iexact S5
      iexact S6
  · iintro %_ ⟨H0, H1, H2, H3, H4, H5, H6, H7, ⟨%f8', H8⟩, S0, S1, S2, S3, S4, S5, S6⟩
    isplitl [S0 S1 S2 S3 S4 S5 S6 Hr]
    · isplitr [Hr]
      · isplitl [S0]; · iexact S0
        isplitl [S1]; · iexact S1
        isplitl [S2]; · iexact S2
        isplitl [S3]; · iexact S3
        isplitl [S4]; · iexact S4
        isplitl [S5]; · iexact S5
        iexact S6
      · iexact Hr
    isplitl [Ho]; · iexact Ho
    isplitl [H0]
    · iexists f0; isplitr; · ipureintro; exact h0
      iexact H0
    isplitl [H1]
    · iexists f1; isplitr; · ipureintro; exact h1
      iexact H1
    isplitl [H2]
    · iexists f2; isplitr; · ipureintro; exact h2
      iexact H2
    isplitl [H3]
    · iexists d3; iexists f3; isplitr; · ipureintro; rw [h3]; exact congrArg _ ((cfg0.win 3).cut_fill _ _ _).symm
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    iexists _; iexists f8'; isplitr; · ipureintro; rfl
    iexact H8

/-- The call of the body at a point is the body at that point. -/
theorem defs₀_row (t : Fin cfg0.N) : defs₀ (F := F) .tc cfg0.body (cfg0.bodyArgs t (cfg0.slots t)) = bodyAt0 t := by
  unfold defs₀; rw [Defs.onTc_tc]

set_option maxHeartbeats 0 in
/-- The body keeps what the pipeline asks of it, at every point. -/
theorem body_obligation (c : Dev nD) : BodyObligationLoose (datA m 0 c) (defs₀ (F := F)) 𝒱₀ () Set.univ fgt := by
  intro t
  rw [bigSep_W0, bigSep_W0, defs₀_row]
  exact triple_restated (sound_body m c t) rfl .rfl fun _ => .rfl

/-- What the host operation after the region writes. -/
abbrev tailWrites : Finset (Ref sig .tc) := {main_v5}

/-- What the operations after the call write is among `tailWrites`. -/
theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  by_contra hne
  exact StableHlo.devRef_ne_of_ne (fun h => hne (by rw [h]; exact Finset.mem_singleton_self _)) hb

/-- The frame: every run ends with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun r hq => ⟨fun c => have h := hq.1; ⟨
      ((h c).2 main_arg0 (Finset.mem_sdiff.mpr ⟨Pipeline.mem_restRefs_of main_arg0 (by decide) (by decide), by decide⟩)).trans (V_main_arg0 m c),
      ((congrFun (((datA m 0 c).toRForget fgt).ArrAt_in 2 rfl _) _).mp ((h c).1 2)).trans (V_main_arg1 m c),
      ((congrFun (((datA m 0 c).toRForget fgt).ArrAt_in 3 rfl _) _).mp ((h c).1 3)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((congrFun (((datA m 0 c).toRForget fgt).ArrAt_in 5 rfl _) _).mp ((h c).1 5)).trans (V_main_arg5 m c),
      ((congrFun (((datA m 0 c).toRForget fgt).ArrAt_in 6 rfl _) _).mp ((h c).1 6)).trans (V_main_arg6 m c)⟩, hq.2⟩)
    (Pipeline.θ_run_frame_around_T_forget cfgs (datA m) 0 launch0 defs₀ 𝒱₀ fgt tailWrites m ρ (main (F := F))
      (hbody := body_obligation m)
      (hshare := fun c w => by unfold Dat.share; split <;> rfl)
      (howed := fun _ _ => rfl) (V₀ := V0 m) (opss := [hostOps1]) (hsub := sfx_sub) (hfresh := sfx_fresh) (hkeep := sfx_keeps)
      (hT := tail_writes) (hmain := hmain m 𝒱₀) (hA := fun _ _ => rfl) (hΦ := fun _ _ => rfl)
      (Q' := fun r => Pipeline.RDat.FramePostR (cfgs 0) (fun c => (datA m 0 c).toRForget fgt) tailWrites (fun c b => V0 m c (Proc.devRef .tc b)) r
        ∧ r.2.sem = fun _ => 0) (hQ' := fun _ h => h))

end Cert.Kernel.Run

end
-- ==== Proof.WsDefs.lean ====
/- One trip of the weight loop: the weight tiles it unpacks, scales and stores, and the accumulator it leaves. -/
module

public import proofs.«01_k».proof.Proof.Gen.KernelIdeal.Frame
public import proofs.«01_k».proof.Proof.Gen.KernelIdeal.Loops
public import proofs.«01_k».proof.Proof.Gen.KernelIdeal.Points
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen

variable {F : FTy → Type} [FloatOps F]

/-- No loop variants: the loops are counted. -/
abbrev 𝒱₀ : Variants := Variants.none

open ValueIdx

/-- The nibbles of a block of packed weights: 0 the high ones, 1 the low ones. -/
def nibT (w : Vec F S32x128 .i8) : Fin 2 → IVec S32x128 8
  | 0 => k0_pay475 (k0_pay472 w)
  | 1 => k0_pay480 (k0_pay472 w)

/-- The bytes of the bf16 values of the rows of one parity, from the low and high bytes of every row's value. -/
def mixT (v8318 : IVec S32x128 1) (lo hi : IVec S32x128 8) : Fin 2 → IVec S32x128 8
  | 0 => select v8318 (bitcast S32x128 8 (shli (bitcast S8x128 32 hi bitcasts_S32x128_w8_S8x128_w32) (broadcast S8x128 8#32)) bitcasts_S8x128_w32_S32x128_w8) lo
  | 1 => select v8318 hi (bitcast S32x128 8 (shrui (bitcast S8x128 32 lo bitcasts_S32x128_w8_S8x128_w32) (broadcast S8x128 8#32)) bitcasts_S8x128_w32_S32x128_w8)

/-- The weight tile of nibble half `nib` (0 the high nibbles) and row parity `eo` from a block `w` of packed weights and a block `a` of
    scales, `si` the lanes the scales are gathered at. -/
def wsTile (v8311 v8313 : IVec S32x128 8) (v8318 : IVec S32x128 1) (si : IVec S16x128 32) (w : Vec F S32x128 .i8) (a : Vec F S1x1x16x128 .bf16)
    (nib eo : Fin 2) : FVec F S16x128 .bf16 :=
  shapeCast S16x128 (mulf (bitcastToFloat .bf16 (bitcast S16x128 16 (bitcast S8x128 32
    (mixT v8318 (k0_pay481 v8311 (nibT w nib)) (k0_pay482 v8313 (nibT w nib)) eo) bitcasts_S32x128_w8_S8x128_w32) bitcasts_S8x128_w32_S16x128_w16))
    (k0_pay473 si a)) shapeCasts_S16x128_S16x128

/-- The block of packed weights of row group `R` and tile `k`. -/
def wLoad (W : S1024x4480.Idx → Elt F .i8) (k : Fin 35) (R : Fin 32) : Vec F S32x128 .i8 :=
  fun x => W (ix2 ⟨32 * R.val + (x 0).val, by have := R.isLt; have : (x 0).val < 32 := (x 0).isLt; show _ < 1024; omega⟩
    ⟨128 * k.val + (x 1).val, by have := k.isLt; have : (x 1).val < 128 := (x 1).isLt; show _ < 4480; omega⟩)

/-- The block of scales of row group `R`, parity `eo` and tile `k`. -/
def aLoad (A : S2x32x32x128.Idx → Elt F .bf16) (k : Fin 35) (R : Fin 32) (eo : Fin 2) : Vec F S1x1x16x128 .bf16 :=
  fun x => A (ix4 ⟨k.val / 32, by have := k.isLt; show _ < 2; omega⟩ R
    ⟨16 * eo.val + (x 2).val, by have := eo.isLt; have : (x 2).val < 16 := (x 2).isLt; show _ < 32; omega⟩ (x 3))

/-- The weight scratch after trip `k`'s stores. -/
def wsC (v8311 v8313 : IVec S32x128 8) (v8318 : IVec S32x128 1) (si : IVec S16x128 32) (W : S1024x4480.Idx → Elt F .i8)
    (A : S2x32x32x128.Idx → Elt F .bf16) (k : Fin 35) : S1024x256.Idx → Elt F .bf16 := fun y =>
  have h0 : (y 0).val < 1024 := (y 0).isLt
  have h1 : (y 1).val < 256 := (y 1).isLt
  wsTile v8311 v8313 v8318 si (wLoad W k ⟨(y 0).val / 32, by omega⟩) (aLoad A k ⟨(y 0).val / 32, by omega⟩ ⟨(y 0).val % 32 / 16, by omega⟩)
    ⟨(y 1).val / 128, by omega⟩ ⟨(y 0).val % 32 / 16, by omega⟩ (ix2 ⟨(y 0).val % 16, by show _ < 16; omega⟩ ⟨(y 1).val % 128, by show _ < 128; omega⟩)

/-- A load of a block of packed weights. -/
theorem wLoad_eq {arg3 : Memref sig .tc .vmem S1024x4480 .i8} (X3 : BufTy.Contents (Elt F) arg3.view.ty) (k : Fin 35) (R : Fin 32) {off : Fin 2 → ℕ} (inb)
    (h : off = ![32 * R.val, 128 * k.val]) :
    View.readAt (Elt F) arg3.view (Rect.unit (s := S1024x4480) off S32x128.size inb).toLoadRect X3 = wLoad (arg3.view.read (Elt F) X3) k R := by
  subst h
  funext x
  refine congrArg (arg3.view.read (Elt F) X3) (funext fun a => Fin.ext ?_)
  fin_cases a <;> (show _ + 1 * _ = _; rw [Nat.one_mul]; rfl)

/-- A load of a block of scales. -/
theorem aLoad_eq {arg11 : Memref sig .tc .vmem S2x32x32x128 .bf16} (X11 : BufTy.Contents (Elt F) arg11.view.ty) (k : Fin 35) (R : Fin 32) (eo : Fin 2) {off : Fin 4 → ℕ} (inb)
    (h : off = ![k.val / 32, R.val, 16 * eo.val, 0]) :
    View.readAt (Elt F) arg11.view (Rect.unit (s := S2x32x32x128) off S1x1x16x128.size inb).toLoadRect X11 = aLoad (arg11.view.read (Elt F) X11) k R eo := by
  subst h
  funext x
  refine congrArg (arg11.view.read (Elt F) X11) (funext fun a => Fin.ext ?_)
  have e0 : (x 0).val = 0 := by have : (x 0).val < 1 := (x 0).isLt; omega
  have e1 : (x 1).val = 0 := by have : (x 1).val < 1 := (x 1).isLt; omega
  fin_cases a
  · show _ + 1 * (x 0).val = _; rw [e0]; rfl
  · show _ + 1 * (x 1).val = _; rw [e1]; rfl
  · show _ + 1 * _ = _; rw [Nat.one_mul]; rfl
  · show 0 + 1 * _ = _; rw [Nat.one_mul, Nat.zero_add]; rfl

/-- The column offset of tile `k`'s weights. -/
theorem colOff_eq (k : Fin 35) : BitVec.toNat (Scalar.indexCast (Scalar.muli (Scf.iv 0#32 1#32 k.val) 128#32)) = 128 * k.val := by
  revert k; decide +kernel

/-- The lane block of tile `k`'s scales. -/
theorem scaleOff_eq (k : Fin 35) : BitVec.toNat (Scalar.indexCast (Scalar.shrsi (Scf.iv 0#32 1#32 k.val) 5#32)) = k.val / 32 := by
  revert k; decide +kernel

/-- Each store of a trip writes its block of `wsC`. -/
theorem wsPiece {arg3 : Memref sig .tc .vmem S1024x4480 .i8} {arg11 : Memref sig .tc .vmem S2x32x32x128 .bf16}
    (v8311 v8313 : IVec S32x128 8) (v8318 : IVec S32x128 1) (si : IVec S16x128 32)
    (X3 : BufTy.Contents (Elt F) arg3.view.ty) (X11 : BufTy.Contents (Elt F) arg11.view.ty) (k : ℕ) (hk : k < 35) (R : Fin 32) (nib eo : Fin 2)
    (ow oa oe o0 o1 : ℕ) (inbw inba inb) (hw : ow = 32 * R.val) (ha : oa = R.val) (he : oe = 16 * eo.val)
    (h0 : o0 = 32 * R.val + 16 * eo.val) (h1 : o1 = 128 * nib.val)
    (x : (Rect.unit (s := S1024x256) ![o0, o1] ![16, 128] inb).shape.Idx) :
    wsTile v8311 v8313 v8318 si
        (View.readAt (Elt F) arg3.view (Rect.unit (s := S1024x4480)
          ![ow, BitVec.toNat (Scalar.indexCast (Scalar.muli (Scf.iv 0#32 1#32 k) 128#32))] ![32, 128] inbw).toLoadRect X3)
        (View.readAt (Elt F) arg11.view (Rect.unit (s := S2x32x32x128)
          ![BitVec.toNat (Scalar.indexCast (Scalar.shrsi (Scf.iv 0#32 1#32 k) 5#32)), oa, oe, 0] ![1, 1, 16, 128] inba).toLoadRect X11) nib eo x
      = wsC v8311 v8313 v8318 si (arg3.view.read (Elt F) X3) (arg11.view.read (Elt F) X11) ⟨k, hk⟩
          ((Rect.unit (s := S1024x256) ![o0, o1] ![16, 128] inb).emb x) := by
  subst hw ha he h0 h1
  have ew := wLoad_eq X3 ⟨k, hk⟩ R inbw (by rw [colOff_eq ⟨k, hk⟩])
  have ea := aLoad_eq X11 ⟨k, hk⟩ R eo inba (by rw [scaleOff_eq ⟨k, hk⟩])
  refine (congrArg (fun w => wsTile v8311 v8313 v8318 si w _ nib eo x) ew).trans ((congrArg (fun w => wsTile v8311 v8313 v8318 si _ w nib eo x) ea).trans ?_)
  have hR := R.isLt; have hn := nib.isLt; have he := eo.isLt
  have x0 : (x 0).val < 16 := (x 0).isLt
  have x1 : (x 1).val < 128 := (x 1).isLt
  have y0 : ((Rect.unit (s := S1024x256) ![32 * R.val + 16 * eo.val, 128 * nib.val] ![16, 128] inb).emb x 0).val = 32 * R.val + 16 * eo.val + (x 0).val := by
    show _ + 1 * _ = _; rw [Nat.one_mul]; rfl
  have y1 : ((Rect.unit (s := S1024x256) ![32 * R.val + 16 * eo.val, 128 * nib.val] ![16, 128] inb).emb x 1).val = 128 * nib.val + (x 1).val := by
    show _ + 1 * _ = _; rw [Nat.one_mul]; rfl
  generalize (Rect.unit (s := S1024x256) ![32 * R.val + 16 * eo.val, 128 * nib.val] ![16, 128] inb).emb x = y at y0 y1
  unfold wsC
  have eR : (⟨(y 0).val / 32, by omega⟩ : Fin 32) = R := Fin.ext (by show (y 0).val / 32 = _; omega)
  have ee : (⟨(y 0).val % 32 / 16, by omega⟩ : Fin 2) = eo := Fin.ext (by show (y 0).val % 32 / 16 = _; omega)
  have en : (⟨(y 1).val / 128, by omega⟩ : Fin 2) = nib := Fin.ext (by show (y 1).val / 128 = _; omega)
  simp only [eR, ee, en]
  refine congrArg _ (funext fun a => Fin.ext ?_)
  fin_cases a
  · show (x 0).val = (y 0).val % 16; omega
  · show (x 1).val = (y 1).val % 128; omega

end Cert.KernelIdeal.Val

end
-- ==== Proof.WsTrip.lean ====
/- One trip of the weight loop: the weight tiles it unpacks, scales and stores, and the accumulator it leaves. -/
module

public import proofs.«01_k».proof.Proof.WsDefs
public import proofs.«01_k».proof.Proof.Gen.KernelIdeal.Frame
public import proofs.«01_k».proof.Proof.Gen.KernelIdeal.Loops
public import proofs.«01_k».proof.Proof.Gen.KernelIdeal.Points
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen

variable {F : FTy → Type} [FloatOps F]

variable (c : Dev nD) (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (k0_h1 : k0_cond1 i = 1#1) (v8311 : IVec S32x128 8) (v8313 : IVec S32x128 8) (v8318 : IVec S32x128 1) (c0_i32_3301 : BitVec 32) (c35_i32 : BitVec 32)

/-- What one trip of the weight loop touches: packed weights, tile scratch, scales, the weight scratch at any contents, the
    accumulator. -/
abbrev TripW (X3 : BufTy.Contents (Elt F) arg3.view.ty) (X10 : BufTy.Contents (Elt F) arg10.view.ty) (X11 : BufTy.Contents (Elt F) arg11.view.ty) (f16 : BufTy.Contents (Elt F) arg16.view.ty) : sProp (MT nD τ sig Unit (Elt F) ℕ (UR sig nD τ) ℕ) :=
  iprop((arg3.view.loc (c : Thread nD τ) ↦[arg3.view.set]{fullShare} X3) ∗ (arg10.view.loc (c : Thread nD τ) ↦[arg10.view.set]{fullShare} X10) ∗ (arg11.view.loc (c : Thread nD τ) ↦[arg11.view.set]{fullShare} X11)
    ∗ (∃ f15 : BufTy.Contents (Elt F) arg15.view.ty, arg15.view.loc (c : Thread nD τ) ↦[arg15.view.set]{fullShare} f15) ∗ (arg16.view.loc (c : Thread nD τ) ↦[arg16.view.set]{fullShare} f16))

/-- One trip of the weight loop, run: the pieces it writes into the accumulator. -/
@[irreducible] def tripW (X3 : BufTy.Contents (Elt F) arg3.view.ty) (X10 : BufTy.Contents (Elt F) arg10.view.ty) (X11 : BufTy.Contents (Elt F) arg11.view.ty) (k : Fin k0_t2_loop.trips) :
    { L16 : BufTy.Contents (Elt F) arg16.view.ty → List (View.Piece (Elt F) S1024x256 .f32) //
        ∀ f16, TripW c arg3 arg10 arg11 arg15 arg16 X3 X10 X11 f16
          ⊢ wp frame (wpE (defs₀ (F := F)) 𝒱₀ (c : Thread nD τ) none) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v8311 v8313 v8318 c0_i32_3301 c35_i32 k PUnit.unit)
            (fun _ => TripW c arg3 arg10 arg11 arg15 arg16 X3 X10 X11 (arg16.view.writes (Elt F) f16 (L16 f16))) } := by
  have hk : k.val < 35 := Nat.lt_of_lt_of_le k.isLt k0_t2_abs.2.1
  refine ⟨?_, fun f16 => ?run⟩
  case run =>
    unfold k0_t2_body
    iintro ⟨H3, H10, H11, ⟨%f15, H15⟩, H16⟩
    sl_exec
    sl_step
    sl_close

end Cert.KernelIdeal.Val

end
-- ==== Proof.IdealBodyAny.lean ====
/- One run of the kernel's body at any grid point, with nothing said of what it computes: the input windows are handed
   back as they were, the output window and the scratch buffers at some contents. -/
module

public import proofs.«01_k».proof.Proof.WsTrip
public import proofs.«01_k».proof.Proof.Gen.KernelIdeal.Frame
public import proofs.«01_k».proof.Proof.Gen.KernelIdeal.Loops
public import proofs.«01_k».proof.Proof.Gen.KernelIdeal.Points

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Run

open Cert.KernelIdeal Cert.KernelIdeal.Gen

variable {F : FTy → Type} [FloatOps F]

/-- No loop variants: the loops are counted. -/
abbrev 𝒱₀ : Variants := Variants.none

variable (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole)

/-- What the tile loop touches: the input block at its contents, the tile and transpose scratches at any. -/
abbrev TripAny (X2 : BufTy.Contents (Elt F) arg2.view.ty) : sProp (MT nD τ sig Unit (Elt F) ℕ (UR sig nD τ) ℕ) :=
  iprop((arg2.view.loc (c : Thread nD τ) ↦[arg2.view.set]{fullShare} X2) ∗ (∃ f : BufTy.Contents (Elt F) arg10.view.ty, arg10.view.loc (c : Thread nD τ) ↦[arg10.view.set]{fullShare} f) ∗ (∃ f : BufTy.Contents (Elt F) arg13.view.ty, arg13.view.loc (c : Thread nD τ) ↦[arg13.view.set]{fullShare} f))

/-- One trip of the tile loop keeps `TripAny`. -/
theorem tripAny (k0_h1 : k0_cond1 i = 1#1) (X2 : BufTy.Contents (Elt F) arg2.view.ty) (k : Fin k0_t1_loop.trips) :
    TripAny c arg2 arg10 arg13 X2
      ⊢ wp frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k PUnit.unit)
          (fun _ => TripAny c arg2 arg10 arg13 X2) := by
  have hk : k.val < 35 := Nat.lt_of_lt_of_le k.isLt k0_t1_abs.2.1
  unfold k0_t1_body
  iintro ⟨H2, ⟨%f10, H10⟩, ⟨%f13, H13⟩⟩
  sl_exec
  sl_step
  isplitl [H2]; · iexact H2
  isplitl [H10]; · iexists _; iexact H10
  iexists _; iexact H13

/-- The tile loop's invariant: `TripAny`. -/
@[sl_loop] def loopAny (k0_h1 : k0_cond1 i = 1#1) (X2 : BufTy.Contents (Elt F) arg2.view.ty) :
    LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 where
  inv := fun _ _ => TripAny c arg2 arg10 arg13 X2
  step := fun k _ => tripAny c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X2 k

/-- The weight loop's invariant: packed weights, tiles and scales as they are, the weight and accumulator scratches at any
    contents. -/
@[sl_loop] def loopAny2 (v8311 : IVec S32x128 8) (v8313 : IVec S32x128 8) (v8318 : IVec S32x128 1) (X3 : BufTy.Contents (Elt F) arg3.view.ty) (X10 : BufTy.Contents (Elt F) arg10.view.ty) (X11 : BufTy.Contents (Elt F) arg11.view.ty) :
    LoopInvTy_k0_t2 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v8311 v8313 v8318 0#32 35#32 where
  inv := fun _ _ => iprop((arg3.view.loc (c : Thread nD τ) ↦[arg3.view.set]{fullShare} X3) ∗ (arg10.view.loc (c : Thread nD τ) ↦[arg10.view.set]{fullShare} X10) ∗ (arg11.view.loc (c : Thread nD τ) ↦[arg11.view.set]{fullShare} X11) ∗ (∃ f15 : BufTy.Contents (Elt F) arg15.view.ty, arg15.view.loc (c : Thread nD τ) ↦[arg15.view.set]{fullShare} f15) ∗ (∃ f16 : BufTy.Contents (Elt F) arg16.view.ty, arg16.view.loc (c : Thread nD τ) ↦[arg16.view.set]{fullShare} f16))
  step := fun k _ => by
    iintro ⟨H3, H10, H11, H15, ⟨%f16, H16⟩⟩
    iapply (wp_wand_r Idealize.ShloMosaic.frame (wpE (defs₀ (F := F)) 𝒱₀ (c : Thread nD τ) none) Set.univ)
    isplitl [H3 H10 H11 H15 H16]
    · iapply ((Val.tripW c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v8311 v8313 v8318 0#32 35#32 X3 X10 X11 k).2 _)
      isplitl [H3]; · iexact H3
      isplitl [H10]; · iexact H10
      isplitl [H11]; · iexact H11
      isplitl [H15]; · iexact H15
      iexact H16
    · iintro %_ ⟨H3, H10, H11, H15, H16⟩
      isplitl [H3]; · iexact H3
      isplitl [H10]; · iexact H10
      isplitl [H11]; · iexact H11
      isplitl [H15]; · iexact H15
      iexists _; iexact H16

/-- What the body touches: the eight input windows at their contents, the output window and the seven scratches at any. -/
abbrev BodyAny (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) : sProp (MT nD τ sig Unit (Elt F) ℕ (UR sig nD τ) ℕ) :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f : BufTy.Contents (Elt F) arg9.view.ty, arg9.view.loc (c : Thread nD τ) ↦[arg9.view.set]{fullShare} f) ∗ (∃ f : BufTy.Contents (Elt F) arg10.view.ty, arg10.view.loc (c : Thread nD τ) ↦[arg10.view.set]{fullShare} f) ∗ (∃ f : BufTy.Contents (Elt F) arg11.view.ty, arg11.view.loc (c : Thread nD τ) ↦[arg11.view.set]{fullShare} f) ∗ (∃ f : BufTy.Contents (Elt F) arg12.view.ty, arg12.view.loc (c : Thread nD τ) ↦[arg12.view.set]{fullShare} f) ∗ (∃ f : BufTy.Contents (Elt F) arg13.view.ty, arg13.view.loc (c : Thread nD τ) ↦[arg13.view.set]{fullShare} f) ∗ (∃ f : BufTy.Contents (Elt F) arg14.view.ty, arg14.view.loc (c : Thread nD τ) ↦[arg14.view.set]{fullShare} f) ∗ (∃ f : BufTy.Contents (Elt F) arg15.view.ty, arg15.view.loc (c : Thread nD τ) ↦[arg15.view.set]{fullShare} f) ∗ (∃ f : BufTy.Contents (Elt F) arg16.view.ty, arg16.view.loc (c : Thread nD τ) ↦[arg16.view.set]{fullShare} f))

set_option maxHeartbeats 0 in
/-- The body at a point past the first keeps `BodyAny`. -/
theorem bodyAny_later (hc : ¬ k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    BodyAny c arg1 arg2 arg3 arg4 arg5 arg6 arg7 arg8 arg9 arg10 arg11 arg12 arg13 arg14 arg15 arg16 X1 X2 X3 X4 X5 X6 X7 X8
      ⊢ wp frame (wpE (defs₀ (F := F)) 𝒱₀ (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => BodyAny c arg1 arg2 arg3 arg4 arg5 arg6 arg7 arg8 arg9 arg10 arg11 arg12 arg13 arg14 arg15 arg16 X1 X2 X3 X4 X5 X6 X7 X8) := by
  simp only [cc0__body_eq_skeleton]; unfold cc0__body_skel
  iintro ⟨H1, H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := sl_exact hc)
  sl_step
  sl_close

set_option maxHeartbeats 0 in
/-- The body at the first point keeps `BodyAny`. -/
theorem bodyAny_first (hc : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    BodyAny c arg1 arg2 arg3 arg4 arg5 arg6 arg7 arg8 arg9 arg10 arg11 arg12 arg13 arg14 arg15 arg16 X1 X2 X3 X4 X5 X6 X7 X8
      ⊢ wp frame (wpE (defs₀ (F := F)) 𝒱₀ (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => BodyAny c arg1 arg2 arg3 arg4 arg5 arg6 arg7 arg8 arg9 arg10 arg11 arg12 arg13 arg14 arg15 arg16 X1 X2 X3 X4 X5 X6 X7 X8) := by
  simp only [cc0__body_eq_skeleton]; unfold cc0__body_skel
  iintro ⟨H1, H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := sl_exact hc)
  sl_step
  sl_close

end Cert.KernelIdeal.Run

end
-- ==== Proof.IdealFrame.lean ====
/- The frame of the idealized kernel: every run ends, nothing faults, the arguments end unchanged. The body's triple is
   IdealBodyAny.lean's; the output window is forgotten, so nothing is said of the result here. -/
module

public import proofs.«01_k».proof.Proof.IdealBodyAny
public import Idealize.ShloMosaic.Lib.Pipeline.FrameSuffix

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation BodyObligationLoose cellOf)

namespace Cert.KernelIdeal.Run

open Cert.KernelIdeal Cert.KernelIdeal.Gen

variable {F : FTy → Type} [FloatOps F]

variable (m : (ℓ : Loc nD τ sig) → Buf (Elt F) ℓ) (ρ : Dev nD → PrngReg)

/-- The proof data: each input's block stays in its buffer (the clipped window's beside anything), the scratches are at some
    contents throughout, the output's buffer is not described. -/
def datA : (p : Fin 1) → (c : Dev nD) → Dat τ (Elt F) Unit ℕ (UR sig nD τ) ℕ (cfgs p) c := fun _ c =>
  { A := fun w => V m c (Pipeline.arrRef spec0 w)
    after := fun w => match w with
      | 0 => fun t => iblk m c 0 t
      | 1 => fun t => iblk m c 1 t
      | 2 => fun t => iblk m c 2 t
      | 3 => fun t => (cfg0.win 3).fill (cfg0.grid.coords t) (fun _ => Classical.arbitrary _) (iblk m c 3 t)
      | 4 => fun t => iblk m c 4 t
      | 5 => fun t => iblk m c 5 t
      | 6 => fun t => iblk m c 6 t
      | 7 => fun t => iblk m c 7 t
      | 8 => fun _ _ => Classical.arbitrary _
    Φ := fun _ => Pipeline.ΦA spec0 c
    q := fun _ => fullShare
    owed := fun _ => 0 }

/-- The output window is the forgotten one. -/
def fgt : Fin cfg0.W → Bool := fun w => match w with
  | 8 => true
  | _ => false

/-- Window 0 before a point's body: its block. -/
theorem before_0 (c : Dev nD) (t : Fin cfg0.N) (d) : (datA m 0 c).before 0 t d = iblk m c 0 t :=
  before0_0_of m (datA m 0 c) rfl (fun _ => rfl) t d
/-- Window 1 before a point's body: its block. -/
theorem before_1 (c : Dev nD) (t : Fin cfg0.N) (d) : (datA m 0 c).before 1 t d = iblk m c 1 t :=
  before0_1_of m (datA m 0 c) rfl (fun _ => rfl) t d
/-- Window 2 before a point's body: its block. -/
theorem before_2 (c : Dev nD) (t : Fin cfg0.N) (d) : (datA m 0 c).before 2 t d = iblk m c 2 t :=
  before0_2_of m (datA m 0 c) rfl (fun _ => rfl) t d
/-- Window 4 before a point's body: its block. -/
theorem before_4 (c : Dev nD) (t : Fin cfg0.N) (d) : (datA m 0 c).before 4 t d = iblk m c 4 t :=
  before0_4_of m (datA m 0 c) rfl (fun _ => rfl) t d
/-- Window 5 before a point's body: its block. -/
theorem before_5 (c : Dev nD) (t : Fin cfg0.N) (d) : (datA m 0 c).before 5 t d = iblk m c 5 t :=
  before0_5_of m (datA m 0 c) rfl (fun _ => rfl) t d
/-- Window 6 before a point's body: its block. -/
theorem before_6 (c : Dev nD) (t : Fin cfg0.N) (d) : (datA m 0 c).before 6 t d = iblk m c 6 t :=
  before0_6_of m (datA m 0 c) rfl (fun _ => rfl) t d
/-- Window 7 before a point's body: its block. -/
theorem before_7 (c : Dev nD) (t : Fin cfg0.N) (d) : (datA m 0 c).before 7 t d = iblk m c 7 t :=
  before0_7_of m (datA m 0 c) rfl (fun _ => rfl) t d
/-- Window 3 before a point's body: its block where there is one, anything beyond. -/
theorem before_3 (c : Dev nD) (t : Fin cfg0.N) (d) :
    (datA m 0 c).before 3 t d = (cfg0.win 3).fill (cfg0.grid.coords t) d (iblk m c 3 t) := by
  unfold Dat.before
  rw [if_pos (fetch0_3 t)]
  rfl

/-- The invariant opened: the seven scratches at some contents, the generator register. -/
theorem PhiA_eq (c : Dev nD) :
    (Pipeline.ΦA (Val := Elt F) (U := UR sig nD τ) spec0 c : sProp (MT nD τ sig Unit (Elt F) ℕ (UR sig nD τ) ℕ))
      = iprop(iprop((∃ f, (Memref.whole cc0_scratch0).view.loc (c : Thread nD τ) ↦[(Memref.whole cc0_scratch0).view.set]{fullShare} f) ∗ (∃ f, (Memref.whole cc0_scratch1).view.loc (c : Thread nD τ) ↦[(Memref.whole cc0_scratch1).view.set]{fullShare} f) ∗ (∃ f, (Memref.whole cc0_scratch2).view.loc (c : Thread nD τ) ↦[(Memref.whole cc0_scratch2).view.set]{fullShare} f) ∗ (∃ f, (Memref.whole cc0_scratch3).view.loc (c : Thread nD τ) ↦[(Memref.whole cc0_scratch3).view.set]{fullShare} f) ∗ (∃ f, (Memref.whole cc0_scratch4).view.loc (c : Thread nD τ) ↦[(Memref.whole cc0_scratch4).view.set]{fullShare} f) ∗ (∃ f, (Memref.whole cc0_scratch5).view.loc (c : Thread nD τ) ↦[(Memref.whole cc0_scratch5).view.set]{fullShare} f) ∗ (∃ f, (Memref.whole cc0_scratch6).view.loc (c : Thread nD τ) ↦[(Memref.whole cc0_scratch6).view.set]{fullShare} f)) ∗ (∃ r, prngReg c r)) := by
  unfold Pipeline.ΦA; rw [scopedRest0_eq]
  simp only [Memref.view_whole, View.set_whole]; try rfl

set_option maxHeartbeats 0 in
/-- The body at a point, between what the pipeline hands it and what it takes back. -/
theorem sound_body (c : Dev nD) (t : Fin cfg0.N) :
    iprop(Pipeline.ΦA spec0 c ∗ (datA m 0 c).owesAt () t.castSucc ∗ (∃ d, owns (c : Thread nD τ) (win0_0.stage (cfg0.slots t 0)) fullShare ((datA m 0 c).before 0 t d)) ∗ (∃ d, owns (c : Thread nD τ) (win0_1.stage (cfg0.slots t 1)) fullShare ((datA m 0 c).before 1 t d)) ∗ (∃ d, owns (c : Thread nD τ) (win0_2.stage (cfg0.slots t 2)) fullShare ((datA m 0 c).before 2 t d)) ∗ (∃ d, owns (c : Thread nD τ) (win0_3.stage (cfg0.slots t 3)) fullShare ((datA m 0 c).before 3 t d)) ∗ (∃ d, owns (c : Thread nD τ) (win0_4.stage (cfg0.slots t 4)) fullShare ((datA m 0 c).before 4 t d)) ∗ (∃ d, owns (c : Thread nD τ) (win0_5.stage (cfg0.slots t 5)) fullShare ((datA m 0 c).before 5 t d)) ∗ (∃ d, owns (c : Thread nD τ) (win0_6.stage (cfg0.slots t 6)) fullShare ((datA m 0 c).before 6 t d)) ∗ (∃ d, owns (c : Thread nD τ) (win0_7.stage (cfg0.slots t 7)) fullShare ((datA m 0 c).before 7 t d)) ∗ (∃ X, owns (c : Thread nD τ) (win0_8.stage (cfg0.slots t 8)) fullShare X))
      ⊢ wp frame (wpE (defs₀ (F := F)) 𝒱₀ (c : Thread nD τ) none) Set.univ (bodyAt0 t)
        (fun _ => iprop(Pipeline.ΦA spec0 c ∗ (datA m 0 c).owesAt () t.castSucc ∗ owns (c : Thread nD τ) (win0_0.stage (cfg0.slots t 0)) fullShare ((datA m 0 c).after 0 t) ∗ owns (c : Thread nD τ) (win0_1.stage (cfg0.slots t 1)) fullShare ((datA m 0 c).after 1 t) ∗ owns (c : Thread nD τ) (win0_2.stage (cfg0.slots t 2)) fullShare ((datA m 0 c).after 2 t) ∗ (∃ d, owns (c : Thread nD τ) (win0_3.stage (cfg0.slots t 3)) fullShare ((cfg0.win 3).fill (cfg0.grid.coords t) d ((cfg0.win 3).cut (cfg0.grid.coords t) ((datA m 0 c).after 3 t)))) ∗ owns (c : Thread nD τ) (win0_4.stage (cfg0.slots t 4)) fullShare ((datA m 0 c).after 4 t) ∗ owns (c : Thread nD τ) (win0_5.stage (cfg0.slots t 5)) fullShare ((datA m 0 c).after 5 t) ∗ owns (c : Thread nD τ) (win0_6.stage (cfg0.slots t 6)) fullShare ((datA m 0 c).after 6 t) ∗ owns (c : Thread nD τ) (win0_7.stage (cfg0.slots t 7)) fullShare ((datA m 0 c).after 7 t) ∗ (∃ X, owns (c : Thread nD τ) (win0_8.stage (cfg0.slots t 8)) fullShare X))) := by
  unfold bodyAt0
  simp only [before_0, before_1, before_2, before_3, before_4, before_5, before_6, before_7]
  rw [PhiA_eq]
  unfold owns
  iintro ⟨⟨⟨S0, S1, S2, S3, S4, S5, S6⟩, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩⟩
  iapply (wp_wand_r Idealize.ShloMosaic.frame (wpE (defs₀ (F := F)) 𝒱₀ (c : Thread nD τ) none) Set.univ)
  isplitl [S0 S1 S2 S3 S4 S5 S6 H0 H1 H2 H3 H4 H5 H6 H7 H8]
  · by_cases hc : k0_cond1 (grid0.coords t) = 1#1
    · iapply (bodyAny_first (F := F) c (grid0.coords t) _ _ _ _ _ _ _ _ _ _ _ _ _ _ _ _ _ _ _ _ _ _ _ _ _ _ _ _ _ _ _ _ hc f0 f1 f2 f3 f4 f5 f6 f7)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [S0]; · iexact S0
      isplitl [S1]; · iexact S1
      isplitl [S2]; · iexact S2
      isplitl [S3]; · iexact S3
      isplitl [S4]; · iexact S4
      isplitl [S5]; · iexact S5
      iexact S6
    · iapply (bodyAny_later (F := F) c (grid0.coords t) _ _ _ _ _ _ _ _ _ _ _ _ _ _ _ _ _ _ _ _ _ _ _ _ _ _ _ _ _ _ _ _ hc f0 f1 f2 f3 f4 f5 f6 f7)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [S0]; · iexact S0
      isplitl [S1]; · iexact S1
      isplitl [S2]; · iexact S2
      isplitl [S3]; · iexact S3
      isplitl [S4]; · iexact S4
      isplitl [S5]; · iexact S5
      iexact S6
  · iintro %_ ⟨H0, H1, H2, H3, H4, H5, H6, H7, ⟨%f8', H8⟩, S0, S1, S2, S3, S4, S5, S6⟩
    isplitl [S0 S1 S2 S3 S4 S5 S6 Hr]
    · isplitr [Hr]
      · isplitl [S0]; · iexact S0
        isplitl [S1]; · iexact S1
        isplitl [S2]; · iexact S2
        isplitl [S3]; · iexact S3
        isplitl [S4]; · iexact S4
        isplitl [S5]; · iexact S5
        iexact S6
      · iexact Hr
    isplitl [Ho]; · iexact Ho
    isplitl [H0]
    · iexists f0; isplitr; · ipureintro; exact h0
      iexact H0
    isplitl [H1]
    · iexists f1; isplitr; · ipureintro; exact h1
      iexact H1
    isplitl [H2]
    · iexists f2; isplitr; · ipureintro; exact h2
      iexact H2
    isplitl [H3]
    · iexists d3; iexists f3; isplitr; · ipureintro; rw [h3]; exact congrArg _ ((cfg0.win 3).cut_fill _ _ _).symm
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    iexists _; iexists f8'; isplitr; · ipureintro; rfl
    iexact H8

/-- The call of the body at a point is the body at that point. -/
theorem defs₀_row (t : Fin cfg0.N) : defs₀ (F := F) .tc cfg0.body (cfg0.bodyArgs t (cfg0.slots t)) = bodyAt0 t := by
  unfold defs₀; rw [Defs.onTc_tc]

set_option maxHeartbeats 0 in
/-- The body keeps what the pipeline asks of it, at every point. -/
theorem body_obligation (c : Dev nD) : BodyObligationLoose (datA m 0 c) (defs₀ (F := F)) 𝒱₀ () Set.univ fgt := by
  intro t
  rw [bigSep_W0, bigSep_W0, defs₀_row]
  exact triple_restated (sound_body m c t) rfl .rfl fun _ => .rfl

/-- What the host operation after the region writes. -/
abbrev tailWrites : Finset (Ref sig .tc) := {main_v5}

/-- What the operations after the call write is among `tailWrites`. -/
theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  by_contra hne
  exact StableHlo.devRef_ne_of_ne (fun h => hne (by rw [h]; exact Finset.mem_singleton_self _)) hb

/-- The frame: every run ends with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun r hq => ⟨fun c => have h := hq.1; ⟨
      ((h c).2 main_arg0 (Finset.mem_sdiff.mpr ⟨Pipeline.mem_restRefs_of main_arg0 (by decide) (by decide), by decide⟩)).trans (V_main_arg0 m c),
      ((congrFun (((datA m 0 c).toRForget fgt).ArrAt_in 2 rfl _) _).mp ((h c).1 2)).trans (V_main_arg1 m c),
      ((congrFun (((datA m 0 c).toRForget fgt).ArrAt_in 3 rfl _) _).mp ((h c).1 3)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((congrFun (((datA m 0 c).toRForget fgt).ArrAt_in 5 rfl _) _).mp ((h c).1 5)).trans (V_main_arg5 m c),
      ((congrFun (((datA m 0 c).toRForget fgt).ArrAt_in 6 rfl _) _).mp ((h c).1 6)).trans (V_main_arg6 m c)⟩, hq.2⟩)
    (Pipeline.θ_run_frame_around_T_forget cfgs (datA m) 0 launch0 defs₀ 𝒱₀ fgt tailWrites m ρ (main (F := F))
      (hbody := body_obligation m)
      (hshare := fun c w => by unfold Dat.share; split <;> rfl)
      (howed := fun _ _ => rfl) (V₀ := V0 m) (opss := [hostOps1]) (hsub := sfx_sub) (hfresh := sfx_fresh) (hkeep := sfx_keeps)
      (hT := tail_writes) (hmain := hmain m 𝒱₀) (hA := fun _ _ => rfl) (hΦ := fun _ _ => rfl)
      (Q' := fun r => Pipeline.RDat.FramePostR (cfgs 0) (fun c => (datA m 0 c).toRForget fgt) tailWrites (fun c b => V0 m c (Proc.devRef .tc b)) r
        ∧ r.2.sem = fun _ => 0) (hQ' := fun _ h => h))

end Cert.KernelIdeal.Run

end
-- ==== Proof.XsTrip.lean ====
/- One trip of the tile loop: the input tile it de-interleaves into the tile scratch. -/
module

public import proofs.«01_k».proof.Proof.WsDefs
public import proofs.«01_k».proof.Proof.Gen.KernelIdeal.Frame
public import proofs.«01_k».proof.Proof.Gen.KernelIdeal.Loops
public import proofs.«01_k».proof.Proof.Gen.KernelIdeal.Points
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

/-- The tile scratch after the tiles before `k`: tile `kt` row `r` is input column `256 kt + 2 (r mod 128) + r / 128`. -/
def partX (X : S256x8960.Idx → Elt F .bf16) (G : S35x256x256.Idx → Elt F .bf16) (k : ℕ) : S35x256x256.Idx → Elt F .bf16 :=
  fun y => if (y 0).val < k then X (ValueIdx.ix2 (y 2) ⟨256 * (y 0).val + (2 * ((y 1).val % 128) + (y 1).val / 128), by
    have h0 : (y 0).val < 35 := (y 0).isLt
    have h1 : (y 1).val < 256 := (y 1).isLt
    show _ < 8960
    omega⟩) else G y

variable (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (k0_h1 : k0_cond1 i = 1#1)

/-- What one trip of the tile loop touches: the input block, the tile scratch, the transpose scratch. -/
abbrev TripX (X2 : BufTy.Contents (Elt F) arg2.view.ty) (f10 : BufTy.Contents (Elt F) arg10.view.ty) (f13 : BufTy.Contents (Elt F) arg13.view.ty) : sProp (MT nD τ sig Unit (Elt F) ℕ (UR sig nD τ) ℕ) :=
  iprop((arg2.view.loc (c : Thread nD τ) ↦[arg2.view.set]{fullShare} X2) ∗ (arg10.view.loc (c : Thread nD τ) ↦[arg10.view.set]{fullShare} f10)
    ∗ (arg13.view.loc (c : Thread nD τ) ↦[arg13.view.set]{fullShare} f13))

/-- One trip of the tile loop, run: the pieces it writes into the tile scratch, and what it leaves in the transpose scratch. -/
@[irreducible] def tripX (X2 : BufTy.Contents (Elt F) arg2.view.ty) (k : Fin k0_t1_loop.trips) :
    Σ' (L10 : List (View.Piece (Elt F) S35x256x256 .bf16)) (L13 : BufTy.Contents (Elt F) arg13.view.ty → BufTy.Contents (Elt F) arg13.view.ty),
        ∀ f10 f13, TripX c arg2 arg10 arg13 X2 f10 f13
          ⊢ wp frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k PUnit.unit)
            (fun _ => TripX c arg2 arg10 arg13 X2 (arg10.view.writes (Elt F) f10 L10) (L13 f13)) := by
  have hk : k.val < 35 := Nat.lt_of_lt_of_le k.isLt k0_t1_abs.2.1
  refine ⟨?_, ?_, fun f10 f13 => ?run⟩
  case run =>
    unfold k0_t1_body
    iintro ⟨H2, H10, H13⟩
    sl_exec
    sl_step
    sl_close

end Cert.KernelIdeal.Val

end
-- ==== Proof.Deint.lean ====
/- De-interleaving rows: the rows of one parity read through a strided load of row pairs, and put together again. -/
module

public import proofs.«01_k».proof.Proof.WsDefs
public import Idealize.ShloMosaic.Lib.Pointwise.Reshape
public import Idealize.ShloMosaic.Lib.Pipeline.Value
public import proofs.«01_k».proof.Proof.Gen.KernelIdeal.Skeleton
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

/-- Two blocks of rows interleaved, at an index. -/
theorem interleave_apply {α : Type} {n m w : ℕ} (lo hi : (⟨2, ![n, w]⟩ : Shape).Idx → α) (h : (⟨2, ![m, w]⟩ : Shape).Bitcasts 16 ⟨2, ![n, w]⟩ 32)
    (hm : m = 2 * n) (i : Fin m) (l : Fin w) :
    interleaveRows ⟨2, ![m, w]⟩ lo hi h (ValueIdx.ix2 i l)
      = if i.val % 2 = 0 then lo (ValueIdx.ix2 ⟨i.val / 2, by have := i.isLt; omega⟩ l) else hi (ValueIdx.ix2 ⟨i.val / 2, by have := i.isLt; omega⟩ l) := by
  have e : ∀ g : (⟨2, ![n, w]⟩ : Shape).Idx → α, ∀ j : (⟨2, ![n, w]⟩ : Shape).Idx, (j 0).val = i.val / 2 → (j 1).val = l.val →
      g j = g (ValueIdx.ix2 ⟨i.val / 2, by have := i.isLt; omega⟩ l) := by
    intro g j h0 h1
    refine congrArg g (funext fun a => Fin.ext ?_)
    fin_cases a
    · exact h0
    · exact h1
  show (if i.val % 2 = 0 then _ else _) = _
  by_cases hi : i.val % 2 = 0
  · rw [if_pos hi, if_pos hi]; exact e _ _ rfl rfl
  · rw [if_neg hi, if_neg hi]; exact e _ _ rfl rfl

/-- The rows of one parity of a load of row pairs, at an index. -/
theorem parity_apply {α : Type} {n w : ℕ} (e : Fin 2) (raw : (⟨3, ![n, 2, w]⟩ : Shape).Idx → α) (h : (⟨3, ![n, 2, w]⟩ : Shape).Bitcasts 16 ⟨3, ![n, 1, w]⟩ 32)
    (h' : (⟨3, ![n, 1, w]⟩ : Shape).ShapeCasts ⟨2, ![n, w]⟩) (a : Fin n) (l : Fin w) :
    shapeCast ⟨2, ![n, w]⟩ (rowsOfParity e ⟨3, ![n, 1, w]⟩ raw h) h' (ValueIdx.ix2 a l) = raw (ValueIdx.ix3 a e l) := by
  rw [shapeCast_apply _ h' (ValueIdx.ix2 a l) (ValueIdx.ix3 a 0 l) (by
    rw [rowMajor_val3 _ w w (by show 1 * w = w; omega) rfl, rowMajor_val2 _ w rfl]
    show a.val * w + 0 * w + l.val = a.val * w + l.val
    omega)]
  refine congrArg raw (funext fun b => Fin.ext ?_)
  fin_cases b
  · rfl
  · show 2 * 0 + e.val = e.val; omega
  · rfl

/-- A strided load of row pairs from the transpose scratch, at an index. -/
theorem strided_apply {arg13 : Memref sig .tc .vmem S256x128 .bf16} (h1 h2 h3) {n : ℕ} (b : ℕ) (inb) (f : BufTy.Contents (Elt F) arg13.view.ty)
    (a : Fin n) (e : Fin 2) (l : Fin 128) (hb : 2 * (b + 2 * a.val) + e.val < 256) :
    View.readAt (Elt F) (arg13.reshape S128x2x128 h1 h2 h3).view { off := ![b, 0, 0], size := ![n, 2, 128], stride := ![2, 1, 1], inb := inb } f (ValueIdx.ix3 a e l)
      = arg13.view.read (Elt F) f (ValueIdx.ix2 ⟨2 * (b + 2 * a.val) + e.val, hb⟩ l) := by
  show arg13.view.read (Elt F) f (Shape.reshapeEquiv _ _) = _
  refine congrArg (arg13.view.read (Elt F) f) (Shape.reshapeEquiv_eq_of_vals _ _ _ _ _ (rowMajor_val2 _ 128 rfl) (rowMajor_val3 _ 256 128 rfl rfl) ?_)
  show (2 * (b + 2 * a.val) + e.val) * 128 + l.val = (b + 2 * a.val) * 256 + (0 + 1 * e.val) * 128 + (0 + 1 * l.val)
  omega

/-- Sixty-four row pairs de-interleaved, the even rows. -/
theorem deint_even {arg13 : Memref sig .tc .vmem S256x128 .bf16} (h1 h2 h3 h1' h2' h3') (inb0 inb1) (f : BufTy.Contents (Elt F) arg13.view.ty) (x : S1x128x128.Idx) :
    k0_pay488 (View.readAt (Elt F) (arg13.reshape S128x2x128 h1 h2 h3).view { off := ![0, 0, 0], size := ![64, 2, 128], stride := ![2, 1, 1], inb := inb0 } f)
        (View.readAt (Elt F) (arg13.reshape S128x2x128 h1' h2' h3').view { off := ![1, 0, 0], size := ![64, 2, 128], stride := ![2, 1, 1], inb := inb1 } f) x
      = arg13.view.read (Elt F) f (ValueIdx.ix2 ⟨2 * (x 1).val, by have : (x 1).val < 128 := (x 1).isLt; show _ < 256; omega⟩ (x 2)) := by
  have x0 : (x 0).val < 1 := (x 0).isLt
  have x1 : (x 1).val < 128 := (x 1).isLt
  unfold k0_pay488
  dsimp only
  rw [shapeCast_apply _ _ x (ValueIdx.ix2 (n0 := 128) (n1 := 128) (x 1) (x 2)) (by
    rw [rowMajor_val3 _ 16384 128 rfl rfl, rowMajor_val2 _ 128 rfl]
    show (x 1).val * 128 + (x 2).val = (x 0).val * 16384 + (x 1).val * 128 + (x 2).val
    omega)]
  refine (interleave_apply (n := 64) (m := 128) (w := 128) _ _ _ rfl _ _).trans ?_
  split
  · refine (parity_apply 0 _ _ _ _ _).trans ((strided_apply h1 h2 h3 0 _ _ _ _ _ (by show 2 * (0 + 2 * ((x 1).val / 2)) + 0 < 256; omega)).trans ?_)
    refine congrArg _ (funext fun a => Fin.ext ?_)
    fin_cases a
    · show 2 * (0 + 2 * ((x 1).val / 2)) + 0 = 2 * (x 1).val; omega
    · rfl
  · refine (parity_apply 0 _ _ _ _ _).trans ((strided_apply h1' h2' h3' 1 _ _ _ _ _ (by show 2 * (1 + 2 * ((x 1).val / 2)) + 0 < 256; omega)).trans ?_)
    refine congrArg _ (funext fun a => Fin.ext ?_)
    fin_cases a
    · show 2 * (1 + 2 * ((x 1).val / 2)) + 0 = 2 * (x 1).val; omega
    · rfl

/-- Sixty-four row pairs de-interleaved, the odd rows. -/
theorem deint_odd {arg13 : Memref sig .tc .vmem S256x128 .bf16} (h1 h2 h3 h1' h2' h3') (inb0 inb1) (f : BufTy.Contents (Elt F) arg13.view.ty) (x : S1x128x128.Idx) :
    k0_pay489 (View.readAt (Elt F) (arg13.reshape S128x2x128 h1 h2 h3).view { off := ![0, 0, 0], size := ![64, 2, 128], stride := ![2, 1, 1], inb := inb0 } f)
        (View.readAt (Elt F) (arg13.reshape S128x2x128 h1' h2' h3').view { off := ![1, 0, 0], size := ![64, 2, 128], stride := ![2, 1, 1], inb := inb1 } f) x
      = arg13.view.read (Elt F) f (ValueIdx.ix2 ⟨2 * (x 1).val + 1, by have : (x 1).val < 128 := (x 1).isLt; show _ < 256; omega⟩ (x 2)) := by
  have x0 : (x 0).val < 1 := (x 0).isLt
  have x1 : (x 1).val < 128 := (x 1).isLt
  unfold k0_pay489
  dsimp only
  rw [shapeCast_apply _ _ x (ValueIdx.ix2 (n0 := 128) (n1 := 128) (x 1) (x 2)) (by
    rw [rowMajor_val3 _ 16384 128 rfl rfl, rowMajor_val2 _ 128 rfl]
    show (x 1).val * 128 + (x 2).val = (x 0).val * 16384 + (x 1).val * 128 + (x 2).val
    omega)]
  refine (interleave_apply (n := 64) (m := 128) (w := 128) _ _ _ rfl _ _).trans ?_
  split
  · refine (parity_apply 1 _ _ _ _ _).trans ((strided_apply h1 h2 h3 0 _ _ _ _ _ (by show 2 * (0 + 2 * ((x 1).val / 2)) + 1 < 256; omega)).trans ?_)
    refine congrArg _ (funext fun a => Fin.ext ?_)
    fin_cases a
    · show 2 * (0 + 2 * ((x 1).val / 2)) + 1 = 2 * (x 1).val + 1; omega
    · rfl
  · refine (parity_apply 1 _ _ _ _ _).trans ((strided_apply h1' h2' h3' 1 _ _ _ _ _ (by show 2 * (1 + 2 * ((x 1).val / 2)) + 1 < 256; omega)).trans ?_)
    refine congrArg _ (funext fun a => Fin.ext ?_)
    fin_cases a
    · show 2 * (1 + 2 * ((x 1).val / 2)) + 1 = 2 * (x 1).val + 1; omega
    · rfl

/-- Eight row pairs of sixteen lanes de-interleaved: the rows of parity `e` from row `32 q` on. -/
theorem deint8 {arg13 : Memref sig .tc .vmem S256x128 .bf16} (e : Fin 2) (b0 b1 q : ℕ) (hq : q < 4) (hb0 : b0 = 16 * q) (hb1 : b1 = 16 * q + 1) (h1 h2 h3 h1' h2' h3') (inb0 inb1) (f : BufTy.Contents (Elt F) arg13.view.ty)
    (p1 p2 p3 p4 p5 p6 p7 p8) (x : S16x16.Idx) :
    shapeCast S16x16 (interleaveRows S16x16
        (extractStridedSlice S8x16 ![0, 0] (shapeCast S8x128 (rowsOfParity e S8x1x128 (View.readAt (Elt F) (arg13.reshape S128x2x128 h1 h2 h3).view { off := ![b0, 0, 0], size := ![8, 2, 128], stride := ![2, 1, 1], inb := inb0 } f) p1) p2) p3)
        (extractStridedSlice S8x16 ![0, 0] (shapeCast S8x128 (rowsOfParity e S8x1x128 (View.readAt (Elt F) (arg13.reshape S128x2x128 h1' h2' h3').view { off := ![b1, 0, 0], size := ![8, 2, 128], stride := ![2, 1, 1], inb := inb1 } f) p4) p5) p6) p7) p8 x
      = arg13.view.read (Elt F) f (ValueIdx.ix2 ⟨32 * q + 2 * (x 0).val + e.val, by have : (x 0).val < 16 := (x 0).isLt; have := e.isLt; show _ < 256; omega⟩
          ⟨(x 1).val, by have : (x 1).val < 16 := (x 1).isLt; show _ < 128; omega⟩) := by
  subst hb0 hb1
  have x0 : (x 0).val < 16 := (x 0).isLt
  have x1 : (x 1).val < 16 := (x 1).isLt
  have he := e.isLt
  rw [shapeCast_id]
  rw [show x = ValueIdx.ix2 (n0 := 16) (n1 := 16) (x 0) (x 1) from funext fun a => by fin_cases a <;> rfl]
  refine (interleave_apply (n := 8) (m := 16) (w := 16) _ _ _ rfl _ _).trans ?_
  have hs : ∀ (v : S8x128.Idx → Elt F .bf16) (p) (a : Fin 8) (l : Fin 16), extractStridedSlice S8x16 ![0, 0] v p (ValueIdx.ix2 a l) = v (ValueIdx.ix2 a ⟨l.val, by have := l.isLt; omega⟩) := by
    intro v p a l
    refine congrArg v (funext fun b => Fin.ext ?_)
    fin_cases b <;> exact Nat.zero_add _
  split
  · refine (hs _ _ _ _).trans ?_
    refine (parity_apply e _ _ _ _ _).trans ((strided_apply h1 h2 h3 (16 * q) _ _ _ _ _ (by show 2 * (16 * q + 2 * ((x 0).val / 2)) + e.val < 256; omega)).trans ?_)
    refine congrArg _ (funext fun a => Fin.ext ?_)
    fin_cases a
    · show 2 * (16 * q + 2 * ((x 0).val / 2)) + e.val = 32 * q + 2 * (x 0).val + e.val
      have : (x 0).val % 2 = 0 := by assumption
      omega
    · rfl
  · refine (hs _ _ _ _).trans ?_
    refine (parity_apply e _ _ _ _ _).trans ((strided_apply h1' h2' h3' (16 * q + 1) _ _ _ _ _ (by show 2 * (16 * q + 1 + 2 * ((x 0).val / 2)) + e.val < 256; omega)).trans ?_)
    refine congrArg _ (funext fun a => Fin.ext ?_)
    fin_cases a
    · show 2 * (16 * q + 1 + 2 * ((x 0).val / 2)) + e.val = 32 * q + 2 * (x 0).val + e.val
      have : ¬ (x 0).val % 2 = 0 := by assumption
      omega
    · rfl

end Cert.KernelIdeal.Val

end
-- ==== Proof.XsTile.lean ====
/- What one trip of the tile loop leaves in the tile scratch. -/
module

public import proofs.«01_k».proof.Proof.XsTrip
public import proofs.«01_k».proof.Proof.Deint
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

/-- A whole store of the transpose scratch, read back. -/
theorem tmp_read {arg13 : Memref sig .tc .vmem S256x128 .bf16} (f : BufTy.Contents (Elt F) arg13.view.ty) (inb) (w : S256x128.Idx → Elt F .bf16) (L) (y : S256x128.Idx) :
    arg13.view.read (Elt F) (arg13.view.writes (Elt F) f (⟨Rect.unit (s := S256x128) ![0, 0] ![256, 128] inb, w⟩ :: L)) y = w y := by
  refine View.read_writes_cons_hit_of_coords _ f (Rect.unit (s := S256x128) ![0, 0] ![256, 128] inb) w L y y fun a => ?_
  fin_cases a <;> (show _ = 0 + 1 * _; rw [Nat.one_mul, Nat.zero_add])

/-- A block of 128 input rows and 256 columns, transposed. -/
theorem xt_apply {arg2 : Memref sig .tc .vmem S256x8960 .bf16} (X2 : BufTy.Contents (Elt F) arg2.view.ty) (k mh om o : ℕ) (hk : k < 35) (hmh : mh < 2) (hm : om = 128 * mh) (ho : o = 256 * k) (inb) (p1 p2 p3) (r : Fin 256) (l : Fin 128) :
    shapeCast S256x128 (transpose S256x128 [1, 0] (shapeCast S128x256 (View.readAt (Elt F) arg2.view (Rect.unit (s := S256x8960) ![om, o] ![128, 256] inb).toLoadRect X2) p1) p2) p3 (ValueIdx.ix2 r l)
      = arg2.view.read (Elt F) X2 (ValueIdx.ix2 ⟨128 * mh + l.val, by have := l.isLt; omega⟩ ⟨256 * k + r.val, by have := r.isLt; omega⟩) := by
  subst hm ho
  rw [shapeCast_id]
  refine (transpose_apply (s := S128x256) (t := S256x128) [1, 0] _ p2 (ValueIdx.ix2 (n0 := 256) (n1 := 128) r l) (ValueIdx.ix2 (n0 := 128) (n1 := 256) l r) (fun b => by fin_cases b <;> rfl)).trans ((congrFun (shapeCast_id (s := S128x256) _ p1) _).trans ?_)
  refine congrArg (arg2.view.read (Elt F) X2) (funext fun a => Fin.ext ?_)
  fin_cases a
  · show 128 * mh + 1 * l.val = _; rw [Nat.one_mul]
  · show 256 * k + 1 * r.val = _; rw [Nat.one_mul]

/-- Four stores that fill one tile. -/
theorem xs_extend {arg10 : Memref sig .tc .vmem S35x256x256 .bf16} (f : BufTy.Contents (Elt F) arg10.view.ty) (X : S256x8960.Idx → Elt F .bf16) (k : ℕ) (hk : k < 35)
    (o1 o2 o3 o4 : ℕ) (h1 : o1 = k) (h2 : o2 = k) (h3 : o3 = k) (h4 : o4 = k) (i1 i2 i3 i4) (p1 p2 p3 p4 : S1x128x128.Idx → Elt F .bf16)
    (g1 : ∀ x : S1x128x128.Idx, p1 x = X (ValueIdx.ix2 ⟨128 * 1 + (x 2).val, by have : (x 2).val < 128 := (x 2).isLt; show _ < 256; omega⟩ ⟨256 * k + (2 * (x 1).val + 1), by have : (x 1).val < 128 := (x 1).isLt; show _ < 8960; omega⟩))
    (g2 : ∀ x : S1x128x128.Idx, p2 x = X (ValueIdx.ix2 ⟨128 * 1 + (x 2).val, by have : (x 2).val < 128 := (x 2).isLt; show _ < 256; omega⟩ ⟨256 * k + 2 * (x 1).val, by have : (x 1).val < 128 := (x 1).isLt; show _ < 8960; omega⟩))
    (g3 : ∀ x : S1x128x128.Idx, p3 x = X (ValueIdx.ix2 ⟨128 * 0 + (x 2).val, by have : (x 2).val < 128 := (x 2).isLt; show _ < 256; omega⟩ ⟨256 * k + (2 * (x 1).val + 1), by have : (x 1).val < 128 := (x 1).isLt; show _ < 8960; omega⟩))
    (g4 : ∀ x : S1x128x128.Idx, p4 x = X (ValueIdx.ix2 ⟨128 * 0 + (x 2).val, by have : (x 2).val < 128 := (x 2).isLt; show _ < 256; omega⟩ ⟨256 * k + 2 * (x 1).val, by have : (x 1).val < 128 := (x 1).isLt; show _ < 8960; omega⟩))
    (G : S35x256x256.Idx → Elt F .bf16) (hf : arg10.view.read (Elt F) f = partX X G k) :
    arg10.view.read (Elt F) (arg10.view.writes (Elt F) f [⟨Rect.unit (s := S35x256x256) ![o1, 128, 128] ![1, 128, 128] i1, p1⟩, ⟨Rect.unit (s := S35x256x256) ![o2, 0, 128] ![1, 128, 128] i2, p2⟩,
      ⟨Rect.unit (s := S35x256x256) ![o3, 128, 0] ![1, 128, 128] i3, p3⟩, ⟨Rect.unit (s := S35x256x256) ![o4, 0, 0] ![1, 128, 128] i4, p4⟩]) = partX X G (k + 1) := by
  subst h1 h2 h3 h4
  funext y
  have y0 : (y 0).val < 35 := (y 0).isLt
  have y1 : (y 1).val < 256 := (y 1).isLt
  have y2 : (y 2).val < 256 := (y 2).isLt
  by_cases h : (y 0).val = o4
  · have hX : partX X G (o4 + 1) y = X (ValueIdx.ix2 (y 2) ⟨256 * (y 0).val + (2 * ((y 1).val % 128) + (y 1).val / 128), by show _ < 8960; omega⟩) := if_pos (by omega)
    rw [hX]
    have e : ∀ a b, a.val = (y 2).val → b.val = 256 * (y 0).val + (2 * ((y 1).val % 128) + (y 1).val / 128) →
        X (ValueIdx.ix2 a b) = X (ValueIdx.ix2 (y 2) ⟨256 * (y 0).val + (2 * ((y 1).val % 128) + (y 1).val / 128), by show _ < 8960; omega⟩) := by
      intro a b ha hb
      exact congrArg₂ (fun a b => X (ValueIdx.ix2 a b)) (Fin.ext ha) (Fin.ext hb)
    by_cases c2 : (y 2).val < 128 <;> by_cases c1 : (y 1).val < 128
    · rw [View.read_writes_cons_miss_of_axis _ _ _ _ y 1 128 128 rfl rfl rfl (by omega), View.read_writes_cons_miss_of_axis _ _ _ _ y 2 128 128 rfl rfl rfl (by omega),
        View.read_writes_cons_miss_of_axis _ _ _ _ y 1 128 128 rfl rfl rfl (by omega)]
      refine (View.read_writes_cons_hit_of_coords _ _ _ _ _ (ValueIdx.ix3 (n0 := 1) (n1 := 128) (n2 := 128) 0 ⟨(y 1).val, c1⟩ ⟨(y 2).val, c2⟩) y ?_).trans ((g4 _).trans (e _ _ ?_ ?_))
      · intro a; fin_cases a
        · exact h
        · show (y 1).val = 0 + 1 * (y 1).val; omega
        · show (y 2).val = 0 + 1 * (y 2).val; omega
      · show 128 * 0 + (y 2).val = (y 2).val; omega
      · show 256 * o4 + 2 * (y 1).val = 256 * (y 0).val + (2 * ((y 1).val % 128) + (y 1).val / 128); omega
    · rw [View.read_writes_cons_miss_of_axis _ _ _ _ y 2 128 128 rfl rfl rfl (by omega), View.read_writes_cons_miss_of_axis _ _ _ _ y 2 128 128 rfl rfl rfl (by omega)]
      refine (View.read_writes_cons_hit_of_coords _ _ _ _ _ (ValueIdx.ix3 (n0 := 1) (n1 := 128) (n2 := 128) 0 ⟨(y 1).val - 128, by omega⟩ ⟨(y 2).val, c2⟩) y ?_).trans ((g3 _).trans (e _ _ ?_ ?_))
      · intro a; fin_cases a
        · exact h
        · show (y 1).val = 128 + 1 * ((y 1).val - 128); omega
        · show (y 2).val = 0 + 1 * (y 2).val; omega
      · show 128 * 0 + (y 2).val = (y 2).val; omega
      · show 256 * o4 + (2 * ((y 1).val - 128) + 1) = 256 * (y 0).val + (2 * ((y 1).val % 128) + (y 1).val / 128); omega
    · rw [View.read_writes_cons_miss_of_axis _ _ _ _ y 1 128 128 rfl rfl rfl (by omega)]
      refine (View.read_writes_cons_hit_of_coords _ _ _ _ _ (ValueIdx.ix3 (n0 := 1) (n1 := 128) (n2 := 128) 0 ⟨(y 1).val, c1⟩ ⟨(y 2).val - 128, by omega⟩) y ?_).trans ((g2 _).trans (e _ _ ?_ ?_))
      · intro a; fin_cases a
        · exact h
        · show (y 1).val = 0 + 1 * (y 1).val; omega
        · show (y 2).val = 128 + 1 * ((y 2).val - 128); omega
      · show 128 * 1 + ((y 2).val - 128) = (y 2).val; omega
      · show 256 * o4 + 2 * (y 1).val = 256 * (y 0).val + (2 * ((y 1).val % 128) + (y 1).val / 128); omega
    · refine (View.read_writes_cons_hit_of_coords _ _ _ _ _ (ValueIdx.ix3 (n0 := 1) (n1 := 128) (n2 := 128) 0 ⟨(y 1).val - 128, by omega⟩ ⟨(y 2).val - 128, by omega⟩) y ?_).trans ((g1 _).trans (e _ _ ?_ ?_))
      · intro a; fin_cases a
        · exact h
        · show (y 1).val = 128 + 1 * ((y 1).val - 128); omega
        · show (y 2).val = 128 + 1 * ((y 2).val - 128); omega
      · show 128 * 1 + ((y 2).val - 128) = (y 2).val; omega
      · show 256 * o4 + (2 * ((y 1).val - 128) + 1) = 256 * (y 0).val + (2 * ((y 1).val % 128) + (y 1).val / 128); omega
  · have hc : (y 0).val < o4 ∨ o4 + 1 ≤ (y 0).val := by omega
    rw [View.read_writes_cons_miss_of_axis _ _ _ _ y 0 o4 1 rfl rfl rfl hc, View.read_writes_cons_miss_of_axis _ _ _ _ y 0 o4 1 rfl rfl rfl hc,
      View.read_writes_cons_miss_of_axis _ _ _ _ y 0 o4 1 rfl rfl rfl hc, View.read_writes_cons_miss_of_axis _ _ _ _ y 0 o4 1 rfl rfl rfl hc]
    show arg10.view.read (Elt F) f y = _
    rw [hf]
    unfold partX
    by_cases hl : (y 0).val < o4
    · rw [if_pos hl, if_pos (by omega)]
    · rw [if_neg hl, if_neg (by omega)]

/-- The column offset of input tile `k`. -/
theorem tileOff_eq (k : Fin 35) : BitVec.toNat (Scalar.indexCast (Scalar.muli (Scf.iv 0#32 1#32 k.val) 256#32)) = 256 * k.val := by
  revert k; decide +kernel

/-- The tile index of input tile `k`. -/
theorem tileIdx_eq (k : Fin 35) : BitVec.toNat (Scalar.indexCast (Scf.iv 0#32 1#32 k.val)) = k.val := by
  revert k; decide +kernel

variable (c : Dev nD) (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (k0_h1 : k0_cond1 i = 1#1)

/-- One trip extends the filled tiles by one. -/
theorem writes_tripX (X2 : BufTy.Contents (Elt F) arg2.view.ty) (G : S35x256x256.Idx → Elt F .bf16) (k : Fin k0_t1_loop.trips) :
    arg10.view.writes (Elt F) (harg10.unread (partX (arg2.view.read (Elt F) X2) G k.val)) (tripX c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X2 k).1
      = harg10.unread (partX (arg2.view.read (Elt F) X2) G (k.val + 1)) := by
  have hk : k.val < 35 := Nat.lt_of_lt_of_le k.isLt k0_t1_abs.2.1
  refine harg10.eq_unread ?_
  unfold tripX
  dsimp only
  sl_unfold_words
  refine xs_extend _ _ k.val hk _ _ _ _ (tileIdx_eq ⟨k.val, hk⟩) (tileIdx_eq ⟨k.val, hk⟩) (tileIdx_eq ⟨k.val, hk⟩) (tileIdx_eq ⟨k.val, hk⟩) _ _ _ _ _ _ _ _ ?_ ?_ ?_ ?_ G (harg10.read_unread _)
  · intro x
    refine (deint_odd _ _ _ _ _ _ _ _ _ x).trans ((tmp_read _ _ _ _ _).trans ?_)
    exact xt_apply X2 k.val 1 128 _ hk (by omega) rfl (tileOff_eq ⟨k.val, hk⟩) _ _ _ _ _ _
  · intro x
    refine (deint_even _ _ _ _ _ _ _ _ _ x).trans ((tmp_read _ _ _ _ _).trans ?_)
    exact xt_apply X2 k.val 1 128 _ hk (by omega) rfl (tileOff_eq ⟨k.val, hk⟩) _ _ _ _ _ _
  · intro x
    refine (deint_odd _ _ _ _ _ _ _ _ _ x).trans ((tmp_read _ _ _ _ _).trans ?_)
    exact xt_apply X2 k.val 0 0 _ hk (by omega) rfl (tileOff_eq ⟨k.val, hk⟩) _ _ _ _ _ _
  · intro x
    refine (deint_even _ _ _ _ _ _ _ _ _ x).trans ((tmp_read _ _ _ _ _).trans ?_)
    exact xt_apply X2 k.val 0 0 _ hk (by omega) rfl (tileOff_eq ⟨k.val, hk⟩) _ _ _ _ _ _

end Cert.KernelIdeal.Val

end
-- ==== Proof.LbsDefs.lean ====
/- The second LoRA factor, transposed and put in the order of the accumulator rows. -/
module

public import proofs.«01_k».proof.Proof.XsTile
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

/-- A lane of an accumulator row, as a column of the output block. -/
def rowCol (s : Fin 1024) : Fin 1024 := ⟨32 * (s.val / 32) + 2 * (s.val % 16) + s.val % 32 / 16, by have := s.isLt; omega⟩

/-- The LoRA factor in accumulator order. -/
def lbsC (LB : S16x1024.Idx → Elt F .bf16) : S1024x16.Idx → Elt F .bf16 := fun y => LB (ValueIdx.ix2 (y 1) (rowCol (y 0)))

/-- Sixteen rows of one parity out of sixteen row pairs. -/
def lbsTile (e : Fin 2) (r0 r1 : Vec F S8x2x128 .bf16) : FVec F S16x16 .bf16 :=
  shapeCast S16x16 (interleaveRows S16x16
        (extractStridedSlice S8x16 ![0, 0] (shapeCast S8x128 (rowsOfParity e S8x1x128 r0 bitcasts_S8x2x128_w16_S8x1x128_w32) shapeCasts_S8x1x128_S8x128) slices_S8x128_o0_0_S8x16)
        (extractStridedSlice S8x16 ![0, 0] (shapeCast S8x128 (rowsOfParity e S8x1x128 r1 bitcasts_S8x2x128_w16_S8x1x128_w32) shapeCasts_S8x1x128_S8x128) slices_S8x128_o0_0_S8x16) bitcasts_S16x16_w16_S8x16_w32) shapeCasts_S16x16_S16x16

/-- The transposed block of the factor in the transpose scratch, read back. -/
theorem lbsSrc {arg13 : Memref sig .tc .vmem S256x128 .bf16} {arg7 : Memref sig .tc .vmem S16x1024 .bf16} (X7 : BufTy.Contents (Elt F) arg7.view.ty) (f : BufTy.Contents (Elt F) arg13.view.ty)
    (j o : ℕ) (hj : j < 8) (ho : o = 128 * j) (inb inb') (p2 p3) (L) (r l : ℕ) (hr : r < 128) (hl : l < 16) :
    arg13.view.read (Elt F) (arg13.view.writes (Elt F) f (⟨Rect.unit (s := S256x128) ![0, 0] ![128, 16] inb,
        shapeCast S128x16 (transpose S128x16 [1, 0] (View.readAt (Elt F) arg7.view (Rect.unit (s := S16x1024) ![0, o] ![16, 128] inb').toLoadRect X7) p2) p3⟩ :: L))
        (ValueIdx.ix2 ⟨r, by omega⟩ ⟨l, by omega⟩)
      = arg7.view.read (Elt F) X7 (ValueIdx.ix2 ⟨l, hl⟩ ⟨128 * j + r, by omega⟩) := by
  subst ho
  refine (View.read_writes_cons_hit_of_coords _ f (Rect.unit (s := S256x128) ![0, 0] ![128, 16] inb) _ L (ValueIdx.ix2 (n0 := 128) (n1 := 16) ⟨r, hr⟩ ⟨l, hl⟩) _ fun a => ?_).trans ?_
  · fin_cases a <;> (show _ = 0 + 1 * _; rw [Nat.one_mul, Nat.zero_add])
  rw [shapeCast_id]
  refine (transpose_apply (s := S16x128) (t := S128x16) [1, 0] _ p2 (ValueIdx.ix2 (n0 := 128) (n1 := 16) ⟨r, hr⟩ ⟨l, hl⟩) (ValueIdx.ix2 (n0 := 16) (n1 := 128) ⟨l, hl⟩ ⟨r, hr⟩) (fun b => by fin_cases b <;> rfl)).trans
    ?_
  refine congrArg (arg7.view.read (Elt F) X7) (funext fun a => Fin.ext ?_)
  fin_cases a
  · show 0 + 1 * l = _; rw [Nat.one_mul, Nat.zero_add]
  · show 128 * j + 1 * r = _; rw [Nat.one_mul]

/-- Each store of sixteen rows writes its block of `lbsC`. -/
theorem lbsPiece {arg13 : Memref sig .tc .vmem S256x128 .bf16} (LB : S16x1024.Idx → Elt F .bf16) (e : Fin 2) (j q b0 b1 o : ℕ) (hj : j < 8) (hq : q < 4) (hb0 : b0 = 16 * q) (hb1 : b1 = 16 * q + 1)
    (ho : o = 128 * j + 32 * q + 16 * e.val) (h1 h2 h3 h1' h2' h3') (inb0 inb1) (inb) (f : BufTy.Contents (Elt F) arg13.view.ty)
    (x : (Rect.unit (s := S1024x16) ![o, 0] ![16, 16] inb).shape.Idx)
    (hf : ∀ (r l : ℕ) (hr : r < 128) (hl : l < 16), arg13.view.read (Elt F) f (ValueIdx.ix2 ⟨r, by omega⟩ ⟨l, by omega⟩) = LB (ValueIdx.ix2 ⟨l, hl⟩ ⟨128 * j + r, by omega⟩)) :
    lbsTile e (View.readAt (Elt F) (arg13.reshape S128x2x128 h1 h2 h3).view { off := ![b0, 0, 0], size := ![8, 2, 128], stride := ![2, 1, 1], inb := inb0 } f)
        (View.readAt (Elt F) (arg13.reshape S128x2x128 h1' h2' h3').view { off := ![b1, 0, 0], size := ![8, 2, 128], stride := ![2, 1, 1], inb := inb1 } f) x
      = lbsC LB ((Rect.unit (s := S1024x16) ![o, 0] ![16, 16] inb).emb x) := by
  subst ho
  have x0 : (x 0).val < 16 := (x 0).isLt
  have x1 : (x 1).val < 16 := (x 1).isLt
  have he := e.isLt
  refine (deint8 e b0 b1 q hq hb0 hb1 h1 h2 h3 h1' h2' h3' inb0 inb1 f _ _ _ _ _ _ _ _ x).trans ((hf (32 * q + 2 * (x 0).val + e.val) (x 1).val (by omega) x1).trans ?_)
  have y0 : ((Rect.unit (s := S1024x16) ![128 * j + 32 * q + 16 * e.val, 0] ![16, 16] inb).emb x 0).val = 128 * j + 32 * q + 16 * e.val + (x 0).val := by
    show _ + 1 * (x 0).val = _; rw [Nat.one_mul]; rfl
  have y1 : ((Rect.unit (s := S1024x16) ![128 * j + 32 * q + 16 * e.val, 0] ![16, 16] inb).emb x 1).val = (x 1).val := by
    show 0 + 1 * (x 1).val = _; rw [Nat.one_mul, Nat.zero_add]
  generalize (Rect.unit (s := S1024x16) ![128 * j + 32 * q + 16 * e.val, 0] ![16, 16] inb).emb x = y at y0 y1
  unfold lbsC rowCol
  refine congrArg₂ (fun a b => LB (ValueIdx.ix2 a b)) (Fin.ext y1.symm) (Fin.ext ?_)
  show 128 * j + (32 * q + 2 * (x 0).val + e.val) = 32 * ((y 0).val / 32) + 2 * ((y 0).val % 16) + (y 0).val % 32 / 16
  omega

end Cert.KernelIdeal.Val

end
-- ==== Proof.WsTile.lean ====
/- One trip of the weight loop: the weight tiles it unpacks, scales and stores, and the accumulator it leaves. -/
module

public import proofs.«01_k».proof.Proof.WsTrip
public import proofs.«01_k».proof.Proof.Gen.KernelIdeal.Frame
public import proofs.«01_k».proof.Proof.Gen.KernelIdeal.Loops
public import proofs.«01_k».proof.Proof.Gen.KernelIdeal.Points
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen

variable {F : FTy → Type} [FloatOps F]

open ValueIdx

variable (c : Dev nD) (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (k0_h1 : k0_cond1 i = 1#1) (v8311 : IVec S32x128 8) (v8313 : IVec S32x128 8) (v8318 : IVec S32x128 1) (c0_i32_3301 : BitVec 32) (c35_i32 : BitVec 32)

set_option maxRecDepth 65536 in
set_option maxHeartbeats 0 in
/-- One trip adds the product of its weight tiles and its input tile to the accumulator. -/
theorem tripW_writes (X3 : BufTy.Contents (Elt F) arg3.view.ty) (X10 : BufTy.Contents (Elt F) arg10.view.ty) (X11 : BufTy.Contents (Elt F) arg11.view.ty) (k : Fin k0_t2_loop.trips) (hk : k.val < 35) (f16) :
    (tripW c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v8311 v8313 v8318 0#32 35#32 X3 X10 X11 k).1 f16
      = [⟨Rect.unit ![0, 0] ![1024, 256] inb_S1024x256_S1024x256_0_0,
          k0_pay485 (View.readAt (Elt F) arg16.view (Rect.unit (s := S1024x256) ![0, 0] ![1024, 256] inb_S1024x256_S1024x256_0_0).toLoadRect f16)
            (wsC v8311 v8313 v8318 (k0_pay6 0#32 1#32 k) (arg3.view.read (Elt F) X3) (arg11.view.read (Elt F) X11) ⟨k.val, hk⟩)
            (View.readAt (Elt F) arg10.view (Rect.unit (s := S35x256x256) (k0_off103 k) ![1, 256, 256] (k0_off103_inb k)).toLoadRect X10)⟩] := by
  unfold tripW
  dsimp only
  have key : tripW.sl.v11490 arg3 arg11 arg15 v8311 v8313 v8318 0#32 X3 X11 k
      = wsC v8311 v8313 v8318 (k0_pay6 0#32 1#32 k) (arg3.view.read (Elt F) X3) (arg11.view.read (Elt F) X11) ⟨k.val, hk⟩ := by
    unfold tripW.sl.v11490
    sl_unfold_words
    rw [View.readCov_eq_canon' ]
    funext j
    refine View.canon_apply_of_pieces (wsC v8311 v8313 v8318 (k0_pay6 0#32 1#32 k) (arg3.view.read (Elt F) X3) (arg11.view.read (Elt F) X11) ⟨k.val, hk⟩) _
      (View.PiecesOf.mem ?_) _ (View.cover_of_tiled _ ![16, 128] ?_ _) |>.trans ?_
    · refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 31 1 1 992 31 16 1008 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 31 1 0 992 31 0 992 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 31 0 1 992 31 16 1008 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 31 0 0 992 31 0 992 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 30 1 1 960 30 16 976 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 30 1 0 960 30 0 960 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 30 0 1 960 30 16 976 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 30 0 0 960 30 0 960 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 29 1 1 928 29 16 944 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 29 1 0 928 29 0 928 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 29 0 1 928 29 16 944 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 29 0 0 928 29 0 928 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 28 1 1 896 28 16 912 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 28 1 0 896 28 0 896 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 28 0 1 896 28 16 912 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 28 0 0 896 28 0 896 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 27 1 1 864 27 16 880 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 27 1 0 864 27 0 864 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 27 0 1 864 27 16 880 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 27 0 0 864 27 0 864 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 26 1 1 832 26 16 848 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 26 1 0 832 26 0 832 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 26 0 1 832 26 16 848 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 26 0 0 832 26 0 832 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 25 1 1 800 25 16 816 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 25 1 0 800 25 0 800 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 25 0 1 800 25 16 816 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 25 0 0 800 25 0 800 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 24 1 1 768 24 16 784 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 24 1 0 768 24 0 768 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 24 0 1 768 24 16 784 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 24 0 0 768 24 0 768 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 23 1 1 736 23 16 752 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 23 1 0 736 23 0 736 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 23 0 1 736 23 16 752 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 23 0 0 736 23 0 736 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 22 1 1 704 22 16 720 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 22 1 0 704 22 0 704 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 22 0 1 704 22 16 720 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 22 0 0 704 22 0 704 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 21 1 1 672 21 16 688 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 21 1 0 672 21 0 672 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 21 0 1 672 21 16 688 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 21 0 0 672 21 0 672 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 20 1 1 640 20 16 656 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 20 1 0 640 20 0 640 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 20 0 1 640 20 16 656 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 20 0 0 640 20 0 640 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 19 1 1 608 19 16 624 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 19 1 0 608 19 0 608 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 19 0 1 608 19 16 624 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 19 0 0 608 19 0 608 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 18 1 1 576 18 16 592 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 18 1 0 576 18 0 576 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 18 0 1 576 18 16 592 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 18 0 0 576 18 0 576 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 17 1 1 544 17 16 560 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 17 1 0 544 17 0 544 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 17 0 1 544 17 16 560 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 17 0 0 544 17 0 544 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 16 1 1 512 16 16 528 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 16 1 0 512 16 0 512 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 16 0 1 512 16 16 528 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 16 0 0 512 16 0 512 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 15 1 1 480 15 16 496 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 15 1 0 480 15 0 480 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 15 0 1 480 15 16 496 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 15 0 0 480 15 0 480 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 14 1 1 448 14 16 464 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 14 1 0 448 14 0 448 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 14 0 1 448 14 16 464 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 14 0 0 448 14 0 448 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 13 1 1 416 13 16 432 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 13 1 0 416 13 0 416 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 13 0 1 416 13 16 432 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 13 0 0 416 13 0 416 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 12 1 1 384 12 16 400 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 12 1 0 384 12 0 384 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 12 0 1 384 12 16 400 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 12 0 0 384 12 0 384 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 11 1 1 352 11 16 368 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 11 1 0 352 11 0 352 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 11 0 1 352 11 16 368 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 11 0 0 352 11 0 352 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 10 1 1 320 10 16 336 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 10 1 0 320 10 0 320 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 10 0 1 320 10 16 336 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 10 0 0 320 10 0 320 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 9 1 1 288 9 16 304 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 9 1 0 288 9 0 288 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 9 0 1 288 9 16 304 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 9 0 0 288 9 0 288 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 8 1 1 256 8 16 272 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 8 1 0 256 8 0 256 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 8 0 1 256 8 16 272 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 8 0 0 256 8 0 256 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 7 1 1 224 7 16 240 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 7 1 0 224 7 0 224 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 7 0 1 224 7 16 240 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 7 0 0 224 7 0 224 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 6 1 1 192 6 16 208 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 6 1 0 192 6 0 192 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 6 0 1 192 6 16 208 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 6 0 0 192 6 0 192 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 5 1 1 160 5 16 176 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 5 1 0 160 5 0 160 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 5 0 1 160 5 16 176 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 5 0 0 160 5 0 160 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 4 1 1 128 4 16 144 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 4 1 0 128 4 0 128 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 4 0 1 128 4 16 144 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 4 0 0 128 4 0 128 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 3 1 1 96 3 16 112 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 3 1 0 96 3 0 96 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 3 0 1 96 3 16 112 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 3 0 0 96 3 0 96 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 2 1 1 64 2 16 80 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 2 1 0 64 2 0 64 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 2 0 1 64 2 16 80 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 2 0 0 64 2 0 64 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 1 1 1 32 1 16 48 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 1 1 0 32 1 0 32 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 1 0 1 32 1 16 48 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 1 0 0 32 1 0 32 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 1 from rfl) x).trans ?_
        rw [← hw, ← ha]
        exact wsPiece v8311 v8313 v8318 _ X3 X11 k.val hk 0 1 1 0 0 16 16 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 1 0 from rfl) x).trans ?_
        rw [← hw, ← ha]
        exact wsPiece v8311 v8313 v8318 _ X3 X11 k.val hk 0 1 0 0 0 0 0 128 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 1 from rfl) x).trans ?_
        rw [← hw, ← ha]
        exact wsPiece v8311 v8313 v8318 _ X3 X11 k.val hk 0 0 1 0 0 16 16 0 _ _ _ rfl rfl rfl rfl rfl x
      refine ⟨fun x => ?_, ?_⟩
      · dsimp only
        generalize hw : View.readAt (Elt F) arg3.view _ X3 = w
        generalize ha : View.readAt (Elt F) arg11.view _ X11 = a
        refine (congrFun (show _ = wsTile v8311 v8313 v8318 (k0_pay6 0#32 1#32 k) w a 0 0 from rfl) x).trans ?_
        rw [← hw, ← ha]
        exact wsPiece v8311 v8313 v8318 _ X3 X11 k.val hk 0 0 0 0 0 0 0 0 _ _ _ rfl rfl rfl rfl rfl x
      trivial
    · rfl
    · exact congrArg _ (funext fun a => Fin.ext (by fin_cases a <;> (show 0 + 1 * _ = _; omega)))
  rw [key]

end Cert.KernelIdeal.Val

end
-- ==== Proof.WsLoop.lean ====
/- The weight loop: what the accumulator holds after its first trips, and the loop's invariant. -/
module

public import proofs.«01_k».proof.Proof.WsTile
public import proofs.«01_k».proof.Proof.Gen.KernelIdeal.Frame
public import proofs.«01_k».proof.Proof.Gen.KernelIdeal.Loops
public import proofs.«01_k».proof.Proof.Gen.KernelIdeal.Points
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

/-- The lanes the scales of tile `k` are gathered at. -/
def siC (k : ℕ) : IVec S16x128 32 :=
  addi (broadcast S16x128 (Scalar.andi (Scalar.muli (Scf.iv 0#32 1#32 k) 4#32) 127#32))
    (shrui (iota .tc S16x128 32 [1] iota_S16x128_d1_w32) (broadcast S16x128 5#32))

/-- The block of the tile scratch that holds tile `k`. -/
def xsLoad (XS : S35x256x256.Idx → Elt F .bf16) (k : Fin 35) : Vec F S1x256x256 .bf16 := fun x => XS (ix3 k (x 1) (x 2))

/-- One trip's accumulator. -/
def accStep (v8311 v8313 : IVec S32x128 8) (v8318 : IVec S32x128 1) (W : S1024x4480.Idx → Elt F .i8) (XS : S35x256x256.Idx → Elt F .bf16)
    (AB : S2x32x32x128.Idx → Elt F .bf16) (A : S1024x256.Idx → Elt F .f32) (k : Fin 35) : S1024x256.Idx → Elt F .f32 :=
  k0_pay485 A (wsC v8311 v8313 v8318 (siC k.val) W AB k) (xsLoad XS k)

/-- A load of tile `k`. -/
theorem xsLoad_eq {arg10 : Memref sig .tc .vmem S35x256x256 .bf16} (X10 : BufTy.Contents (Elt F) arg10.view.ty) (k : Fin 35) {off : Fin 3 → ℕ} (inb)
    (h : off = ![k.val, 0, 0]) :
    View.readAt (Elt F) arg10.view (Rect.unit (s := S35x256x256) off ![1, 256, 256] inb).toLoadRect X10 = xsLoad (arg10.view.read (Elt F) X10) k := by
  subst h
  funext x
  refine congrArg (arg10.view.read (Elt F) X10) (funext fun a => Fin.ext ?_)
  have e0 : (x 0).val = 0 := by have : (x 0).val < 1 := (x 0).isLt; omega
  fin_cases a
  · show _ + 1 * (x 0).val = _; rw [e0]; rfl
  · show 0 + 1 * _ = _; rw [Nat.one_mul, Nat.zero_add]; rfl
  · show 0 + 1 * _ = _; rw [Nat.one_mul, Nat.zero_add]; rfl

/-- Reading a whole buffer back by a whole load. -/
theorem readAt_whole2 {n m : ℕ} {e : EltTy} {sp : Space} {arg : Memref sig .tc sp ⟨2, ![n, m]⟩ e} (f : BufTy.Contents (Elt F) arg.view.ty) (inb) :
    View.readAt (Elt F) arg.view (Rect.unit (s := ⟨2, ![n, m]⟩) ![0, 0] ![n, m] inb).toLoadRect f = arg.view.read (Elt F) f := by
  funext x
  refine congrArg (arg.view.read (Elt F) f) (funext fun a => Fin.ext ?_)
  fin_cases a <;> (show 0 + 1 * _ = _; rw [Nat.one_mul, Nat.zero_add])

/-- A store of a whole buffer leaves the stored value. -/
theorem writes_whole2 {n m : ℕ} {e : EltTy} {sp : Space} {arg : Memref sig .tc sp ⟨2, ![n, m]⟩ e} (harg : arg.IsWhole) (f : BufTy.Contents (Elt F) arg.view.ty) (inb)
    (w : (⟨2, ![n, m]⟩ : Shape).Idx → Elt F e) :
    arg.view.writes (Elt F) f [⟨Rect.unit (s := ⟨2, ![n, m]⟩) ![0, 0] ![n, m] inb, w⟩] = harg.unread w := by
  refine harg.eq_unread (funext fun y => ?_)
  refine View.read_writes_cons_hit_of_coords _ f (Rect.unit (s := ⟨2, ![n, m]⟩) ![0, 0] ![n, m] inb) w [] y y fun a => ?_
  fin_cases a <;> (show _ = 0 + 1 * _; rw [Nat.one_mul, Nat.zero_add])

/-- The accumulator after the trips before `k`. -/
def accC {arg16 : Memref sig .tc .vmem S1024x256 .f32} (harg16 : arg16.IsWhole) (v8311 v8313 : IVec S32x128 8) (v8318 : IVec S32x128 1) (W : S1024x4480.Idx → Elt F .i8) (XS : S35x256x256.Idx → Elt F .bf16)
    (AB : S2x32x32x128.Idx → Elt F .bf16) (G : BufTy.Contents (Elt F) arg16.view.ty) : ℕ → BufTy.Contents (Elt F) arg16.view.ty
  | 0 => G
  | k + 1 => if h : k < 35 then harg16.unread (accStep v8311 v8313 v8318 W XS AB (arg16.view.read (Elt F) (accC harg16 v8311 v8313 v8318 W XS AB G k)) ⟨k, h⟩)
      else accC harg16 v8311 v8313 v8318 W XS AB G k

variable (c : Dev nD) (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (k0_h1 : k0_cond1 i = 1#1) (v8311 : IVec S32x128 8) (v8313 : IVec S32x128 8) (v8318 : IVec S32x128 1)

/-- A trip's stores leave the next accumulator. -/
theorem accC_succ (X3 : BufTy.Contents (Elt F) arg3.view.ty) (X10 : BufTy.Contents (Elt F) arg10.view.ty) (X11 : BufTy.Contents (Elt F) arg11.view.ty) (G16 : BufTy.Contents (Elt F) arg16.view.ty) (k : Fin k0_t2_loop.trips) (f16)
    (hf : f16 = accC harg16 v8311 v8313 v8318 (arg3.view.read (Elt F) X3) (arg10.view.read (Elt F) X10) (arg11.view.read (Elt F) X11) G16 k.val) :
    arg16.view.writes (Elt F) f16 ((tripW c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v8311 v8313 v8318 0#32 35#32 X3 X10 X11 k).1 f16)
      = accC harg16 v8311 v8313 v8318 (arg3.view.read (Elt F) X3) (arg10.view.read (Elt F) X10) (arg11.view.read (Elt F) X11) G16 (k.val + 1) := by
  have hk : k.val < 35 := Nat.lt_of_lt_of_le k.isLt k0_t2_abs.2.1
  rw [tripW_writes (hk := hk), writes_whole2 harg16, readAt_whole2, xsLoad_eq X10 ⟨k.val, hk⟩ _ (k0_off103_eq k), hf]
  show _ = dite _ _ _
  rw [dif_pos hk]
  rfl

/-- The weight loop's invariant: packed weights, tiles and scales as they are, the accumulator after the trips so far. -/
@[sl_loop] def loopW (X3 : BufTy.Contents (Elt F) arg3.view.ty) (X10 : BufTy.Contents (Elt F) arg10.view.ty) (X11 : BufTy.Contents (Elt F) arg11.view.ty) (G16 : BufTy.Contents (Elt F) arg16.view.ty) :
    LoopInvTy_k0_t2 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v8311 v8313 v8318 0#32 35#32 where
  inv := fun k _ => iprop((arg3.view.loc (c : Thread nD τ) ↦[arg3.view.set]{fullShare} X3) ∗ (arg10.view.loc (c : Thread nD τ) ↦[arg10.view.set]{fullShare} X10) ∗ (arg11.view.loc (c : Thread nD τ) ↦[arg11.view.set]{fullShare} X11) ∗ (∃ f15 : BufTy.Contents (Elt F) arg15.view.ty, arg15.view.loc (c : Thread nD τ) ↦[arg15.view.set]{fullShare} f15)
    ∗ (arg16.view.loc (c : Thread nD τ) ↦[arg16.view.set]{fullShare} (accC harg16 v8311 v8313 v8318 (arg3.view.read (Elt F) X3) (arg10.view.read (Elt F) X10) (arg11.view.read (Elt F) X11) G16 k)))
  step := fun k _ => by
    iintro ⟨H3, H10, H11, H15, H16⟩
    iapply (wp_wand_r Idealize.ShloMosaic.frame (wpE (defs₀ (F := F)) 𝒱₀ (c : Thread nD τ) none) Set.univ)
    isplitl [H3 H10 H11 H15 H16]
    · iapply ((tripW c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v8311 v8313 v8318 0#32 35#32 X3 X10 X11 k).2 _)
      isplitl [H3]; · iexact H3
      isplitl [H10]; · iexact H10
      isplitl [H11]; · iexact H11
      isplitl [H15]; · iexact H15
      iexact H16
    · iintro %_ ⟨H3, H10, H11, H15, H16⟩
      isplitl [H3]; · iexact H3
      isplitl [H10]; · iexact H10
      isplitl [H11]; · iexact H11
      isplitl [H15]; · iexact H15
      rw [← accC_succ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v8311 v8313 v8318 X3 X10 X11 G16 k _ rfl]
      iexact H16

end Cert.KernelIdeal.Val

end
-- ==== Proof.AbsDefs.lean ====
/- The double-quantised scales: what the scale scratch holds once it is filled. -/
module

public import proofs.«01_k».proof.Proof.WsLoop
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

/-- Four of the scale values a lane of codes holds: byte `b` of every word, times its group's scale, plus the offset. -/
def absHalf (c : Vec F S32x128 .i8) (g : Vec F S1x128 .f32) (o : Elt F .f32) (b p lt : BitVec 32) (sh : BitVec 32) : FVec F S8x128 .f32 :=
  addf (mulf (sitofp .f32 (shrsi (shli (bitcast S8x128 32 c bitcasts_S32x128_w8_S8x128_w32) (broadcast S8x128 sh)) (broadcast S8x128 24#32)))
    (dynamicGather 1 (broadcastTo S8x128 (shapeCast S1x128 (shapeCast S1x128 g shapeCasts_S1x128_S1x128) shapeCasts_S1x128_S1x128) broadcasts_S1x128_S8x128)
      (shapeCast S8x128 (shapeCast S8x128x1 (minsi (shrsi (addi (addi (muli (addi (addi (muli (broadcast S8x128 4#32) (iota .tc S8x128 32 [0] iota_S8x128_d0_w32)) (broadcast S8x128 b)) (broadcast S8x128 p)) (broadcast S8x128 140#32)) (iota .tc S8x128 32 [1] iota_S8x128_d1_w32)) (broadcast S8x128 lt)) (broadcast S8x128 8#32)) (broadcast S8x128 127#32)) shapeCasts_S8x128_S8x128x1) shapeCasts_S8x128x1_S8x128)))
    (broadcast S8x128 o)

/-- The offset a row group's half starts at. -/
def pOff : Fin 2 → BitVec 32 | 0 => 0#32 | 1 => 32#32
/-- The offset a lane block starts at. -/
def ltOff : Fin 2 → BitVec 32 | 0 => 0#32 | 1 => 128#32
/-- The two bytes of a word the rows of one parity come from. -/
def bOff : Fin 2 → Fin 2 → BitVec 32 | 0, 0 => 0#32 | 0, 1 => 2#32 | 1, 0 => 1#32 | 1, 1 => 3#32
/-- How far to shift a word to bring one of its bytes to the top. -/
def shOff : Fin 2 → Fin 2 → BitVec 32 | 0, 0 => 24#32 | 0, 1 => 8#32 | 1, 0 => 16#32 | 1, 1 => 0#32

/-- The scales of sixteen rows of one parity. -/
def absTile (c : Vec F S32x128 .i8) (g : Vec F S1x128 .f32) (o : Elt F .f32) (p lt eo : Fin 2) : FVec F S1x1x16x128 .bf16 :=
  shapeCast S1x1x16x128 (interleaveRows S16x128 (truncf .bf16 (absHalf c g o (bOff eo 0) (pOff p) (ltOff lt) (shOff eo 0)) bitsLt_bf16_f32)
    (truncf .bf16 (absHalf c g o (bOff eo 1) (pOff p) (ltOff lt) (shOff eo 1)) bitsLt_bf16_f32) bitcasts_S16x128_w16_S8x128_w32) shapeCasts_S16x128_S1x1x16x128

/-- The codes of row group `R` and lane block `lt`. -/
def codeLoad (C : S1024x256.Idx → Elt F .i8) (R : Fin 32) (lt : Fin 2) : Vec F S32x128 .i8 :=
  fun x => C (ix2 ⟨32 * R.val + (x 0).val, by have := R.isLt; have : (x 0).val < 32 := (x 0).isLt; show _ < 1024; omega⟩
    ⟨128 * lt.val + (x 1).val, by have := lt.isLt; have : (x 1).val < 128 := (x 1).isLt; show _ < 256; omega⟩)

/-- A row of group scales. -/
def gsLoad (G : S16x128.Idx → Elt F .f32) (rb : Fin 16) : Vec F S1x128 .f32 := fun x => G (ix2 rb (x 1))

/-- The scale scratch, filled. -/
def absC (o : Elt F .f32) (C : S1024x256.Idx → Elt F .i8) (G : S16x128.Idx → Elt F .f32) : S2x32x32x128.Idx → Elt F .bf16 := fun y =>
  have h1 : (y 1).val < 32 := (y 1).isLt
  have h2 : (y 2).val < 32 := (y 2).isLt
  absTile (codeLoad C (y 1) (y 0)) (gsLoad G ⟨(y 1).val / 2, by omega⟩) o ⟨(y 1).val % 2, by omega⟩ (y 0) ⟨(y 2).val / 16, by omega⟩
    (ix4 0 0 ⟨(y 2).val % 16, by show _ < 16; omega⟩ (y 3))

/-- A load of 32 rows and 128 lanes of scale codes, in terms of the buffer's value. -/
theorem codeLoad_eq {arg4 : Memref sig .tc .vmem S1024x256 .i8} (X4 : BufTy.Contents (Elt F) arg4.view.ty) (R : Fin 32) (lt : Fin 2) {off : Fin 2 → ℕ} (inb)
    (h : off = ![32 * R.val, 128 * lt.val]) :
    View.readAt (Elt F) arg4.view (Rect.unit (s := S1024x256) off ![32, 128] inb).toLoadRect X4 = codeLoad (arg4.view.read (Elt F) X4) R lt := by
  subst h
  funext x
  refine congrArg (arg4.view.read (Elt F) X4) (funext fun a => Fin.ext ?_)
  fin_cases a <;> (show _ + 1 * _ = _; rw [Nat.one_mul]; rfl)

/-- A load of one row of group scales, in terms of the buffer's value. -/
theorem gsLoad_eq {arg5 : Memref sig .tc .vmem S16x128 .f32} (X5 : BufTy.Contents (Elt F) arg5.view.ty) (rb : Fin 16) {off : Fin 2 → ℕ} (inb)
    (h : off = ![rb.val, 0]) :
    View.readAt (Elt F) arg5.view (Rect.unit (s := S16x128) off ![1, 128] inb).toLoadRect X5 = gsLoad (arg5.view.read (Elt F) X5) rb := by
  subst h
  funext x
  refine congrArg (arg5.view.read (Elt F) X5) (funext fun a => Fin.ext ?_)
  have e0 : (x 0).val = 0 := by have : (x 0).val < 1 := (x 0).isLt; omega
  fin_cases a
  · show _ + 1 * (x 0).val = _; rw [e0]; rfl
  · show 0 + 1 * _ = _; rw [Nat.one_mul, Nat.zero_add]; rfl

/-- Each store of scales writes its block of `absC`. -/
theorem absPiece {arg4 : Memref sig .tc .vmem S1024x256 .i8} {arg5 : Memref sig .tc .vmem S16x128 .f32}
    (X4 : BufTy.Contents (Elt F) arg4.view.ty) (X5 : BufTy.Contents (Elt F) arg5.view.ty) (o : Elt F .f32) (rb : Fin 16) (p lt eo : Fin 2)
    (oc o4 og o0 o1 o2 : ℕ) (inbc inbg inb) (hc : oc = 64 * rb.val + 32 * p.val) (h4 : o4 = 128 * lt.val) (hg : og = rb.val)
    (h0 : o0 = lt.val) (h1 : o1 = 2 * rb.val + p.val) (h2 : o2 = 16 * eo.val)
    (x : (Rect.unit (s := S2x32x32x128) ![o0, o1, o2, 0] ![1, 1, 16, 128] inb).shape.Idx) :
    absTile (View.readAt (Elt F) arg4.view (Rect.unit (s := S1024x256) ![oc, o4] ![32, 128] inbc).toLoadRect X4)
        (View.readAt (Elt F) arg5.view (Rect.unit (s := S16x128) ![og, 0] ![1, 128] inbg).toLoadRect X5) o p lt eo x
      = absC o (arg4.view.read (Elt F) X4) (arg5.view.read (Elt F) X5) ((Rect.unit (s := S2x32x32x128) ![o0, o1, o2, 0] ![1, 1, 16, 128] inb).emb x) := by
  subst hc h4 hg h0 h1 h2
  have hb := rb.isLt; have hp := p.isLt; have hl := lt.isLt; have he := eo.isLt
  have ec := codeLoad_eq X4 ⟨2 * rb.val + p.val, by omega⟩ lt inbc (by congr 1; show _ = 32 * (2 * rb.val + p.val); omega)
  have eg := gsLoad_eq X5 rb inbg rfl
  refine (congrArg (fun w => absTile w _ o p lt eo x) ec).trans ((congrArg (fun w => absTile _ w o p lt eo x) eg).trans ?_)
  have x0 : (x 0).val < 1 := (x 0).isLt
  have x1 : (x 1).val < 1 := (x 1).isLt
  have x2 : (x 2).val < 16 := (x 2).isLt
  have x3 : (x 3).val < 128 := (x 3).isLt
  have y0 : ((Rect.unit (s := S2x32x32x128) ![lt.val, 2 * rb.val + p.val, 16 * eo.val, 0] ![1, 1, 16, 128] inb).emb x 0).val = lt.val := by
    show _ + 1 * (x 0).val = _; rw [show (x 0).val = 0 by omega]; rfl
  have y1 : ((Rect.unit (s := S2x32x32x128) ![lt.val, 2 * rb.val + p.val, 16 * eo.val, 0] ![1, 1, 16, 128] inb).emb x 1).val = 2 * rb.val + p.val := by
    show _ + 1 * (x 1).val = _; rw [show (x 1).val = 0 by omega]; rfl
  have y2 : ((Rect.unit (s := S2x32x32x128) ![lt.val, 2 * rb.val + p.val, 16 * eo.val, 0] ![1, 1, 16, 128] inb).emb x 2).val = 16 * eo.val + (x 2).val := by
    show _ + 1 * _ = _; rw [Nat.one_mul]; rfl
  have y3 : ((Rect.unit (s := S2x32x32x128) ![lt.val, 2 * rb.val + p.val, 16 * eo.val, 0] ![1, 1, 16, 128] inb).emb x 3).val = (x 3).val := by
    show 0 + 1 * _ = _; rw [Nat.one_mul, Nat.zero_add]
  generalize (Rect.unit (s := S2x32x32x128) ![lt.val, 2 * rb.val + p.val, 16 * eo.val, 0] ![1, 1, 16, 128] inb).emb x = y at y0 y1 y2 y3
  unfold absC
  have e0 : y 0 = lt := Fin.ext y0
  have e1 : y 1 = (⟨2 * rb.val + p.val, by omega⟩ : Fin 32) := Fin.ext y1
  have eb : (⟨(y 1).val / 2, by omega⟩ : Fin 16) = rb := Fin.ext (by show (y 1).val / 2 = _; omega)
  have ep : (⟨(y 1).val % 2, by omega⟩ : Fin 2) = p := Fin.ext (by show (y 1).val % 2 = _; omega)
  have ee : (⟨(y 2).val / 16, by omega⟩ : Fin 2) = eo := Fin.ext (by show (y 2).val / 16 = _; omega)
  simp only [eb, ep, ee]
  rw [e0, e1]
  refine congrArg _ (funext fun a => Fin.ext ?_)
  fin_cases a
  · show (x 0).val = 0; omega
  · show (x 1).val = 0; omega
  · show (x 2).val = (y 2).val % 16; omega
  · show (x 3).val = (y 3).val; omega

end Cert.KernelIdeal.Val

end
-- ==== Proof.OutDefs.lean ====
/- How the output block is made from the accumulator. -/
module

public import proofs.«01_k».proof.Proof.LbsDefs
public import proofs.«01_k».proof.Proof.WsLoop
public import proofs.«01_k».proof.Proof.AbsDefs
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

/-- The accumulator row of an output column. -/
def colRow (n : Fin 1024) : Fin 1024 := ⟨32 * (n.val / 32) + 16 * (n.val % 2) + n.val % 32 / 2, by have := n.isLt; omega⟩

/-- The output block an accumulator gives. -/
def outC (A : S1024x256.Idx → Elt F .f32) : S256x1024.Idx → Elt F .bf16 := fun y => FloatOps.truncf .bf16 bitsLt_bf16_f32 (A (ValueIdx.ix2 (colRow (y 1)) (y 0)))

/-- The first sixteen output columns of a row group. -/
def outLo (b : Vec F S32x256 .f32) : FVec F S16x256 .bf16 :=
  interleaveRows S16x256 (truncf .bf16 (extractStridedSlice S8x256 ![0, 0] b slices_S32x256_o0_0_S8x256) bitsLt_bf16_f32)
    (truncf .bf16 (extractStridedSlice S8x256 ![16, 0] b slices_S32x256_o16_0_S8x256) bitsLt_bf16_f32) bitcasts_S16x256_w16_S8x256_w32

/-- The last sixteen output columns of a row group. -/
def outHi (b : Vec F S32x256 .f32) : FVec F S16x256 .bf16 :=
  interleaveRows S16x256 (truncf .bf16 (extractStridedSlice S8x256 ![8, 0] b slices_S32x256_o8_0_S8x256) bitsLt_bf16_f32)
    (truncf .bf16 (extractStridedSlice S8x256 ![24, 0] b slices_S32x256_o24_0_S8x256) bitsLt_bf16_f32) bitcasts_S16x256_w16_S8x256_w32

/-- A block of 128 output columns. -/
def outBlk (b0 b1 b2 b3 : Vec F S32x256 .f32) : FVec F S256x128 .bf16 :=
  transpose S256x128 [1, 0] (concatenate S128x256 0 [⟨S16x256, outLo b0⟩, ⟨S16x256, outHi b0⟩, ⟨S16x256, outLo b1⟩, ⟨S16x256, outHi b1⟩, ⟨S16x256, outLo b2⟩, ⟨S16x256, outHi b2⟩, ⟨S16x256, outLo b3⟩, ⟨S16x256, outHi b3⟩] concatenates_S16x256_S16x256_S16x256_S16x256_S16x256_S16x256_S16x256_S16x256_S128x256_d0) transposes_S128x256_p1_0_S256x128

/-- The eight pieces of a block, by number. -/
def outPart (b0 b1 b2 b3 : Vec F S32x256 .f32) : Fin 8 → S16x256.Idx → F .bf16
  | 0 => outLo b0 | 1 => outHi b0 | 2 => outLo b1 | 3 => outHi b1 | 4 => outLo b2 | 5 => outHi b2 | 6 => outLo b3 | 7 => outHi b3

/-- Sixteen output rows of the first half of a block: the accumulator row each one is. -/
theorem outLo_apply (b : Vec F S32x256 .f32) (r : Fin 16) (m : Fin 256) (k : Fin 32) (hk : k.val = 16 * (r.val % 2) + r.val / 2) :
    outLo b (ValueIdx.ix2 r m) = FloatOps.truncf .bf16 bitsLt_bf16_f32 (b (ValueIdx.ix2 k m)) := by
  refine (interleave_apply (n := 8) (m := 16) (w := 256) _ _ _ rfl _ _).trans ?_
  have hr := r.isLt
  split
  · refine congrArg (fun z => FloatOps.truncf .bf16 bitsLt_bf16_f32 (b z)) (funext fun a => Fin.ext ?_)
    fin_cases a
    · show 0 + r.val / 2 = k.val
      have : r.val % 2 = 0 := by assumption
      omega
    · show 0 + m.val = m.val; omega
  · refine congrArg (fun z => FloatOps.truncf .bf16 bitsLt_bf16_f32 (b z)) (funext fun a => Fin.ext ?_)
    fin_cases a
    · show 16 + r.val / 2 = k.val
      have : ¬ r.val % 2 = 0 := by assumption
      omega
    · show 0 + m.val = m.val; omega

/-- Sixteen output rows of the second half of a block: the accumulator row each one is. -/
theorem outHi_apply (b : Vec F S32x256 .f32) (r : Fin 16) (m : Fin 256) (k : Fin 32) (hk : k.val = 16 * (r.val % 2) + 8 + r.val / 2) :
    outHi b (ValueIdx.ix2 r m) = FloatOps.truncf .bf16 bitsLt_bf16_f32 (b (ValueIdx.ix2 k m)) := by
  refine (interleave_apply (n := 8) (m := 16) (w := 256) _ _ _ rfl _ _).trans ?_
  have hr := r.isLt
  split
  · refine congrArg (fun z => FloatOps.truncf .bf16 bitsLt_bf16_f32 (b z)) (funext fun a => Fin.ext ?_)
    fin_cases a
    · show 8 + r.val / 2 = k.val
      have : r.val % 2 = 0 := by assumption
      omega
    · show 0 + m.val = m.val; omega
  · refine congrArg (fun z => FloatOps.truncf .bf16 bitsLt_bf16_f32 (b z)) (funext fun a => Fin.ext ?_)
    fin_cases a
    · show 24 + r.val / 2 = k.val
      have : ¬ r.val % 2 = 0 := by assumption
      omega
    · show 0 + m.val = m.val; omega

/-- An element of 128 output columns: the accumulator at the row of that column, rounded. -/
theorem outBlk_apply (b0 b1 b2 b3 : Vec F S32x256 .f32) (A : S1024x256.Idx → Elt F .f32) (o : ℕ) (ho : o % 128 = 0) (ho' : o < 1024)
    (hb : ∀ (q : Fin 4) (k : Fin 32) (m : Fin 256), (![b0, b1, b2, b3] q) (ValueIdx.ix2 k m) = A (ValueIdx.ix2 ⟨o + 32 * q.val + k.val, by have := q.isLt; have := k.isLt; omega⟩ m)) (m : Fin 256) (n : Fin 128) :
    outBlk b0 b1 b2 b3 (ValueIdx.ix2 m n) = FloatOps.truncf .bf16 bitsLt_bf16_f32 (A (ValueIdx.ix2 (colRow ⟨o + n.val, by have := n.isLt; omega⟩) m)) := by
  have hn := n.isLt
  refine (transpose_apply (s := S128x256) (t := S256x128) [1, 0] _ transposes_S128x256_p1_0_S256x128 (ValueIdx.ix2 (n0 := 256) (n1 := 128) m n) (ValueIdx.ix2 (n0 := 128) (n1 := 256) n m) (fun b => by fin_cases b <;> rfl)).trans ?_
  refine (concatenate_ofFn_apply (t := S128x256) (s₁ := S16x256) 0 (outPart b0 b1 b2 b3) concatenates_S16x256_S16x256_S16x256_S16x256_S16x256_S16x256_S16x256_S16x256_S128x256_d0 rfl 16 rfl
    (ValueIdx.ix2 (n0 := 128) (n1 := 256) n m) ⟨n.val / 16, by omega⟩ rfl (ValueIdx.ix2 (n0 := 16) (n1 := 256) ⟨n.val % 16, by omega⟩ m) rfl (fun b hb => ?_)).trans ?_
  · fin_cases b
    · exact absurd rfl hb
    · rfl
  have key : ∀ (h : n.val / 16 < 8), outPart b0 b1 b2 b3 ⟨n.val / 16, h⟩ (ValueIdx.ix2 (n0 := 16) (n1 := 256) ⟨n.val % 16, by omega⟩ m)
      = FloatOps.truncf .bf16 bitsLt_bf16_f32 ((![b0, b1, b2, b3] ⟨n.val / 32, by omega⟩) (ValueIdx.ix2 (n0 := 32) (n1 := 256) ⟨16 * (n.val % 2) + n.val % 32 / 2, by omega⟩ m)) := by
    intro h
    rcases (by omega : n.val / 16 = 0 ∨ n.val / 16 = 1 ∨ n.val / 16 = 2 ∨ n.val / 16 = 3 ∨ n.val / 16 = 4 ∨ n.val / 16 = 5 ∨ n.val / 16 = 6 ∨ n.val / 16 = 7) with e | e | e | e | e | e | e | e
    · rw [show (⟨n.val / 16, h⟩ : Fin 8) = 0 from Fin.ext e, show (⟨n.val / 32, by omega⟩ : Fin 4) = 0 from Fin.ext (by show n.val / 32 = 0; omega)]
      exact outLo_apply b0 _ _ _ (by show 16 * (n.val % 2) + n.val % 32 / 2 = 16 * (n.val % 16 % 2)  + n.val % 16 / 2; omega)
    · rw [show (⟨n.val / 16, h⟩ : Fin 8) = 1 from Fin.ext e, show (⟨n.val / 32, by omega⟩ : Fin 4) = 0 from Fin.ext (by show n.val / 32 = 0; omega)]
      exact outHi_apply b0 _ _ _ (by show 16 * (n.val % 2) + n.val % 32 / 2 = 16 * (n.val % 16 % 2) + 8 + n.val % 16 / 2; omega)
    · rw [show (⟨n.val / 16, h⟩ : Fin 8) = 2 from Fin.ext e, show (⟨n.val / 32, by omega⟩ : Fin 4) = 1 from Fin.ext (by show n.val / 32 = 1; omega)]
      exact outLo_apply b1 _ _ _ (by show 16 * (n.val % 2) + n.val % 32 / 2 = 16 * (n.val % 16 % 2)  + n.val % 16 / 2; omega)
    · rw [show (⟨n.val / 16, h⟩ : Fin 8) = 3 from Fin.ext e, show (⟨n.val / 32, by omega⟩ : Fin 4) = 1 from Fin.ext (by show n.val / 32 = 1; omega)]
      exact outHi_apply b1 _ _ _ (by show 16 * (n.val % 2) + n.val % 32 / 2 = 16 * (n.val % 16 % 2) + 8 + n.val % 16 / 2; omega)
    · rw [show (⟨n.val / 16, h⟩ : Fin 8) = 4 from Fin.ext e, show (⟨n.val / 32, by omega⟩ : Fin 4) = 2 from Fin.ext (by show n.val / 32 = 2; omega)]
      exact outLo_apply b2 _ _ _ (by show 16 * (n.val % 2) + n.val % 32 / 2 = 16 * (n.val % 16 % 2)  + n.val % 16 / 2; omega)
    · rw [show (⟨n.val / 16, h⟩ : Fin 8) = 5 from Fin.ext e, show (⟨n.val / 32, by omega⟩ : Fin 4) = 2 from Fin.ext (by show n.val / 32 = 2; omega)]
      exact outHi_apply b2 _ _ _ (by show 16 * (n.val % 2) + n.val % 32 / 2 = 16 * (n.val % 16 % 2) + 8 + n.val % 16 / 2; omega)
    · rw [show (⟨n.val / 16, h⟩ : Fin 8) = 6 from Fin.ext e, show (⟨n.val / 32, by omega⟩ : Fin 4) = 3 from Fin.ext (by show n.val / 32 = 3; omega)]
      exact outLo_apply b3 _ _ _ (by show 16 * (n.val % 2) + n.val % 32 / 2 = 16 * (n.val % 16 % 2)  + n.val % 16 / 2; omega)
    · rw [show (⟨n.val / 16, h⟩ : Fin 8) = 7 from Fin.ext e, show (⟨n.val / 32, by omega⟩ : Fin 4) = 3 from Fin.ext (by show n.val / 32 = 3; omega)]
      exact outHi_apply b3 _ _ _ (by show 16 * (n.val % 2) + n.val % 32 / 2 = 16 * (n.val % 16 % 2) + 8 + n.val % 16 / 2; omega)
  refine (key _).trans (congrArg _ ((hb _ _ _).trans (congrArg (fun z => A (ValueIdx.ix2 z m)) (Fin.ext ?_))))
  show o + 32 * (n.val / 32) + (16 * (n.val % 2) + n.val % 32 / 2) = 32 * ((o + n.val) / 32) + 16 * ((o + n.val) % 2) + (o + n.val) % 32 / 2
  omega

/-- Each store of 128 columns writes its block of `outC`. -/
theorem outPiece {arg16 : Memref sig .tc .vmem S1024x256 .f32} (G : BufTy.Contents (Elt F) arg16.view.ty) (o o0 o1 o2 o3 : ℕ) (h : o % 128 = 0) (h' : o < 1024) (h0 : o0 = o) (h1 : o1 = o + 32) (h2 : o2 = o + 64) (h3 : o3 = o + 96)
    (i0 i1 i2 i3 inb) (x : (Rect.unit (s := S256x1024) ![0, o] ![256, 128] inb).shape.Idx) :
    outBlk (View.readAt (Elt F) arg16.view (Rect.unit (s := S1024x256) ![o0, 0] ![32, 256] i0).toLoadRect G) (View.readAt (Elt F) arg16.view (Rect.unit (s := S1024x256) ![o1, 0] ![32, 256] i1).toLoadRect G)
        (View.readAt (Elt F) arg16.view (Rect.unit (s := S1024x256) ![o2, 0] ![32, 256] i2).toLoadRect G) (View.readAt (Elt F) arg16.view (Rect.unit (s := S1024x256) ![o3, 0] ![32, 256] i3).toLoadRect G) x
      = outC (arg16.view.read (Elt F) G) ((Rect.unit (s := S256x1024) ![0, o] ![256, 128] inb).emb x) := by
  subst h0 h1 h2 h3
  have x1 : (x 1).val < 128 := (x 1).isLt
  rw [show x = ValueIdx.ix2 (n0 := 256) (n1 := 128) (x 0) (x 1) from funext fun a => by fin_cases a <;> rfl]
  refine (outBlk_apply _ _ _ _ (arg16.view.read (Elt F) G) o0 h h' (fun q k m => ?_) (x 0) (x 1)).trans ?_
  · have e : ∀ (p : ℕ) (inb') (hp : p + k.val < 1024), View.readAt (Elt F) arg16.view (Rect.unit (s := S1024x256) ![p, 0] ![32, 256] inb').toLoadRect G (ValueIdx.ix2 (n0 := 32) (n1 := 256) k m) = arg16.view.read (Elt F) G (ValueIdx.ix2 (n0 := 1024) (n1 := 256) ⟨p + k.val, hp⟩ m) := by
      intro p inb' hp
      refine congrArg (arg16.view.read (Elt F) G) (funext fun a => Fin.ext ?_)
      fin_cases a
      · show p + 1 * k.val = _; rw [Nat.one_mul]
      · show 0 + 1 * m.val = _; rw [Nat.one_mul, Nat.zero_add]
    have hk := k.isLt
    fin_cases q
    · exact e o0 i0 (by omega)
    · exact e (o0 + 32) i1 (by omega)
    · exact e (o0 + 64) i2 (by omega)
    · exact e (o0 + 96) i3 (by omega)
  · unfold outC
    refine congrArg₂ (fun a b => FloatOps.truncf .bf16 bitsLt_bf16_f32 (arg16.view.read (Elt F) G (ValueIdx.ix2 (n0 := 1024) (n1 := 256) (colRow a) b))) (Fin.ext ?_) (Fin.ext ?_)
    · show o0 + (x 1).val = o0 + 1 * (x 1).val; omega
    · show (x 0).val = 0 + 1 * (x 0).val; omega

/-- The accumulator after the trips before `k`, as a function of the values it is made of. -/
def accK (v8311 v8313 : IVec S32x128 8) (v8318 : IVec S32x128 1) (W : S1024x4480.Idx → Elt F .i8) (XS : S35x256x256.Idx → Elt F .bf16) (AB : S2x32x32x128.Idx → Elt F .bf16)
    (G : S1024x256.Idx → Elt F .f32) : ℕ → S1024x256.Idx → Elt F .f32
  | 0 => G
  | k + 1 => if h : k < 35 then accStep v8311 v8313 v8318 W XS AB (accK v8311 v8313 v8318 W XS AB G k) ⟨k, h⟩ else accK v8311 v8313 v8318 W XS AB G k

/-- The accumulator's buffer after `k` trips holds `accK` of `k`. -/
theorem read_accC {arg16 : Memref sig .tc .vmem S1024x256 .f32} (harg16 : arg16.IsWhole) (v8311 v8313 : IVec S32x128 8) (v8318 : IVec S32x128 1) (W : S1024x4480.Idx → Elt F .i8) (XS : S35x256x256.Idx → Elt F .bf16)
    (AB : S2x32x32x128.Idx → Elt F .bf16) (G : BufTy.Contents (Elt F) arg16.view.ty) (k : ℕ) :
    arg16.view.read (Elt F) (accC harg16 v8311 v8313 v8318 W XS AB G k) = accK v8311 v8313 v8318 W XS AB (arg16.view.read (Elt F) G) k := by
  induction k with
  | zero => rfl
  | succ k ih =>
    unfold accC accK
    by_cases h : k < 35
    · rw [dif_pos h, dif_pos h, harg16.read_unread, ih]
    · rw [dif_neg h, dif_neg h, ih]

/-- The input in tiles: the rows of a tile are its even columns, then its odd ones. -/
def tilesC (X : S256x8960.Idx → Elt F .bf16) : S35x256x256.Idx → Elt F .bf16 := fun y =>
  X (ValueIdx.ix2 (y 2) ⟨256 * (y 0).val + (2 * ((y 1).val % 128) + (y 1).val / 128), by
    have : (y 0).val < 35 := (y 0).isLt; have : (y 1).val < 256 := (y 1).isLt; show _ < 8960; omega⟩)

/-- One half of the value tables. -/
def tabS (T : S2x32x128.Idx → Elt F .i8) (e : Fin 2) : Vec F S1x32x128 .i8 := fun x => T (ValueIdx.ix3 e (x 1) (x 2))

/-- The output block of one point, from the blocks it reads, the input tiles and the LoRA product. -/
def outV (o : Elt F .f32) (W : S1024x4480.Idx → Elt F .i8) (C : S1024x256.Idx → Elt F .i8) (Gs : S16x128.Idx → Elt F .f32) (LB : S16x1024.Idx → Elt F .bf16) (T : S2x32x128.Idx → Elt F .i8)
    (XS : S35x256x256.Idx → Elt F .bf16) (t : S256x16.Idx → Elt F .bf16) : S256x1024.Idx → Elt F .bf16 :=
  outC (accK (k0_pay1301 (tabS T 0)) (k0_pay1302 (tabS T 1)) k0_pay1303 W XS (absC o C Gs) (k0_pay1300 (lbsC LB) t) 35)

/-- A load of one of the two byte tables, in terms of the buffer's value. -/
theorem tabS_eq {arg8 : Memref sig .tc .vmem S2x32x128 .i8} (X8 : BufTy.Contents (Elt F) arg8.view.ty) (e : Fin 2) (o : ℕ) (ho : o = e.val) (inb) :
    View.readAt (Elt F) arg8.view (Rect.unit (s := S2x32x128) ![o, 0, 0] ![1, 32, 128] inb).toLoadRect X8 = tabS (arg8.view.read (Elt F) X8) e := by
  subst ho
  funext x
  refine congrArg (arg8.view.read (Elt F) X8) (funext fun a => Fin.ext ?_)
  have : (x 0).val < 1 := (x 0).isLt
  fin_cases a
  · show e.val + 1 * (x 0).val = e.val; omega
  · show 0 + 1 * (x 1).val = (x 1).val; omega
  · show 0 + 1 * (x 2).val = (x 2).val; omega

end Cert.KernelIdeal.Val

end
-- ==== Proof.XsLoop.lean ====
/- The tile loop: what the tile scratch holds after its first trips, and the loop's invariant. -/
module

public import proofs.«01_k».proof.Proof.XsTile
public import proofs.«01_k».proof.Proof.Gen.KernelIdeal.Frame
public import proofs.«01_k».proof.Proof.Gen.KernelIdeal.Loops
public import proofs.«01_k».proof.Proof.Gen.KernelIdeal.Points
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

/-- The tile scratch after the trips before `k`. -/
def xsC {arg10 : Memref sig .tc .vmem S35x256x256 .bf16} (harg10 : arg10.IsWhole) (X : S256x8960.Idx → Elt F .bf16) (G : BufTy.Contents (Elt F) arg10.view.ty) :
    ℕ → BufTy.Contents (Elt F) arg10.view.ty
  | 0 => G
  | k + 1 => harg10.unread (partX X (arg10.view.read (Elt F) G) (k + 1))

/-- The tile scratch after `k` trips: the first `k` tiles in place, the rest as it was. -/
theorem xsC_eq {arg10 : Memref sig .tc .vmem S35x256x256 .bf16} (harg10 : arg10.IsWhole) (X : S256x8960.Idx → Elt F .bf16) (G : BufTy.Contents (Elt F) arg10.view.ty) (k : ℕ) :
    xsC harg10 X G k = harg10.unread (partX X (arg10.view.read (Elt F) G) k) := by
  cases k with
  | zero => exact (harg10.unread_read G).symm.trans (congrArg harg10.unread (funext fun y => (if_neg (Nat.not_lt_zero _)).symm))
  | succ k => rfl

variable (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (k0_h1 : k0_cond1 i = 1#1)

/-- The transpose scratch after the trips before `k`, from the contents `G13` it had. -/
def tmpC (k0_h1 : k0_cond1 i = 1#1) (X2 : BufTy.Contents (Elt F) arg2.view.ty) (G13 : BufTy.Contents (Elt F) arg13.view.ty) : ℕ → BufTy.Contents (Elt F) arg13.view.ty
  | 0 => G13
  | k + 1 => if h : k < k0_t1_loop.trips then
      (tripX c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X2 ⟨k, h⟩).2.1 (tmpC k0_h1 X2 G13 k) else tmpC k0_h1 X2 G13 k

/-- The tile loop's invariant: the input as it is, the tile scratch after the trips so far. -/
@[sl_loop] def loopX (k0_h1 : k0_cond1 i = 1#1) (X2 : BufTy.Contents (Elt F) arg2.view.ty) (G10 : BufTy.Contents (Elt F) arg10.view.ty) (G13 : BufTy.Contents (Elt F) arg13.view.ty) :
    LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 where
  inv := fun k _ => iprop((arg2.view.loc (c : Thread nD τ) ↦[arg2.view.set]{fullShare} X2) ∗ (arg10.view.loc (c : Thread nD τ) ↦[arg10.view.set]{fullShare} (xsC harg10 (arg2.view.read (Elt F) X2) G10 k))
    ∗ (arg13.view.loc (c : Thread nD τ) ↦[arg13.view.set]{fullShare} (tmpC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X2 G13 k)))
  step := fun k _ => by
    iintro ⟨H2, H10, H13⟩
    iapply (wp_wand_r Idealize.ShloMosaic.frame (wpE (defs₀ (F := F)) 𝒱₀ (c : Thread nD τ) none) Set.univ)
    isplitl [H2 H10 H13]
    · iapply ((tripX c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X2 k).2.2 _ _)
      isplitl [H2]; · iexact H2
      isplitl [H10]; · iexact H10
      iexact H13
    · iintro %_ ⟨H2, H10, H13⟩
      isplitl [H2]; · iexact H2
      isplitl [H10]
      · have e := writes_tripX c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X2 (arg10.view.read (Elt F) G10) k
        rw [← xsC_eq, ← xsC_eq] at e
        rw [← e]
        iexact H10
      · have e : tmpC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X2 G13 (k.val + 1) = _ := dif_pos k.isLt
        rw [e]
        iexact H13

end Cert.KernelIdeal.Val

end
-- ==== Proof.BodyLater.lean ====
/- One run of the body at a point past the first. -/
module

public import proofs.«01_k».proof.Proof.WsLoop
public import proofs.«01_k».proof.Proof.XsLoop
public import proofs.«01_k».proof.Proof.Gen.KernelIdeal.Frame
public import proofs.«01_k».proof.Proof.Gen.KernelIdeal.Loops
public import proofs.«01_k».proof.Proof.Gen.KernelIdeal.Points
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

variable (c : Dev nD) (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole)

set_option maxHeartbeats 0 in
/-- The body at a point past the first, run: the pieces it writes into the output block. -/
@[irreducible] def bodyLater (hc : ¬ k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X12 : BufTy.Contents (Elt F) arg12.view.ty) :
    { L9 : BufTy.Contents (Elt F) arg13.view.ty → List (View.Piece (Elt F) S256x1024 .bf16) //
        ∀ f9 f11 f13 f14 f16, (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗ (∃ f15 : BufTy.Contents (Elt F) arg15.view.ty, (arg15.view.loc (c : Thread nD τ) ↦[arg15.view.set]{fullShare} f15)) ∗ (arg16.view.loc (c : Thread nD τ) ↦[arg16.view.set]{fullShare} f16)) : sProp (MT nD τ sig Unit (Elt F) ℕ (UR sig nD τ) ℕ))
          ⊢ wp frame (wpE (defs₀ (F := F)) 𝒱₀ (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} arg9.view.writes (Elt F) f9 (L9 f13)) ∗ (arg10.view.loc (c : Thread nD τ) ↦[arg10.view.set]{fullShare} X10) ∗ (∃ f11 : BufTy.Contents (Elt F) arg11.view.ty, (arg11.view.loc (c : Thread nD τ) ↦[arg11.view.set]{fullShare} f11)) ∗ (arg12.view.loc (c : Thread nD τ) ↦[arg12.view.set]{fullShare} X12) ∗ (∃ f13 : BufTy.Contents (Elt F) arg13.view.ty, (arg13.view.loc (c : Thread nD τ) ↦[arg13.view.set]{fullShare} f13)) ∗ (∃ f14 : BufTy.Contents (Elt F) arg14.view.ty, (arg14.view.loc (c : Thread nD τ) ↦[arg14.view.set]{fullShare} f14)) ∗ (∃ f15 : BufTy.Contents (Elt F) arg15.view.ty, (arg15.view.loc (c : Thread nD τ) ↦[arg15.view.set]{fullShare} f15)) ∗ (∃ f16 : BufTy.Contents (Elt F) arg16.view.ty, (arg16.view.loc (c : Thread nD τ) ↦[arg16.view.set]{fullShare} f16))) : sProp (MT nD τ sig Unit (Elt F) ℕ (UR sig nD τ) ℕ))) } := by
  refine ⟨?_, fun f9 f11 f13 f14 f16 => ?run⟩
  case run =>
    simp only [cc0__body_eq_skeleton]; unfold cc0__body_skel
    iintro ⟨H1, H2, H3, H4, H5, H6, H7, H8, H9, H10, H11, H12, H13, H14, ⟨%f15, H15⟩, H16⟩
    sl_exec (disch := sl_exact hc)
    sl_step
    sl_close

end Cert.KernelIdeal.Val

end
-- ==== Proof.AbsLater.lean ====
/- The scale scratch as a later point fills it. -/
module

public import proofs.«01_k».proof.Proof.AbsDefs
public import proofs.«01_k».proof.Proof.BodyLater
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

set_option maxRecDepth 65536 in
set_option maxHeartbeats 0 in
/-- The stores of scales fill the scratch with `absC`. -/
theorem abs_bodyLater (arg1 : Memref sig .tc .smem S1x1 .f32) (arg4 : Memref sig .tc .vmem S1024x256 .i8) (arg5 : Memref sig .tc .vmem S16x128 .f32) (arg11 : Memref sig .tc .vmem S2x32x32x128 .bf16)
    (X1 : BufTy.Contents (Elt F) arg1.view.ty) (X4 : BufTy.Contents (Elt F) arg4.view.ty) (X5 : BufTy.Contents (Elt F) arg5.view.ty) (f11 : BufTy.Contents (Elt F) arg11.view.ty) :
    arg11.view.read (Elt F) (arg11.view.writes (Elt F) f11 (bodyLater.sl.H11_128 arg1 arg4 arg5 X1 X4 X5))
      = absC (View.readAt (Elt F) arg1.view (Rect.unit ![0, 0] S1x1.size inb_S1x1_S1x1_0_0).toLoadRect X1 (Shape.Idx.first (s := S1x1) (by decide))) (arg4.view.read (Elt F) X4) (arg5.view.read (Elt F) X5) := by
  unfold bodyLater.sl.H11_128
  sl_unfold_words
  funext y
  refine View.read_writes_apply_of_pieces _ _ _ _ (View.PiecesOf.mem ?_) y (View.cover_of_tiled _ ![1, 1, 16, 128] ?_ _)
  · generalize View.readAt (Elt F) arg1.view _ X1 _ = o
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 15 1 1 1 992 128 15 1 31 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 15 1 1 0 992 128 15 1 31 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 15 1 0 1 992 0 15 0 31 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 15 1 0 0 992 0 15 0 31 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 15 0 1 1 960 128 15 1 30 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 15 0 1 0 960 128 15 1 30 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 15 0 0 1 960 0 15 0 30 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 15 0 0 0 960 0 15 0 30 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 14 1 1 1 928 128 14 1 29 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 14 1 1 0 928 128 14 1 29 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 14 1 0 1 928 0 14 0 29 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 14 1 0 0 928 0 14 0 29 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 14 0 1 1 896 128 14 1 28 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 14 0 1 0 896 128 14 1 28 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 14 0 0 1 896 0 14 0 28 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 14 0 0 0 896 0 14 0 28 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 13 1 1 1 864 128 13 1 27 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 13 1 1 0 864 128 13 1 27 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 13 1 0 1 864 0 13 0 27 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 13 1 0 0 864 0 13 0 27 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 13 0 1 1 832 128 13 1 26 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 13 0 1 0 832 128 13 1 26 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 13 0 0 1 832 0 13 0 26 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 13 0 0 0 832 0 13 0 26 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 12 1 1 1 800 128 12 1 25 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 12 1 1 0 800 128 12 1 25 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 12 1 0 1 800 0 12 0 25 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 12 1 0 0 800 0 12 0 25 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 12 0 1 1 768 128 12 1 24 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 12 0 1 0 768 128 12 1 24 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 12 0 0 1 768 0 12 0 24 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 12 0 0 0 768 0 12 0 24 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 11 1 1 1 736 128 11 1 23 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 11 1 1 0 736 128 11 1 23 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 11 1 0 1 736 0 11 0 23 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 11 1 0 0 736 0 11 0 23 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 11 0 1 1 704 128 11 1 22 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 11 0 1 0 704 128 11 1 22 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 11 0 0 1 704 0 11 0 22 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 11 0 0 0 704 0 11 0 22 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 10 1 1 1 672 128 10 1 21 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 10 1 1 0 672 128 10 1 21 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 10 1 0 1 672 0 10 0 21 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 10 1 0 0 672 0 10 0 21 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 10 0 1 1 640 128 10 1 20 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 10 0 1 0 640 128 10 1 20 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 10 0 0 1 640 0 10 0 20 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 10 0 0 0 640 0 10 0 20 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 9 1 1 1 608 128 9 1 19 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 9 1 1 0 608 128 9 1 19 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 9 1 0 1 608 0 9 0 19 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 9 1 0 0 608 0 9 0 19 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 9 0 1 1 576 128 9 1 18 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 9 0 1 0 576 128 9 1 18 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 9 0 0 1 576 0 9 0 18 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 9 0 0 0 576 0 9 0 18 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 8 1 1 1 544 128 8 1 17 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 8 1 1 0 544 128 8 1 17 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 8 1 0 1 544 0 8 0 17 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 8 1 0 0 544 0 8 0 17 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 8 0 1 1 512 128 8 1 16 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 8 0 1 0 512 128 8 1 16 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 8 0 0 1 512 0 8 0 16 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 8 0 0 0 512 0 8 0 16 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 7 1 1 1 480 128 7 1 15 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 7 1 1 0 480 128 7 1 15 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 7 1 0 1 480 0 7 0 15 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 7 1 0 0 480 0 7 0 15 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 7 0 1 1 448 128 7 1 14 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 7 0 1 0 448 128 7 1 14 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 7 0 0 1 448 0 7 0 14 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 7 0 0 0 448 0 7 0 14 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 6 1 1 1 416 128 6 1 13 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 6 1 1 0 416 128 6 1 13 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 6 1 0 1 416 0 6 0 13 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 6 1 0 0 416 0 6 0 13 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 6 0 1 1 384 128 6 1 12 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 6 0 1 0 384 128 6 1 12 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 6 0 0 1 384 0 6 0 12 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 6 0 0 0 384 0 6 0 12 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 5 1 1 1 352 128 5 1 11 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 5 1 1 0 352 128 5 1 11 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 5 1 0 1 352 0 5 0 11 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 5 1 0 0 352 0 5 0 11 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 5 0 1 1 320 128 5 1 10 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 5 0 1 0 320 128 5 1 10 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 5 0 0 1 320 0 5 0 10 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 5 0 0 0 320 0 5 0 10 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 4 1 1 1 288 128 4 1 9 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 4 1 1 0 288 128 4 1 9 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 4 1 0 1 288 0 4 0 9 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 4 1 0 0 288 0 4 0 9 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 4 0 1 1 256 128 4 1 8 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 4 0 1 0 256 128 4 1 8 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 4 0 0 1 256 0 4 0 8 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 4 0 0 0 256 0 4 0 8 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 3 1 1 1 224 128 3 1 7 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 3 1 1 0 224 128 3 1 7 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 3 1 0 1 224 0 3 0 7 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 3 1 0 0 224 0 3 0 7 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 3 0 1 1 192 128 3 1 6 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 3 0 1 0 192 128 3 1 6 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 3 0 0 1 192 0 3 0 6 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 3 0 0 0 192 0 3 0 6 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 2 1 1 1 160 128 2 1 5 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 2 1 1 0 160 128 2 1 5 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 2 1 0 1 160 0 2 0 5 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 2 1 0 0 160 0 2 0 5 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 2 0 1 1 128 128 2 1 4 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 2 0 1 0 128 128 2 1 4 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 2 0 0 1 128 0 2 0 4 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 2 0 0 0 128 0 2 0 4 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 1 1 1 1 96 128 1 1 3 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 1 1 1 0 96 128 1 1 3 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 1 1 0 1 96 0 1 0 3 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 1 1 0 0 96 0 1 0 3 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 1 0 1 1 64 128 1 1 2 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 1 0 1 0 64 128 1 1 2 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 1 0 0 1 64 0 1 0 2 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 1 0 0 0 64 0 1 0 2 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 0 1 1 1 32 128 0 1 1 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 0 1 1 0 32 128 0 1 1 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 0 1 0 1 32 0 0 0 1 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 0 1 0 0 32 0 0 0 1 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 0 0 1 1 0 128 0 1 0 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 0 0 1 0 0 128 0 1 0 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 0 0 0 1 0 0 0 0 0 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 0 0 0 0 0 0 0 0 0 0 _ _ _ rfl rfl rfl rfl rfl rfl x
    trivial
  · rfl

end Cert.KernelIdeal.Val

end
-- ==== Proof.LbsLater.lean ====
/- The LoRA factor in accumulator order as a later point fills it. -/
module

public import proofs.«01_k».proof.Proof.LbsDefs
public import proofs.«01_k».proof.Proof.BodyLater
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

set_option maxRecDepth 65536 in
set_option maxHeartbeats 0 in
/-- The stores fill the scratch with `lbsC`. -/
theorem lbs_bodyLater (c : Dev nD) (arg7 : Memref sig .tc .vmem S16x1024 .bf16) (arg13 : Memref sig .tc .vmem S256x128 .bf16) (harg13 : arg13.IsWhole) (arg14 : Memref sig .tc .vmem S1024x16 .bf16)
    (X7 : BufTy.Contents (Elt F) arg7.view.ty) (f13 : BufTy.Contents (Elt F) arg13.view.ty) (f14 : BufTy.Contents (Elt F) arg14.view.ty) :
    arg14.view.read (Elt F) (arg14.view.writes (Elt F) f14 (bodyLater.sl.H14_64 c arg7 arg13 harg13 X7 f13)) = lbsC (arg7.view.read (Elt F) X7) := by
  unfold bodyLater.sl.H14_64
  funext y
  refine View.read_writes_apply_of_pieces _ _ _ _ (View.PiecesOf.mem ?_) y (View.cover_of_tiled _ ![16, 16] ?_ _)
  · refine ⟨fun x => ?_, ?_⟩
    · sl_unfold_words
      refine (congrFun (show _ = lbsTile 1 _ _ from rfl) x).trans ?_
      refine lbsPiece _ 1 7 3 48 49 1008 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 0 _ _ from rfl) x).trans ?_
      refine lbsPiece _ 0 7 3 48 49 992 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 1 _ _ from rfl) x).trans ?_
      refine lbsPiece _ 1 7 2 32 33 976 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 0 _ _ from rfl) x).trans ?_
      refine lbsPiece _ 0 7 2 32 33 960 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 1 _ _ from rfl) x).trans ?_
      refine lbsPiece _ 1 7 1 16 17 944 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 0 _ _ from rfl) x).trans ?_
      refine lbsPiece _ 0 7 1 16 17 928 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 1 _ _ from rfl) x).trans ?_
      refine lbsPiece _ 1 7 0 0 1 912 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 0 _ _ from rfl) x).trans ?_
      refine lbsPiece _ 0 7 0 0 1 896 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 1 _ _ from rfl) x).trans ?_
      refine lbsPiece _ 1 6 3 48 49 880 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 0 _ _ from rfl) x).trans ?_
      refine lbsPiece _ 0 6 3 48 49 864 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 1 _ _ from rfl) x).trans ?_
      refine lbsPiece _ 1 6 2 32 33 848 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 0 _ _ from rfl) x).trans ?_
      refine lbsPiece _ 0 6 2 32 33 832 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 1 _ _ from rfl) x).trans ?_
      refine lbsPiece _ 1 6 1 16 17 816 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 0 _ _ from rfl) x).trans ?_
      refine lbsPiece _ 0 6 1 16 17 800 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 1 _ _ from rfl) x).trans ?_
      refine lbsPiece _ 1 6 0 0 1 784 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 0 _ _ from rfl) x).trans ?_
      refine lbsPiece _ 0 6 0 0 1 768 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 1 _ _ from rfl) x).trans ?_
      refine lbsPiece _ 1 5 3 48 49 752 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 0 _ _ from rfl) x).trans ?_
      refine lbsPiece _ 0 5 3 48 49 736 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 1 _ _ from rfl) x).trans ?_
      refine lbsPiece _ 1 5 2 32 33 720 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 0 _ _ from rfl) x).trans ?_
      refine lbsPiece _ 0 5 2 32 33 704 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 1 _ _ from rfl) x).trans ?_
      refine lbsPiece _ 1 5 1 16 17 688 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 0 _ _ from rfl) x).trans ?_
      refine lbsPiece _ 0 5 1 16 17 672 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 1 _ _ from rfl) x).trans ?_
      refine lbsPiece _ 1 5 0 0 1 656 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 0 _ _ from rfl) x).trans ?_
      refine lbsPiece _ 0 5 0 0 1 640 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 1 _ _ from rfl) x).trans ?_
      refine lbsPiece _ 1 4 3 48 49 624 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 0 _ _ from rfl) x).trans ?_
      refine lbsPiece _ 0 4 3 48 49 608 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 1 _ _ from rfl) x).trans ?_
      refine lbsPiece _ 1 4 2 32 33 592 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 0 _ _ from rfl) x).trans ?_
      refine lbsPiece _ 0 4 2 32 33 576 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 1 _ _ from rfl) x).trans ?_
      refine lbsPiece _ 1 4 1 16 17 560 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 0 _ _ from rfl) x).trans ?_
      refine lbsPiece _ 0 4 1 16 17 544 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 1 _ _ from rfl) x).trans ?_
      refine lbsPiece _ 1 4 0 0 1 528 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 0 _ _ from rfl) x).trans ?_
      refine lbsPiece _ 0 4 0 0 1 512 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 1 _ _ from rfl) x).trans ?_
      refine lbsPiece _ 1 3 3 48 49 496 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 0 _ _ from rfl) x).trans ?_
      refine lbsPiece _ 0 3 3 48 49 480 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 1 _ _ from rfl) x).trans ?_
      refine lbsPiece _ 1 3 2 32 33 464 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 0 _ _ from rfl) x).trans ?_
      refine lbsPiece _ 0 3 2 32 33 448 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 1 _ _ from rfl) x).trans ?_
      refine lbsPiece _ 1 3 1 16 17 432 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 0 _ _ from rfl) x).trans ?_
      refine lbsPiece _ 0 3 1 16 17 416 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 1 _ _ from rfl) x).trans ?_
      refine lbsPiece _ 1 3 0 0 1 400 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 0 _ _ from rfl) x).trans ?_
      refine lbsPiece _ 0 3 0 0 1 384 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 1 _ _ from rfl) x).trans ?_
      refine lbsPiece _ 1 2 3 48 49 368 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 0 _ _ from rfl) x).trans ?_
      refine lbsPiece _ 0 2 3 48 49 352 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 1 _ _ from rfl) x).trans ?_
      refine lbsPiece _ 1 2 2 32 33 336 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 0 _ _ from rfl) x).trans ?_
      refine lbsPiece _ 0 2 2 32 33 320 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 1 _ _ from rfl) x).trans ?_
      refine lbsPiece _ 1 2 1 16 17 304 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 0 _ _ from rfl) x).trans ?_
      refine lbsPiece _ 0 2 1 16 17 288 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 1 _ _ from rfl) x).trans ?_
      refine lbsPiece _ 1 2 0 0 1 272 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 0 _ _ from rfl) x).trans ?_
      refine lbsPiece _ 0 2 0 0 1 256 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 1 _ _ from rfl) x).trans ?_
      refine lbsPiece _ 1 1 3 48 49 240 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 0 _ _ from rfl) x).trans ?_
      refine lbsPiece _ 0 1 3 48 49 224 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 1 _ _ from rfl) x).trans ?_
      refine lbsPiece _ 1 1 2 32 33 208 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 0 _ _ from rfl) x).trans ?_
      refine lbsPiece _ 0 1 2 32 33 192 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 1 _ _ from rfl) x).trans ?_
      refine lbsPiece _ 1 1 1 16 17 176 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 0 _ _ from rfl) x).trans ?_
      refine lbsPiece _ 0 1 1 16 17 160 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 1 _ _ from rfl) x).trans ?_
      refine lbsPiece _ 1 1 0 0 1 144 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 0 _ _ from rfl) x).trans ?_
      refine lbsPiece _ 0 1 0 0 1 128 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 1 _ _ from rfl) x).trans ?_
      refine lbsPiece _ 1 0 3 48 49 112 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 0 _ _ from rfl) x).trans ?_
      refine lbsPiece _ 0 0 3 48 49 96 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 1 _ _ from rfl) x).trans ?_
      refine lbsPiece _ 1 0 2 32 33 80 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 0 _ _ from rfl) x).trans ?_
      refine lbsPiece _ 0 0 2 32 33 64 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 1 _ _ from rfl) x).trans ?_
      refine lbsPiece _ 1 0 1 16 17 48 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 0 _ _ from rfl) x).trans ?_
      refine lbsPiece _ 0 0 1 16 17 32 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 1 _ _ from rfl) x).trans ?_
      refine lbsPiece _ 1 0 0 0 1 16 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 0 _ _ from rfl) x).trans ?_
      refine lbsPiece _ 0 0 0 0 1 0 (by decide) (by decide) rfl rfl rfl _ _ _ _ _ _ _ _ (by decide) _ x ?_
      exact fun r l => lbsSrc X7 _ 0 0 (by decide) rfl _ _ _ _ _ r l
    trivial
  · rfl

end Cert.KernelIdeal.Val

end
-- ==== Proof.OutLater.lean ====
/- The output block at a later point. -/
module

public import proofs.«01_k».proof.Proof.OutDefs
public import proofs.«01_k».proof.Proof.BodyLater
public import proofs.«01_k».proof.Proof.AbsLater
public import proofs.«01_k».proof.Proof.LbsLater
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

/-- The accumulator after the weight loop. -/
def accbodyLater (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (hc : ¬ k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X12 : BufTy.Contents (Elt F) arg12.view.ty) (f13 : BufTy.Contents (Elt F) arg13.view.ty) : BufTy.Contents (Elt F) arg16.view.ty :=
  accC harg16 (bodyLater.sl.r_429 arg8 X8) (bodyLater.sl.r_430 arg8 X8) k0_pay1303 (View.read (Elt F) arg3.view X3) (View.read (Elt F) arg10.view X10)
    (View.read (Elt F) arg11.view (arg11.view.writes (Elt F) arg11.view.junk (bodyLater.sl.H11_128 arg1 arg4 arg5 X1 X4 X5)))
    (arg16.view.writes (Elt F) arg16.view.junk [⟨Rect.unit (s := S1024x256) ![0, 0] ![1024, 256] inb_S1024x256_S1024x256_0_0, k0_pay1300 (bodyLater.sl.v8302 c arg7 arg13 harg13 arg14 X7 f13) (View.readAt (Elt F) arg12.view (Rect.unit (s := S256x16) ![0, 0] ![256, 16] inb_S256x16_S256x16_0_0).toLoadRect X12)⟩])
    (Scf.trips k0_t2_loop.lb k0_t2_loop.ub k0_t2_loop.st)

/-- The accumulator after the weight loop, as a function of the blocks. -/
theorem read_accbodyLater (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (hc : ¬ k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X12 : BufTy.Contents (Elt F) arg12.view.ty) (f13 : BufTy.Contents (Elt F) arg13.view.ty) : arg16.view.read (Elt F) (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)
    = accK (k0_pay1301 (tabS (arg8.view.read (Elt F) X8) 0)) (k0_pay1302 (tabS (arg8.view.read (Elt F) X8) 1)) k0_pay1303 (arg3.view.read (Elt F) X3) (arg10.view.read (Elt F) X10)
      (absC (View.readAt (Elt F) arg1.view (Rect.unit ![0, 0] S1x1.size inb_S1x1_S1x1_0_0).toLoadRect X1 (Shape.Idx.first (s := S1x1) (by decide))) (arg4.view.read (Elt F) X4) (arg5.view.read (Elt F) X5)) (k0_pay1300 (lbsC (arg7.view.read (Elt F) X7)) (arg12.view.read (Elt F) X12)) 35 := by
  unfold accbodyLater
  have hT : Scf.trips k0_t2_loop.lb k0_t2_loop.ub k0_t2_loop.st = 35 := by decide +kernel
  have hl : bodyLater.sl.v8302 c arg7 arg13 harg13 arg14 X7 f13 = lbsC (arg7.view.read (Elt F) X7) :=
    (readAt_whole2 _ _).trans (lbs_bodyLater c arg7 arg13 harg13 arg14 X7 f13 arg14.view.junk)
  have h1 : bodyLater.sl.r_429 arg8 X8 = k0_pay1301 (tabS (arg8.view.read (Elt F) X8) 0) := congrArg (k0_pay1301 (F := F)) (tabS_eq X8 0 0 rfl _)
  have h2 : bodyLater.sl.r_430 arg8 X8 = k0_pay1302 (tabS (arg8.view.read (Elt F) X8) 1) := congrArg (k0_pay1302 (F := F)) (tabS_eq X8 1 1 rfl _)
  rw [read_accC, hT, h1, h2, writes_whole2 harg16, harg16.read_unread, hl, abs_bodyLater]
  rw [readAt_whole2 (arg := arg12)]

set_option maxRecDepth 65536 in
set_option maxHeartbeats 0 in
/-- The body writes `outV` into the output block. -/
theorem read_bodyLater (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (hc : ¬ k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X12 : BufTy.Contents (Elt F) arg12.view.ty) (f13 : BufTy.Contents (Elt F) arg13.view.ty) (f9 : BufTy.Contents (Elt F) arg9.view.ty) :
    arg9.view.read (Elt F) (arg9.view.writes (Elt F) f9 ((bodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12).1 f13))
      = outV (View.readAt (Elt F) arg1.view (Rect.unit ![0, 0] S1x1.size inb_S1x1_S1x1_0_0).toLoadRect X1 (Shape.Idx.first (s := S1x1) (by decide))) (arg3.view.read (Elt F) X3) (arg4.view.read (Elt F) X4) (arg5.view.read (Elt F) X5) (arg7.view.read (Elt F) X7) (arg8.view.read (Elt F) X8) (arg10.view.read (Elt F) X10) (arg12.view.read (Elt F) X12) := by
  have hA := congrArg outC (read_accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)
  unfold bodyLater
  dsimp only
  funext y
  refine View.read_writes_apply_of_pieces _ _ _ _ (View.PiecesOf.mem ?_) y (View.cover_of_tiled _ ![256, 128] ?_ _)
  · refine ⟨fun x => ?_, ?_⟩
    · refine Eq.trans (congrFun (?_ : _ = outBlk (View.readAt (Elt F) arg16.view (Rect.unit (s := S1024x256) ![896, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![928, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![960, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![992, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13))) x) ?_
      · rfl
      exact (outPiece _ 896 896 928 960 992 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![768, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![800, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![832, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![864, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13))) x) ?_
      · rfl
      exact (outPiece _ 768 768 800 832 864 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![640, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![672, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![704, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![736, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13))) x) ?_
      · rfl
      exact (outPiece _ 640 640 672 704 736 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![512, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![544, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![576, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![608, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13))) x) ?_
      · rfl
      exact (outPiece _ 512 512 544 576 608 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![384, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![416, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![448, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![480, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13))) x) ?_
      · rfl
      exact (outPiece _ 384 384 416 448 480 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![256, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![288, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![320, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![352, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13))) x) ?_
      · rfl
      exact (outPiece _ 256 256 288 320 352 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![128, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![160, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![192, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![224, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13))) x) ?_
      · rfl
      exact (outPiece _ 128 128 160 192 224 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![0, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![32, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![64, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13)) (View.readAt (Elt F) arg16.view (Rect.unit (s := S1024x256) ![96, 0] ![32, 256] (by decide)).toLoadRect (accbodyLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13))) x) ?_
      · rfl
      exact (outPiece _ 0 0 32 64 96 rfl (by decide) rfl rfl rfl rfl _ _ _ _ (by decide) x).trans (congrFun hA _)
    trivial
  · rfl

end Cert.KernelIdeal.Val

end
-- ==== Proof.BodyFirst.lean ====
/- One run of the body at the first point. -/
module

public import proofs.«01_k».proof.Proof.WsLoop
public import proofs.«01_k».proof.Proof.XsLoop
public import proofs.«01_k».proof.Proof.Gen.KernelIdeal.Frame
public import proofs.«01_k».proof.Proof.Gen.KernelIdeal.Loops
public import proofs.«01_k».proof.Proof.Gen.KernelIdeal.Points
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

variable (c : Dev nD) (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole)

set_option maxHeartbeats 0 in
/-- The body at the first point, run: the pieces it writes into the output block and into the activation scratch. -/
@[irreducible] def bodyFirst (hc : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    Σ' (L9 : BufTy.Contents (Elt F) arg10.view.ty → BufTy.Contents (Elt F) arg13.view.ty → List (View.Piece (Elt F) S256x1024 .bf16)) (L10 : BufTy.Contents (Elt F) arg10.view.ty → BufTy.Contents (Elt F) arg10.view.ty) (L12 : BufTy.Contents (Elt F) arg10.view.ty → BufTy.Contents (Elt F) arg12.view.ty → BufTy.Contents (Elt F) arg13.view.ty → BufTy.Contents (Elt F) arg12.view.ty),
        ∀ f9 f10 f11 f12 f13 f14 f16, (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (∃ f15 : BufTy.Contents (Elt F) arg15.view.ty, (arg15.view.loc (c : Thread nD τ) ↦[arg15.view.set]{fullShare} f15)) ∗ (arg16.view.loc (c : Thread nD τ) ↦[arg16.view.set]{fullShare} f16)) : sProp (MT nD τ sig Unit (Elt F) ℕ (UR sig nD τ) ℕ))
          ⊢ wp frame (wpE (defs₀ (F := F)) 𝒱₀ (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} arg9.view.writes (Elt F) f9 (L9 f10 f13)) ∗ (arg10.view.loc (c : Thread nD τ) ↦[arg10.view.set]{fullShare} L10 f10) ∗ (∃ f11 : BufTy.Contents (Elt F) arg11.view.ty, (arg11.view.loc (c : Thread nD τ) ↦[arg11.view.set]{fullShare} f11)) ∗ (arg12.view.loc (c : Thread nD τ) ↦[arg12.view.set]{fullShare} L12 f10 f12 f13) ∗ (∃ f13 : BufTy.Contents (Elt F) arg13.view.ty, (arg13.view.loc (c : Thread nD τ) ↦[arg13.view.set]{fullShare} f13)) ∗ (∃ f14 : BufTy.Contents (Elt F) arg14.view.ty, (arg14.view.loc (c : Thread nD τ) ↦[arg14.view.set]{fullShare} f14)) ∗ (∃ f15 : BufTy.Contents (Elt F) arg15.view.ty, (arg15.view.loc (c : Thread nD τ) ↦[arg15.view.set]{fullShare} f15)) ∗ (∃ f16 : BufTy.Contents (Elt F) arg16.view.ty, (arg16.view.loc (c : Thread nD τ) ↦[arg16.view.set]{fullShare} f16))) : sProp (MT nD τ sig Unit (Elt F) ℕ (UR sig nD τ) ℕ))) := by
  refine ⟨?_, ?_, ?_, fun f9 f10 f11 f12 f13 f14 f16 => ?run⟩
  case run =>
    simp only [cc0__body_eq_skeleton]; unfold cc0__body_skel
    iintro ⟨H1, H2, H3, H4, H5, H6, H7, H8, H9, H10, H11, H12, H13, H14, ⟨%f15, H15⟩, H16⟩
    sl_exec (disch := sl_exact hc)
    sl_step
    sl_close

end Cert.KernelIdeal.Val

end
-- ==== Proof.AbsFirst.lean ====
/- The scale scratch as the first point fills it. -/
module

public import proofs.«01_k».proof.Proof.AbsDefs
public import proofs.«01_k».proof.Proof.BodyFirst
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

set_option maxRecDepth 65536 in
set_option maxHeartbeats 0 in
/-- The stores of scales fill the scratch with `absC`. -/
theorem abs_bodyFirst (arg1 : Memref sig .tc .smem S1x1 .f32) (arg4 : Memref sig .tc .vmem S1024x256 .i8) (arg5 : Memref sig .tc .vmem S16x128 .f32) (arg11 : Memref sig .tc .vmem S2x32x32x128 .bf16)
    (X1 : BufTy.Contents (Elt F) arg1.view.ty) (X4 : BufTy.Contents (Elt F) arg4.view.ty) (X5 : BufTy.Contents (Elt F) arg5.view.ty) (f11 : BufTy.Contents (Elt F) arg11.view.ty) :
    arg11.view.read (Elt F) (arg11.view.writes (Elt F) f11 (bodyFirst.sl.H11_128 arg1 arg4 arg5 X1 X4 X5))
      = absC (View.readAt (Elt F) arg1.view (Rect.unit ![0, 0] S1x1.size inb_S1x1_S1x1_0_0).toLoadRect X1 (Shape.Idx.first (s := S1x1) (by decide))) (arg4.view.read (Elt F) X4) (arg5.view.read (Elt F) X5) := by
  unfold bodyFirst.sl.H11_128
  sl_unfold_words
  funext y
  refine View.read_writes_apply_of_pieces _ _ _ _ (View.PiecesOf.mem ?_) y (View.cover_of_tiled _ ![1, 1, 16, 128] ?_ _)
  · generalize View.readAt (Elt F) arg1.view _ X1 _ = o
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 15 1 1 1 992 128 15 1 31 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 15 1 1 0 992 128 15 1 31 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 15 1 0 1 992 0 15 0 31 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 15 1 0 0 992 0 15 0 31 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 15 0 1 1 960 128 15 1 30 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 15 0 1 0 960 128 15 1 30 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 15 0 0 1 960 0 15 0 30 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 15 0 0 0 960 0 15 0 30 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 14 1 1 1 928 128 14 1 29 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 14 1 1 0 928 128 14 1 29 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 14 1 0 1 928 0 14 0 29 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 14 1 0 0 928 0 14 0 29 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 14 0 1 1 896 128 14 1 28 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 14 0 1 0 896 128 14 1 28 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 14 0 0 1 896 0 14 0 28 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 14 0 0 0 896 0 14 0 28 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 13 1 1 1 864 128 13 1 27 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 13 1 1 0 864 128 13 1 27 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 13 1 0 1 864 0 13 0 27 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 13 1 0 0 864 0 13 0 27 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 13 0 1 1 832 128 13 1 26 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 13 0 1 0 832 128 13 1 26 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 13 0 0 1 832 0 13 0 26 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 13 0 0 0 832 0 13 0 26 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 12 1 1 1 800 128 12 1 25 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 12 1 1 0 800 128 12 1 25 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 12 1 0 1 800 0 12 0 25 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 12 1 0 0 800 0 12 0 25 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 12 0 1 1 768 128 12 1 24 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 12 0 1 0 768 128 12 1 24 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 12 0 0 1 768 0 12 0 24 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 12 0 0 0 768 0 12 0 24 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 11 1 1 1 736 128 11 1 23 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 11 1 1 0 736 128 11 1 23 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 11 1 0 1 736 0 11 0 23 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 11 1 0 0 736 0 11 0 23 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 11 0 1 1 704 128 11 1 22 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 11 0 1 0 704 128 11 1 22 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 11 0 0 1 704 0 11 0 22 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 11 0 0 0 704 0 11 0 22 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 10 1 1 1 672 128 10 1 21 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 10 1 1 0 672 128 10 1 21 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 10 1 0 1 672 0 10 0 21 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 10 1 0 0 672 0 10 0 21 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 10 0 1 1 640 128 10 1 20 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 10 0 1 0 640 128 10 1 20 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 10 0 0 1 640 0 10 0 20 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 10 0 0 0 640 0 10 0 20 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 9 1 1 1 608 128 9 1 19 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 9 1 1 0 608 128 9 1 19 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 9 1 0 1 608 0 9 0 19 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 9 1 0 0 608 0 9 0 19 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 9 0 1 1 576 128 9 1 18 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 9 0 1 0 576 128 9 1 18 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 9 0 0 1 576 0 9 0 18 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 9 0 0 0 576 0 9 0 18 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 8 1 1 1 544 128 8 1 17 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 8 1 1 0 544 128 8 1 17 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 8 1 0 1 544 0 8 0 17 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 8 1 0 0 544 0 8 0 17 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 8 0 1 1 512 128 8 1 16 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 8 0 1 0 512 128 8 1 16 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 8 0 0 1 512 0 8 0 16 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 8 0 0 0 512 0 8 0 16 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 7 1 1 1 480 128 7 1 15 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 7 1 1 0 480 128 7 1 15 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 7 1 0 1 480 0 7 0 15 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 7 1 0 0 480 0 7 0 15 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 7 0 1 1 448 128 7 1 14 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 7 0 1 0 448 128 7 1 14 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 7 0 0 1 448 0 7 0 14 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 7 0 0 0 448 0 7 0 14 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 6 1 1 1 416 128 6 1 13 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 6 1 1 0 416 128 6 1 13 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 6 1 0 1 416 0 6 0 13 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 6 1 0 0 416 0 6 0 13 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 6 0 1 1 384 128 6 1 12 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 6 0 1 0 384 128 6 1 12 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 6 0 0 1 384 0 6 0 12 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 6 0 0 0 384 0 6 0 12 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 5 1 1 1 352 128 5 1 11 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 5 1 1 0 352 128 5 1 11 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 5 1 0 1 352 0 5 0 11 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 5 1 0 0 352 0 5 0 11 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 5 0 1 1 320 128 5 1 10 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 5 0 1 0 320 128 5 1 10 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 5 0 0 1 320 0 5 0 10 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 5 0 0 0 320 0 5 0 10 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 4 1 1 1 288 128 4 1 9 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 4 1 1 0 288 128 4 1 9 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 4 1 0 1 288 0 4 0 9 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 4 1 0 0 288 0 4 0 9 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 4 0 1 1 256 128 4 1 8 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 4 0 1 0 256 128 4 1 8 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 4 0 0 1 256 0 4 0 8 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 4 0 0 0 256 0 4 0 8 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 3 1 1 1 224 128 3 1 7 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 3 1 1 0 224 128 3 1 7 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 3 1 0 1 224 0 3 0 7 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 3 1 0 0 224 0 3 0 7 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 3 0 1 1 192 128 3 1 6 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 3 0 1 0 192 128 3 1 6 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 3 0 0 1 192 0 3 0 6 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 3 0 0 0 192 0 3 0 6 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 2 1 1 1 160 128 2 1 5 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 2 1 1 0 160 128 2 1 5 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 2 1 0 1 160 0 2 0 5 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 2 1 0 0 160 0 2 0 5 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 2 0 1 1 128 128 2 1 4 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 2 0 1 0 128 128 2 1 4 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 2 0 0 1 128 0 2 0 4 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 2 0 0 0 128 0 2 0 4 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 1 1 1 1 96 128 1 1 3 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 1 1 1 0 96 128 1 1 3 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 1 1 0 1 96 0 1 0 3 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 1 1 0 0 96 0 1 0 3 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 1 0 1 1 64 128 1 1 2 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 1 0 1 0 64 128 1 1 2 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 1 0 0 1 64 0 1 0 2 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 1 0 0 0 64 0 1 0 2 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 1 from rfl) x).trans ?_
      rw [← hw, ← ha]
      exact absPiece X4 X5 o 0 1 1 1 32 128 0 1 1 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 1 0 from rfl) x).trans ?_
      rw [← hw, ← ha]
      exact absPiece X4 X5 o 0 1 1 0 32 128 0 1 1 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 1 from rfl) x).trans ?_
      rw [← hw, ← ha]
      exact absPiece X4 X5 o 0 1 0 1 32 0 0 0 1 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 1 0 0 from rfl) x).trans ?_
      rw [← hw, ← ha]
      exact absPiece X4 X5 o 0 1 0 0 32 0 0 0 1 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 1 from rfl) x).trans ?_
      rw [← hw, ← ha]
      exact absPiece X4 X5 o 0 0 1 1 0 128 0 1 0 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 1 0 from rfl) x).trans ?_
      rw [← hw, ← ha]
      exact absPiece X4 X5 o 0 0 1 0 0 128 0 1 0 0 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 1 from rfl) x).trans ?_
      rw [← hw, ← ha]
      exact absPiece X4 X5 o 0 0 0 1 0 0 0 0 0 16 _ _ _ rfl rfl rfl rfl rfl rfl x
    refine ⟨fun x => ?_, ?_⟩
    · dsimp only
      generalize hw : View.readAt (Elt F) arg4.view _ X4 = w
      generalize ha : View.readAt (Elt F) arg5.view _ X5 = a
      refine (congrFun (show _ = absTile w a o 0 0 0 from rfl) x).trans ?_
      rw [← hw, ← ha]
      exact absPiece X4 X5 o 0 0 0 0 0 0 0 0 0 0 _ _ _ rfl rfl rfl rfl rfl rfl x
    trivial
  · rfl

end Cert.KernelIdeal.Val

end
-- ==== Proof.LbsFirst.lean ====
/- The LoRA factor in accumulator order as the first point fills it. -/
module

public import proofs.«01_k».proof.Proof.LbsDefs
public import proofs.«01_k».proof.Proof.BodyFirst
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

set_option maxRecDepth 65536 in
set_option maxHeartbeats 0 in
/-- The stores fill the scratch with `lbsC`. -/
theorem lbs_bodyFirst (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (hc : k0_cond1 i = 1#1) (X2 : BufTy.Contents (Elt F) arg2.view.ty)
    (X7 : BufTy.Contents (Elt F) arg7.view.ty) (f13 : BufTy.Contents (Elt F) arg13.view.ty) (f14 : BufTy.Contents (Elt F) arg14.view.ty) :
    arg14.view.read (Elt F) (arg14.view.writes (Elt F) f14 (bodyFirst.sl.H14_64 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X7 f13)) = lbsC (arg7.view.read (Elt F) X7) := by
  unfold bodyFirst.sl.H14_64
  funext y
  refine View.read_writes_apply_of_pieces _ _ _ _ (View.PiecesOf.mem ?_) y (View.cover_of_tiled _ ![16, 16] ?_ _)
  · refine ⟨fun x => ?_, ?_⟩
    · sl_unfold_words
      refine (congrFun (show _ = lbsTile 1 _ _ from rfl) x).trans ?_
      refine lbsPiece _ 1 7 3 48 49 1008 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 0 _ _ from rfl) x).trans ?_
      refine lbsPiece _ 0 7 3 48 49 992 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 1 _ _ from rfl) x).trans ?_
      refine lbsPiece _ 1 7 2 32 33 976 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 0 _ _ from rfl) x).trans ?_
      refine lbsPiece _ 0 7 2 32 33 960 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 1 _ _ from rfl) x).trans ?_
      refine lbsPiece _ 1 7 1 16 17 944 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 0 _ _ from rfl) x).trans ?_
      refine lbsPiece _ 0 7 1 16 17 928 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 1 _ _ from rfl) x).trans ?_
      refine lbsPiece _ 1 7 0 0 1 912 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 0 _ _ from rfl) x).trans ?_
      refine lbsPiece _ 0 7 0 0 1 896 (by decide) (by decide) rfl rfl rfl _ _ _ _ _ _ _ _ (by decide) _ x ?_
      exact fun r l => lbsSrc X7 _ 7 896 (by decide) rfl _ _ _ _ _ r l
    refine ⟨fun x => ?_, ?_⟩
    · sl_unfold_words
      refine (congrFun (show _ = lbsTile 1 _ _ from rfl) x).trans ?_
      refine lbsPiece _ 1 6 3 48 49 880 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 0 _ _ from rfl) x).trans ?_
      refine lbsPiece _ 0 6 3 48 49 864 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 1 _ _ from rfl) x).trans ?_
      refine lbsPiece _ 1 6 2 32 33 848 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 0 _ _ from rfl) x).trans ?_
      refine lbsPiece _ 0 6 2 32 33 832 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 1 _ _ from rfl) x).trans ?_
      refine lbsPiece _ 1 6 1 16 17 816 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 0 _ _ from rfl) x).trans ?_
      refine lbsPiece _ 0 6 1 16 17 800 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 1 _ _ from rfl) x).trans ?_
      refine lbsPiece _ 1 6 0 0 1 784 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 0 _ _ from rfl) x).trans ?_
      refine lbsPiece _ 0 6 0 0 1 768 (by decide) (by decide) rfl rfl rfl _ _ _ _ _ _ _ _ (by decide) _ x ?_
      exact fun r l => lbsSrc X7 _ 6 768 (by decide) rfl _ _ _ _ _ r l
    refine ⟨fun x => ?_, ?_⟩
    · sl_unfold_words
      refine (congrFun (show _ = lbsTile 1 _ _ from rfl) x).trans ?_
      refine lbsPiece _ 1 5 3 48 49 752 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 0 _ _ from rfl) x).trans ?_
      refine lbsPiece _ 0 5 3 48 49 736 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 1 _ _ from rfl) x).trans ?_
      refine lbsPiece _ 1 5 2 32 33 720 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 0 _ _ from rfl) x).trans ?_
      refine lbsPiece _ 0 5 2 32 33 704 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 1 _ _ from rfl) x).trans ?_
      refine lbsPiece _ 1 5 1 16 17 688 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 0 _ _ from rfl) x).trans ?_
      refine lbsPiece _ 0 5 1 16 17 672 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 1 _ _ from rfl) x).trans ?_
      refine lbsPiece _ 1 5 0 0 1 656 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 0 _ _ from rfl) x).trans ?_
      refine lbsPiece _ 0 5 0 0 1 640 (by decide) (by decide) rfl rfl rfl _ _ _ _ _ _ _ _ (by decide) _ x ?_
      exact fun r l => lbsSrc X7 _ 5 640 (by decide) rfl _ _ _ _ _ r l
    refine ⟨fun x => ?_, ?_⟩
    · sl_unfold_words
      refine (congrFun (show _ = lbsTile 1 _ _ from rfl) x).trans ?_
      refine lbsPiece _ 1 4 3 48 49 624 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 0 _ _ from rfl) x).trans ?_
      refine lbsPiece _ 0 4 3 48 49 608 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 1 _ _ from rfl) x).trans ?_
      refine lbsPiece _ 1 4 2 32 33 592 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 0 _ _ from rfl) x).trans ?_
      refine lbsPiece _ 0 4 2 32 33 576 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 1 _ _ from rfl) x).trans ?_
      refine lbsPiece _ 1 4 1 16 17 560 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 0 _ _ from rfl) x).trans ?_
      refine lbsPiece _ 0 4 1 16 17 544 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 1 _ _ from rfl) x).trans ?_
      refine lbsPiece _ 1 4 0 0 1 528 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 0 _ _ from rfl) x).trans ?_
      refine lbsPiece _ 0 4 0 0 1 512 (by decide) (by decide) rfl rfl rfl _ _ _ _ _ _ _ _ (by decide) _ x ?_
      exact fun r l => lbsSrc X7 _ 4 512 (by decide) rfl _ _ _ _ _ r l
    refine ⟨fun x => ?_, ?_⟩
    · sl_unfold_words
      refine (congrFun (show _ = lbsTile 1 _ _ from rfl) x).trans ?_
      refine lbsPiece _ 1 3 3 48 49 496 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 0 _ _ from rfl) x).trans ?_
      refine lbsPiece _ 0 3 3 48 49 480 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 1 _ _ from rfl) x).trans ?_
      refine lbsPiece _ 1 3 2 32 33 464 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 0 _ _ from rfl) x).trans ?_
      refine lbsPiece _ 0 3 2 32 33 448 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 1 _ _ from rfl) x).trans ?_
      refine lbsPiece _ 1 3 1 16 17 432 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 0 _ _ from rfl) x).trans ?_
      refine lbsPiece _ 0 3 1 16 17 416 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 1 _ _ from rfl) x).trans ?_
      refine lbsPiece _ 1 3 0 0 1 400 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 0 _ _ from rfl) x).trans ?_
      refine lbsPiece _ 0 3 0 0 1 384 (by decide) (by decide) rfl rfl rfl _ _ _ _ _ _ _ _ (by decide) _ x ?_
      exact fun r l => lbsSrc X7 _ 3 384 (by decide) rfl _ _ _ _ _ r l
    refine ⟨fun x => ?_, ?_⟩
    · sl_unfold_words
      refine (congrFun (show _ = lbsTile 1 _ _ from rfl) x).trans ?_
      refine lbsPiece _ 1 2 3 48 49 368 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 0 _ _ from rfl) x).trans ?_
      refine lbsPiece _ 0 2 3 48 49 352 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 1 _ _ from rfl) x).trans ?_
      refine lbsPiece _ 1 2 2 32 33 336 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 0 _ _ from rfl) x).trans ?_
      refine lbsPiece _ 0 2 2 32 33 320 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 1 _ _ from rfl) x).trans ?_
      refine lbsPiece _ 1 2 1 16 17 304 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 0 _ _ from rfl) x).trans ?_
      refine lbsPiece _ 0 2 1 16 17 288 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 1 _ _ from rfl) x).trans ?_
      refine lbsPiece _ 1 2 0 0 1 272 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 0 _ _ from rfl) x).trans ?_
      refine lbsPiece _ 0 2 0 0 1 256 (by decide) (by decide) rfl rfl rfl _ _ _ _ _ _ _ _ (by decide) _ x ?_
      exact fun r l => lbsSrc X7 _ 2 256 (by decide) rfl _ _ _ _ _ r l
    refine ⟨fun x => ?_, ?_⟩
    · sl_unfold_words
      refine (congrFun (show _ = lbsTile 1 _ _ from rfl) x).trans ?_
      refine lbsPiece _ 1 1 3 48 49 240 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 0 _ _ from rfl) x).trans ?_
      refine lbsPiece _ 0 1 3 48 49 224 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 1 _ _ from rfl) x).trans ?_
      refine lbsPiece _ 1 1 2 32 33 208 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 0 _ _ from rfl) x).trans ?_
      refine lbsPiece _ 0 1 2 32 33 192 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 1 _ _ from rfl) x).trans ?_
      refine lbsPiece _ 1 1 1 16 17 176 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 0 _ _ from rfl) x).trans ?_
      refine lbsPiece _ 0 1 1 16 17 160 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 1 _ _ from rfl) x).trans ?_
      refine lbsPiece _ 1 1 0 0 1 144 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 0 _ _ from rfl) x).trans ?_
      refine lbsPiece _ 0 1 0 0 1 128 (by decide) (by decide) rfl rfl rfl _ _ _ _ _ _ _ _ (by decide) _ x ?_
      exact fun r l => lbsSrc X7 _ 1 128 (by decide) rfl _ _ _ _ _ r l
    refine ⟨fun x => ?_, ?_⟩
    · sl_unfold_words
      refine (congrFun (show _ = lbsTile 1 _ _ from rfl) x).trans ?_
      refine lbsPiece _ 1 0 3 48 49 112 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 0 _ _ from rfl) x).trans ?_
      refine lbsPiece _ 0 0 3 48 49 96 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 1 _ _ from rfl) x).trans ?_
      refine lbsPiece _ 1 0 2 32 33 80 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 0 _ _ from rfl) x).trans ?_
      refine lbsPiece _ 0 0 2 32 33 64 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 1 _ _ from rfl) x).trans ?_
      refine lbsPiece _ 1 0 1 16 17 48 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 0 _ _ from rfl) x).trans ?_
      refine lbsPiece _ 0 0 1 16 17 32 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 1 _ _ from rfl) x).trans ?_
      refine lbsPiece _ 1 0 0 0 1 16 (by decide) (by decide) rfl rfl rfl _ _ _ _ _ _ _ _ (by decide) _ x ?_
      exact fun r l => lbsSrc X7 _ 0 0 (by decide) rfl _ _ _ _ _ r l
    refine ⟨fun x => ?_, ?_⟩
    · sl_unfold_words
      refine (congrFun (show _ = lbsTile 0 _ _ from rfl) x).trans ?_
      refine lbsPiece _ 0 0 0 0 1 0 (by decide) (by decide) rfl rfl rfl _ _ _ _ _ _ _ _ (by decide) _ x ?_
      exact fun r l => lbsSrc X7 _ 0 0 (by decide) rfl _ _ _ _ _ r l
    trivial
  · rfl

end Cert.KernelIdeal.Val

end
-- ==== Proof.OutFirst.lean ====
/- The output block at the first point. -/
module

public import proofs.«01_k».proof.Proof.OutDefs
public import proofs.«01_k».proof.Proof.BodyFirst
public import proofs.«01_k».proof.Proof.AbsFirst
public import proofs.«01_k».proof.Proof.LbsFirst
public import Idealize.ShloMosaic.Lib.ValueIdx
public import Idealize.ShloMosaic.Lib.Pipeline.ReadBack

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Val

open Cert.KernelIdeal Cert.KernelIdeal.Gen ValueIdx

variable {F : FTy → Type} [FloatOps F]

/-- The accumulator after the weight loop. -/
def accbodyFirst (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (hc : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f13 : BufTy.Contents (Elt F) arg13.view.ty) : BufTy.Contents (Elt F) arg16.view.ty :=
  accC harg16 (bodyFirst.sl.r_429 arg8 X8) (bodyFirst.sl.r_430 arg8 X8) k0_pay1303 (View.read (Elt F) arg3.view X3) (View.read (Elt F) arg10.view (xsC harg10 (View.read (Elt F) arg2.view X2) f10 (Scf.trips k0_t1_loop.lb k0_t1_loop.ub k0_t1_loop.st)))
    (View.read (Elt F) arg11.view (arg11.view.writes (Elt F) arg11.view.junk (bodyFirst.sl.H11_128 arg1 arg4 arg5 X1 X4 X5)))
    (arg16.view.writes (Elt F) arg16.view.junk [⟨Rect.unit (s := S1024x256) ![0, 0] ![1024, 256] inb_S1024x256_S1024x256_0_0, k0_pay1300 (bodyFirst.sl.v8302 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X7 f13) (bodyFirst.sl.v8303 arg2 arg6 arg12 X2 X6)⟩])
    (Scf.trips k0_t2_loop.lb k0_t2_loop.ub k0_t2_loop.st)

omit [FloatOps F] in
/-- After all 35 trips every tile is in place. -/
theorem partX_full (X : S256x8960.Idx → Elt F .bf16) (G : S35x256x256.Idx → Elt F .bf16) : partX X G 35 = tilesC X := funext fun y => if_pos (y 0).isLt

/-- The input tiles after the tile loop. -/
theorem xs_first (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (hc : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f13 : BufTy.Contents (Elt F) arg13.view.ty) : (bodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8).2.1 f10 = harg10.unread (tilesC (arg2.view.read (Elt F) X2)) := by
  unfold bodyFirst
  dsimp only
  have hT : Scf.trips k0_t1_loop.lb k0_t1_loop.ub k0_t1_loop.st = 34 + 1 := by decide +kernel
  rw [hT]
  show harg10.unread (partX (arg2.view.read (Elt F) X2) _ 35) = _
  rw [partX_full]

/-- The LoRA product after the first point. -/
theorem t_first (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (hc : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f13 : BufTy.Contents (Elt F) arg13.view.ty) (f12 : BufTy.Contents (Elt F) arg12.view.ty) : (bodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8).2.2.1 f10 f12 f13 = harg12.unread (k0_pay486 (arg2.view.read (Elt F) X2) (arg6.view.read (Elt F) X6)) := by
  unfold bodyFirst
  dsimp only
  unfold bodyFirst.sl.H12_1
  refine (writes_whole2 harg12 _ _ _).trans (congrArg harg12.unread ?_)
  exact congrArg₂ k0_pay486 (readAt_whole2 _ _) (readAt_whole2 _ _)

/-- What the first point leaves in the tile scratch: the tiles of the activations. -/
theorem read_tiles (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (hc : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f13 : BufTy.Contents (Elt F) arg13.view.ty) : arg10.view.read (Elt F) (xsC harg10 (View.read (Elt F) arg2.view X2) f10 35) = tilesC (arg2.view.read (Elt F) X2) := by
  show arg10.view.read (Elt F) (harg10.unread (partX (arg2.view.read (Elt F) X2) _ 35)) = _
  rw [partX_full, harg10.read_unread]

/-- What the first point computes of the low-rank branch: the product of activations and first factor. -/
theorem read_t (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (hc : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f13 : BufTy.Contents (Elt F) arg13.view.ty) : bodyFirst.sl.v8303 arg2 arg6 arg12 X2 X6 = k0_pay486 (arg2.view.read (Elt F) X2) (arg6.view.read (Elt F) X6) := by
  unfold bodyFirst.sl.v8303 bodyFirst.sl.H12_1
  refine (readAt_whole2 _ _).trans ?_
  show arg12.view.read (Elt F) (arg12.view.writes (Elt F) _ _) = _
  refine (congrArg (arg12.view.read (Elt F)) (writes_whole2 harg12 _ _ _)).trans ((harg12.read_unread _).trans ?_)
  exact congrArg₂ k0_pay486 (readAt_whole2 _ _) (readAt_whole2 _ _)

/-- The accumulator after the weight loop, as a function of the blocks. -/
theorem read_accbodyFirst (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (hc : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f13 : BufTy.Contents (Elt F) arg13.view.ty) : arg16.view.read (Elt F) (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)
    = accK (k0_pay1301 (tabS (arg8.view.read (Elt F) X8) 0)) (k0_pay1302 (tabS (arg8.view.read (Elt F) X8) 1)) k0_pay1303 (arg3.view.read (Elt F) X3) (tilesC (arg2.view.read (Elt F) X2))
      (absC (View.readAt (Elt F) arg1.view (Rect.unit ![0, 0] S1x1.size inb_S1x1_S1x1_0_0).toLoadRect X1 (Shape.Idx.first (s := S1x1) (by decide))) (arg4.view.read (Elt F) X4) (arg5.view.read (Elt F) X5)) (k0_pay1300 (lbsC (arg7.view.read (Elt F) X7)) (k0_pay486 (arg2.view.read (Elt F) X2) (arg6.view.read (Elt F) X6))) 35 := by
  unfold accbodyFirst
  have hT : Scf.trips k0_t2_loop.lb k0_t2_loop.ub k0_t2_loop.st = 35 := by decide +kernel
  have hl : bodyFirst.sl.v8302 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X7 f13 = lbsC (arg7.view.read (Elt F) X7) :=
    (readAt_whole2 _ _).trans (lbs_bodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X7 f13 arg14.view.junk)
  have h1 : bodyFirst.sl.r_429 arg8 X8 = k0_pay1301 (tabS (arg8.view.read (Elt F) X8) 0) := congrArg (k0_pay1301 (F := F)) (tabS_eq X8 0 0 rfl _)
  have h2 : bodyFirst.sl.r_430 arg8 X8 = k0_pay1302 (tabS (arg8.view.read (Elt F) X8) 1) := congrArg (k0_pay1302 (F := F)) (tabS_eq X8 1 1 rfl _)
  rw [read_accC, hT, h1, h2, writes_whole2 harg16, harg16.read_unread, hl, abs_bodyFirst]
  rw [read_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13, read_t c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13]

set_option maxRecDepth 65536 in
set_option maxHeartbeats 0 in
/-- The body writes `outV` into the output block. -/
theorem read_bodyFirst (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (hc : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f13 : BufTy.Contents (Elt F) arg13.view.ty) (f9 : BufTy.Contents (Elt F) arg9.view.ty) :
    arg9.view.read (Elt F) (arg9.view.writes (Elt F) f9 ((bodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 ).1 f10 f13))
      = outV (View.readAt (Elt F) arg1.view (Rect.unit ![0, 0] S1x1.size inb_S1x1_S1x1_0_0).toLoadRect X1 (Shape.Idx.first (s := S1x1) (by decide))) (arg3.view.read (Elt F) X3) (arg4.view.read (Elt F) X4) (arg5.view.read (Elt F) X5) (arg7.view.read (Elt F) X7) (arg8.view.read (Elt F) X8) (tilesC (arg2.view.read (Elt F) X2)) (k0_pay486 (arg2.view.read (Elt F) X2) (arg6.view.read (Elt F) X6)) := by
  have hA := congrArg outC (read_accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)
  unfold bodyFirst
  dsimp only
  funext y
  refine View.read_writes_apply_of_pieces _ _ _ _ (View.PiecesOf.mem ?_) y (View.cover_of_tiled _ ![256, 128] ?_ _)
  · refine ⟨fun x => ?_, ?_⟩
    · refine Eq.trans (congrFun (?_ : _ = outBlk (View.readAt (Elt F) arg16.view (Rect.unit (s := S1024x256) ![896, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![928, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![960, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![992, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13))) x) ?_
      · rfl
      exact (outPiece _ 896 896 928 960 992 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![768, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![800, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![832, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![864, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13))) x) ?_
      · rfl
      exact (outPiece _ 768 768 800 832 864 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![640, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![672, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![704, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![736, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13))) x) ?_
      · rfl
      exact (outPiece _ 640 640 672 704 736 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![512, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![544, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![576, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![608, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13))) x) ?_
      · rfl
      exact (outPiece _ 512 512 544 576 608 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![384, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![416, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![448, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![480, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13))) x) ?_
      · rfl
      exact (outPiece _ 384 384 416 448 480 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![256, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![288, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![320, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![352, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13))) x) ?_
      · rfl
      exact (outPiece _ 256 256 288 320 352 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![128, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![160, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![192, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![224, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13))) x) ?_
      · rfl
      exact (outPiece _ 128 128 160 192 224 rfl (by decide) rfl rfl rfl rfl _ _ _ _ (by decide) x).trans (congrFun hA _)
    refine ⟨fun x => ?_, ?_⟩
    · refine Eq.trans (congrFun (?_ : _ = outBlk (View.readAt (Elt F) arg16.view (Rect.unit (s := S1024x256) ![0, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![32, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![64, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)) (View.readAt (Elt F) arg16.view (Rect.unit (s := S1024x256) ![96, 0] ![32, 256] (by decide)).toLoadRect (accbodyFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13))) x) ?_
      · rfl
      exact (outPiece _ 0 0 32 64 96 rfl (by decide) rfl rfl rfl rfl _ _ _ _ (by decide) x).trans (congrFun hA _)
    trivial
  · rfl

end Cert.KernelIdeal.Val

end
-- ==== Proof.Bytes.lean ====
/- Bytes, half words and words of the packed tiles, entry by entry. -/
module

public import proofs.«01_k».proof.Proof.OutDefs
public import Idealize.ShloMosaic.Lib.BitcastFour

@[expose] public section

set_option maxRecDepth 16384

noncomputable section

open Idealize.ShloMosaic

namespace Cert.KernelIdeal.Val

open Cert.KernelIdeal Cert.KernelIdeal.Gen ValueIdx

variable {F : FTy → Type} [FloatOps F]

/-- Words read as bytes: byte row `p` of a lane is byte `p % 4` of word row `p / 4`. -/
theorem words_bytes {R r n : Nat} (x : (⟨2, ![r, n]⟩ : Shape).Idx → BitVec 32)
    (h : (⟨2, ![r, n]⟩ : Shape).Bitcasts 32 ⟨2, ![R, n]⟩ 8) (p : Fin R) (l : Fin n) (q : Nat) (hq : q < 8) (a : Fin r) (ha : a.val = p.val / 4) :
    (bitcast ⟨2, ![R, n]⟩ 8 x h (ValueIdx.ix2 p l)).getLsbD q = (x (ValueIdx.ix2 a l)).getLsbD (8 * (p.val % 4) + q) := by
  rw [bitcast_getLsbD x h _ q hq (by decide)]
  have er : Shape.row ⟨2, ![R, n]⟩ (ValueIdx.ix2 p l) = p.val := rfl
  congr 1
  · congr 1
    funext c
    match c with
    | ⟨0, _⟩ => exact Fin.ext ((h.srcIdx_row _ _ _ ⟨0, Nat.zero_lt_two⟩ rfl).trans (by rw [er, ha]; omega))
    | ⟨1, _⟩ => exact Fin.ext (h.srcIdx_other _ _ _ ⟨1, Nat.one_lt_two⟩ (by show ¬ 1 + 2 = 2; omega))
  · rw [er]; omega

/-- Words read as half words. -/
theorem words_halves {R r n : Nat} (x : (⟨2, ![r, n]⟩ : Shape).Idx → BitVec 32)
    (h : (⟨2, ![r, n]⟩ : Shape).Bitcasts 32 ⟨2, ![R, n]⟩ 16) (p : Fin R) (l : Fin n) (q : Nat) (hq : q < 16) (a : Fin r) (ha : a.val = p.val / 2) :
    (bitcast ⟨2, ![R, n]⟩ 16 x h (ValueIdx.ix2 p l)).getLsbD q = (x (ValueIdx.ix2 a l)).getLsbD (16 * (p.val % 2) + q) := by
  rw [bitcast_getLsbD x h _ q hq (by decide)]
  have er : Shape.row ⟨2, ![R, n]⟩ (ValueIdx.ix2 p l) = p.val := rfl
  congr 1
  · congr 1
    funext c
    match c with
    | ⟨0, _⟩ => exact Fin.ext ((h.srcIdx_row _ _ _ ⟨0, Nat.zero_lt_two⟩ rfl).trans (by rw [er, ha]; omega))
    | ⟨1, _⟩ => exact Fin.ext (h.srcIdx_other _ _ _ ⟨1, Nat.one_lt_two⟩ (by show ¬ 1 + 2 = 2; omega))
  · rw [er]; omega

/-- The nibble a packed byte gives: the high one for half 0, the low one for half 1. -/
def nibB (b : BitVec 8) : Fin 2 → BitVec 8
  | 0 => b >>> 4
  | 1 => b &&& 15#8

/-- The bits of the mask that keeps the low half of each byte. -/
theorem mask_bit (i : ℕ) (h : i < 32) : (252645135#32 : BitVec 32).getLsbD i = decide (i % 8 < 4) := by
  interval_cases i <;> rfl

/-- The bits of a word shifted right. -/
theorem shrui_bit (x y : BitVec 32) (k i : ℕ) (hy : y.toNat = k) (hk : k < 32) : (IntOp.shrui .vector x y).getLsbD i = x.getLsbD (i + k) := by
  unfold IntOp.shrui
  simp [hy, hk, Nat.not_le.2 hk, Nat.add_comm]

/-- The bits of a word shifted left. -/
theorem shli_bit (x y : BitVec 32) (k i : ℕ) (hy : y.toNat = k) (hk : k < 32) (hi : i < 32) (hki : k ≤ i) : (IntOp.shli .vector x y).getLsbD i = x.getLsbD (i - k) := by
  unfold IntOp.shli
  rw [if_pos (by rw [hy]; exact hk), BitVec.shiftLeft_eq', hy, BitVec.getLsbD_shiftLeft]
  simp only [hi, decide_true, Bool.true_and, decide_eq_false (Nat.not_lt.2 hki), Bool.not_false]

/-- A nibble of a word of four bytes. -/
theorem nibHi_bit (v : BitVec 32) (i : ℕ) (hi : i < 32) :
    (IntOp.andi (IntOp.shrui .vector v 4#32) 252645135#32).getLsbD i = (v.getLsbD (i + 4) && decide (i % 8 < 4)) := by
  rw [IntOp.andi, BitVec.getLsbD_and, mask_bit _ hi, shrui_bit _ _ 4 _ rfl (by decide)]

/-- The bits of a word with only the low half of each byte kept. -/
theorem nibLo_bit (v : BitVec 32) (i : ℕ) (hi : i < 32) :
    (IntOp.andi v 252645135#32).getLsbD i = (v.getLsbD i && decide (i % 8 < 4)) := by
  rw [IntOp.andi, BitVec.getLsbD_and, mask_bit _ hi]

/-- The high nibbles of a block of packed weights. -/
theorem nibHi_apply (w : Vec F S32x128 .i8) (p : Fin 32) (l : Fin 128) :
    k0_pay475 (k0_pay472 w) (ValueIdx.ix2 p l) = w (ValueIdx.ix2 p l) >>> 4 := by
  have hp := p.isLt
  apply BitVec.eq_of_getLsbD_eq
  intro q hq
  refine (words_bytes (R := 32) (r := 8) (n := 128) (andi (shrui (bitcast S8x128 32 w bitcasts_S32x128_w8_S8x128_w32) (broadcast S8x128 4#32)) (broadcast S8x128 252645135#32)) bitcasts_S8x128_w32_S32x128_w8 p l q hq ⟨p.val / 4, by omega⟩ rfl).trans ?_
  refine (nibHi_bit (bitcast S8x128 32 w bitcasts_S32x128_w8_S8x128_w32 (ValueIdx.ix2 ⟨p.val / 4, by omega⟩ l)) (8 * (p.val % 4) + q) (by omega)).trans ?_
  rw [BitVec.getLsbD_ushiftRight]
  by_cases h : q < 4
  · rw [show decide ((8 * (p.val % 4) + q) % 8 < 4) = true from decide_eq_true (by omega), Bool.and_true]
    refine (bitcast_8_32_getLsbD_ix2 (R := 32) (r := 8) (n := 128) w bitcasts_S32x128_w8_S8x128_w32 ⟨p.val / 4, by omega⟩ l (8 * (p.val % 4) + q + 4) (by omega) p (by show p.val = 4 * (p.val / 4) + (8 * (p.val % 4) + q + 4) / 8; omega)).trans ?_
    congr 1; omega
  · rw [show decide ((8 * (p.val % 4) + q) % 8 < 4) = false from decide_eq_false (by omega), Bool.and_false]
    exact (BitVec.getLsbD_of_ge _ _ (by omega)).symm

/-- The low nibbles of a block of packed weights. -/
theorem nibLo_apply (w : Vec F S32x128 .i8) (p : Fin 32) (l : Fin 128) :
    k0_pay480 (k0_pay472 w) (ValueIdx.ix2 p l) = w (ValueIdx.ix2 p l) &&& 15#8 := by
  have hp := p.isLt
  apply BitVec.eq_of_getLsbD_eq
  intro q hq
  refine (words_bytes (R := 32) (r := 8) (n := 128) (andi (bitcast S8x128 32 w bitcasts_S32x128_w8_S8x128_w32) (broadcast S8x128 252645135#32)) bitcasts_S8x128_w32_S32x128_w8 p l q hq ⟨p.val / 4, by omega⟩ rfl).trans ?_
  refine (nibLo_bit (bitcast S8x128 32 w bitcasts_S32x128_w8_S8x128_w32 (ValueIdx.ix2 ⟨p.val / 4, by omega⟩ l)) (8 * (p.val % 4) + q) (by omega)).trans ?_
  rw [BitVec.getLsbD_and, show (15#8 : BitVec 8).getLsbD q = decide ((8 * (p.val % 4) + q) % 8 < 4) by
    have : (8 * (p.val % 4) + q) % 8 = q := by omega
    rw [this]; interval_cases q <;> rfl]
  congr 1
  refine (bitcast_8_32_getLsbD_ix2 (R := 32) (r := 8) (n := 128) w bitcasts_S32x128_w8_S8x128_w32 ⟨p.val / 4, by omega⟩ l (8 * (p.val % 4) + q) (by omega) p (by show p.val = 4 * (p.val / 4) + (8 * (p.val % 4) + q) / 8; omega)).trans ?_
  congr 1; omega

/-- The nibbles of a block of packed weights. -/
theorem nibT_apply (w : Vec F S32x128 .i8) (nib : Fin 2) (p : Fin 32) (l : Fin 128) :
    nibT w nib (ValueIdx.ix2 p l) = nibB (w (ValueIdx.ix2 p l)) nib :=
  match nib with
  | 0 => nibHi_apply w p l
  | 1 => nibLo_apply w p l

/-- A nibble is below 16. -/
theorem nibB_lt (b : BitVec 8) (nib : Fin 2) : (nibB b nib).toNat < 16 := by
  revert b nib; decide +kernel

/-- A nibble widened to 32 bits keeps its value as a row of the table. -/
theorem nibB_ext (b : BitVec 8) (nib : Fin 2) : ((nibB b nib).signExtend 32).toNat % 32 = (nibB b nib).toNat := by
  revert b nib; decide +kernel

/-- A look-up in a table of bytes. -/
theorem gatherLo_apply (T : IVec S32x128 8) (w : Vec F S32x128 .i8) (nib : Fin 2) (p : Fin 32) (l : Fin 128) (n : Fin 32)
    (hn : n.val = (nibB (w (ValueIdx.ix2 p l)) nib).toNat) :
    k0_pay481 T (nibT w nib) (ValueIdx.ix2 p l) = T (ValueIdx.ix2 n l) := by
  have e : shapeCast S32x128 (shapeCast S32x128x1 (extsi 32 (nibT w nib) natLt_8_32) shapeCasts_S32x128_S32x128x1) shapeCasts_S32x128x1_S32x128 (ValueIdx.ix2 p l)
      = (nibB (w (ValueIdx.ix2 p l)) nib).signExtend 32 := by
    rw [shapeCast_shapeCast]
    exact congrArg (BitVec.signExtend 32) (nibT_apply w nib p l)
  refine congrArg T (funext fun a => ?_)
  fin_cases a
  · refine Fin.ext ?_
    show (shapeCast S32x128 (shapeCast S32x128x1 (extsi 32 (nibT w nib) natLt_8_32) shapeCasts_S32x128_S32x128x1) shapeCasts_S32x128x1_S32x128 (ValueIdx.ix2 p l)).toNat % 32 = n.val
    rw [e, nibB_ext, hn]
  · rfl

/-- The gather from the table of high bytes takes the row that the nibble names. -/
theorem gatherHi_apply (T : IVec S32x128 8) (w : Vec F S32x128 .i8) (nib : Fin 2) (p : Fin 32) (l : Fin 128) (n : Fin 32)
    (hn : n.val = (nibB (w (ValueIdx.ix2 p l)) nib).toNat) :
    k0_pay482 T (nibT w nib) (ValueIdx.ix2 p l) = T (ValueIdx.ix2 n l) :=
  gatherLo_apply T w nib p l n hn

/-- The odd rows. -/
theorem odd_apply (p : Fin 32) (l : Fin 128) : k0_pay1303 (ValueIdx.ix2 p l) = BitVec.ofBool (decide (p.val % 2 = 1)) := by
  have : k0_pay1303 (ValueIdx.ix2 p l) = IntOp.cmpi .ne (IntOp.andi (BitVec.ofNat 32 p.val) 1#32) 0#32 := by
    refine congrArg (fun z => IntOp.cmpi .ne (IntOp.andi z 1#32) 0#32) ?_
    show BitVec.ofNat 32 (0 * 32 + p.val) = _
    rw [Nat.zero_mul, Nat.zero_add]
  rw [this]; clear this l; revert p; decide +kernel

/-- A select at an odd row and at an even one. -/
theorem select_odd {α : Type} (a b : S32x128.Idx → α) (p : Fin 32) (l : Fin 128) (h : p.val % 2 = 1) :
    select k0_pay1303 a b (ValueIdx.ix2 p l) = a (ValueIdx.ix2 p l) := by
  show Scalar.select (k0_pay1303 (ValueIdx.ix2 p l)) _ _ = _
  rw [odd_apply, decide_eq_true h]; rfl

/-- At an even row the byte selection takes its second argument. -/
theorem select_even {α : Type} (a b : S32x128.Idx → α) (p : Fin 32) (l : Fin 128) (h : p.val % 2 = 0) :
    select k0_pay1303 a b (ValueIdx.ix2 p l) = b (ValueIdx.ix2 p l) := by
  show Scalar.select (k0_pay1303 (ValueIdx.ix2 p l)) _ _ = _
  rw [odd_apply, decide_eq_false (by omega)]; rfl

/-- Bytes moved one row up within their words. -/
theorem up_bit (x : IVec S32x128 8) (p p' : Fin 32) (l : Fin 128) (q : ℕ) (hq : q < 8) (hp : p.val % 2 = 1) (hp' : p'.val + 1 = p.val) :
    (bitcast S32x128 8 (shli (bitcast S8x128 32 x bitcasts_S32x128_w8_S8x128_w32) (broadcast S8x128 8#32)) bitcasts_S8x128_w32_S32x128_w8 (ValueIdx.ix2 p l)).getLsbD q
      = (x (ValueIdx.ix2 p' l)).getLsbD q := by
  have := p.isLt
  refine (words_bytes (R := 32) (r := 8) (n := 128) (shli (bitcast S8x128 32 x bitcasts_S32x128_w8_S8x128_w32) (broadcast S8x128 8#32)) bitcasts_S8x128_w32_S32x128_w8 p l q hq ⟨p.val / 4, by omega⟩ rfl).trans ?_
  refine (shli_bit (bitcast S8x128 32 x bitcasts_S32x128_w8_S8x128_w32 (ValueIdx.ix2 ⟨p.val / 4, by omega⟩ l)) 8#32 8 (8 * (p.val % 4) + q) rfl (by decide) (by omega) (by omega)).trans ?_
  refine (bitcast_8_32_getLsbD_ix2 (R := 32) (r := 8) (n := 128) x bitcasts_S32x128_w8_S8x128_w32 ⟨p.val / 4, by omega⟩ l _ (by omega) p' (by show _ = 4 * (p.val / 4) + _; omega)).trans ?_
  congr 1; omega

/-- Bytes moved one row down within their words. -/
theorem down_bit (x : IVec S32x128 8) (p p' : Fin 32) (l : Fin 128) (q : ℕ) (hq : q < 8) (hp : p.val % 2 = 0) (hp' : p'.val = p.val + 1) :
    (bitcast S32x128 8 (shrui (bitcast S8x128 32 x bitcasts_S32x128_w8_S8x128_w32) (broadcast S8x128 8#32)) bitcasts_S8x128_w32_S32x128_w8 (ValueIdx.ix2 p l)).getLsbD q
      = (x (ValueIdx.ix2 p' l)).getLsbD q := by
  have := p.isLt
  refine (words_bytes (R := 32) (r := 8) (n := 128) (shrui (bitcast S8x128 32 x bitcasts_S32x128_w8_S8x128_w32) (broadcast S8x128 8#32)) bitcasts_S8x128_w32_S32x128_w8 p l q hq ⟨p.val / 4, by omega⟩ rfl).trans ?_
  refine (shrui_bit (bitcast S8x128 32 x bitcasts_S32x128_w8_S8x128_w32 (ValueIdx.ix2 ⟨p.val / 4, by omega⟩ l)) 8#32 8 (8 * (p.val % 4) + q) rfl (by decide)).trans ?_
  refine (bitcast_8_32_getLsbD_ix2 (R := 32) (r := 8) (n := 128) x bitcasts_S32x128_w8_S8x128_w32 ⟨p.val / 4, by omega⟩ l _ (by omega) p' (by show _ = 4 * (p.val / 4) + _; omega)).trans ?_
  congr 1; omega

/-- The bytes of row `2s` and row `2s + 1` of a mix. -/
theorem mixT_bit (lo hi : IVec S32x128 8) (eo : Fin 2) (r p : Fin 32) (l : Fin 128) (q : ℕ) (hq : q < 8) (hp : p.val = r.val / 2 * 2 + eo.val) :
    (mixT k0_pay1303 lo hi eo (ValueIdx.ix2 r l)).getLsbD q = ((if r.val % 2 = 0 then lo else hi) (ValueIdx.ix2 p l)).getLsbD q := by
  match eo with
  | 0 =>
    have hp : p.val = r.val / 2 * 2 := hp
    rcases Nat.mod_two_eq_zero_or_one r.val with h | h
    · rw [if_pos h]
      refine (congrArg (fun z : BitVec 8 => z.getLsbD q) (select_even _ lo r l h)).trans ?_
      rw [show r = p from Fin.ext (by omega)]
    · rw [if_neg (by omega)]
      refine (congrArg (fun z : BitVec 8 => z.getLsbD q) (select_odd _ lo r l h)).trans ?_
      exact up_bit hi r p l q hq h (by omega)
  | 1 =>
    have hp : p.val = r.val / 2 * 2 + 1 := hp
    rcases Nat.mod_two_eq_zero_or_one r.val with h | h
    · rw [if_pos h]
      refine (congrArg (fun z : BitVec 8 => z.getLsbD q) (select_even hi _ r l h)).trans ?_
      exact down_bit lo r p l q hq h (by omega)
    · rw [if_neg (by omega)]
      refine (congrArg (fun z : BitVec 8 => z.getLsbD q) (select_odd hi _ r l h)).trans ?_
      rw [show r = p from Fin.ext (by omega)]

/-- The half word of row `s` of one parity: the value bytes of row `2s + eo`. -/
theorem mixT_apply (lo hi : IVec S32x128 8) (eo : Fin 2) (s : Fin 16) (l : Fin 128) (p : Fin 32) (hp : p.val = 2 * s.val + eo.val) :
    bitcast S16x128 16 (bitcast S8x128 32 (mixT k0_pay1303 lo hi eo) bitcasts_S32x128_w8_S8x128_w32) bitcasts_S8x128_w32_S16x128_w16 (ValueIdx.ix2 s l)
      = hi (ValueIdx.ix2 p l) ++ lo (ValueIdx.ix2 p l) := by
  have hs := s.isLt
  apply BitVec.eq_of_getLsbD_eq
  intro q hq
  refine (words_halves (R := 16) (r := 8) (n := 128) (bitcast S8x128 32 (mixT k0_pay1303 lo hi eo) bitcasts_S32x128_w8_S8x128_w32) bitcasts_S8x128_w32_S16x128_w16 s l q hq ⟨s.val / 2, by omega⟩ rfl).trans ?_
  refine (bitcast_8_32_getLsbD_ix2 (R := 32) (r := 8) (n := 128) (mixT k0_pay1303 lo hi eo) bitcasts_S32x128_w8_S8x128_w32 ⟨s.val / 2, by omega⟩ l _ (by omega) ⟨2 * s.val + q / 8, by omega⟩
    (by show 2 * s.val + q / 8 = 4 * (s.val / 2) + _; omega)).trans ?_
  refine (mixT_bit lo hi eo ⟨2 * s.val + q / 8, by omega⟩ p l _ (by omega) (by show _ = (2 * s.val + q / 8) / 2 * 2 + _; omega)).trans ?_
  rw [BitVec.getLsbD_append]
  by_cases h : q < 8
  · rw [if_pos h, if_pos (by show (2 * s.val + q / 8) % 2 = 0; omega)]
    congr 1; omega
  · rw [if_neg h, if_neg (by show ¬ (2 * s.val + q / 8) % 2 = 0; omega)]
    congr 1; omega

end Cert.KernelIdeal.Val

end
-- ==== Proof.Scales.lean ====
/- The double-quantised scales, entry by entry. -/
module

public import proofs.«01_k».proof.Proof.Bytes
public import proofs.«01_k».proof.Proof.Deint

@[expose] public section

set_option maxRecDepth 16384

noncomputable section

open Idealize.ShloMosaic

namespace Cert.KernelIdeal.Val

open Cert.KernelIdeal Cert.KernelIdeal.Gen ValueIdx

variable {F : FTy → Type} [FloatOps F]

/-- The lane a scale's group is gathered at. -/
def laneW (a l : ℕ) (b p lt : BitVec 32) : BitVec 32 :=
  IntOp.minsi (IntOp.shrsi .vector (IntOp.addi (IntOp.addi (IntOp.muli (IntOp.addi (IntOp.addi (IntOp.muli 4#32 (BitVec.ofNat 32 a)) b) p) 140#32) (BitVec.ofNat 32 l)) lt) 8#32) 127#32

/-- The group scale that a code takes, for every code within the 140 columns, by evaluation. -/
theorem laneW_eq : ∀ (eo h p lt : Fin 2) (a : Fin 8) (l : Fin 128), 128 * lt.val + l.val < 140 →
    (laneW a.val l.val (bOff eo h) (pOff p) (ltOff lt)).toNat % 128 = ((32 * p.val + (4 * a.val + eo.val + 2 * h.val)) * 140 + (128 * lt.val + l.val)) / 256 := by
  decide +kernel

/-- A byte of a word brought to the top and back, with its sign. -/
theorem byteSign (v : BitVec 32) (eo h : Fin 2) :
    IntOp.shrsi .vector (IntOp.shli .vector v (shOff eo h)) 24#32 = (v.extractLsb' (8 * (eo.val + 2 * h.val)) 8).signExtend 32 := by
  unfold IntOp.shrsi IntOp.shli
  rw [if_pos (show (24#32 : BitVec 32).toNat < 32 by decide), if_pos (show (shOff eo h).toNat < 32 by revert eo h; decide)]
  apply BitVec.eq_of_getLsbD_eq
  intro i hi
  rw [BitVec.sshiftRight_eq', BitVec.getLsbD_sshiftRight, BitVec.getLsbD_signExtend, BitVec.msb_eq_getLsbD_last, BitVec.msb_eq_getLsbD_last, BitVec.shiftLeft_eq']
  simp only [BitVec.getLsbD_shiftLeft, BitVec.getLsbD_extractLsb']
  have hs : (shOff eo h).toNat = 24 - 8 * (eo.val + 2 * h.val) := by revert eo h; decide
  have e := eo.isLt
  have hh := h.isLt
  rw [hs]
  generalize hb : eo.val + 2 * h.val = b
  have hb4 : b < 4 := by omega
  clear hb hs
  interval_cases b <;> interval_cases i <;> simp

/-- Half of a tile of scales at an entry. -/
theorem absHalf_apply (c : Vec F S32x128 .i8) (g : Vec F S1x128 .f32) (o : Elt F .f32) (p lt eo h : Fin 2) (a : Fin 8) (l : Fin 128)
    (r : Fin 32) (n : Fin 128) (hl : 128 * lt.val + l.val < 140) (hr : r.val = 4 * a.val + eo.val + 2 * h.val)
    (hn : n.val = ((32 * p.val + r.val) * 140 + (128 * lt.val + l.val)) / 256) :
    absHalf c g o (bOff eo h) (pOff p) (ltOff lt) (shOff eo h) (ValueIdx.ix2 a l)
      = FloatOps.addf (FloatOps.mulf (FloatOps.sitofp .f32 ((c (ValueIdx.ix2 r l)).signExtend 32)) (g (ValueIdx.ix2 0 n))) o := by
  have ha := a.isLt; have he := eo.isLt; have hh := h.isLt
  refine congrArg (fun z => FloatOps.addf z o) (congrArg₂ FloatOps.mulf (congrArg (FloatOps.sitofp .f32) ?_) ?_)
  · refine (byteSign (bitcast S8x128 32 c bitcasts_S32x128_w8_S8x128_w32 (ValueIdx.ix2 a l)) eo h).trans (congrArg (BitVec.signExtend 32) ?_)
    apply BitVec.eq_of_getLsbD_eq
    intro q hq
    rw [BitVec.getLsbD_extractLsb', decide_eq_true hq, Bool.true_and]
    refine (bitcast_8_32_getLsbD_ix2 (R := 32) (r := 8) (n := 128) c bitcasts_S32x128_w8_S8x128_w32 a l (8 * (eo.val + 2 * h.val) + q) (by omega) r
      (by rw [hr]; omega)).trans ?_
    congr 1; omega
  · have e : shapeCast S8x128 (shapeCast S8x128x1 (minsi (shrsi (addi (addi (muli (addi (addi (muli (broadcast S8x128 4#32) (iota .tc S8x128 32 [0] iota_S8x128_d0_w32)) (broadcast S8x128 (bOff eo h))) (broadcast S8x128 (pOff p))) (broadcast S8x128 140#32)) (iota .tc S8x128 32 [1] iota_S8x128_d1_w32)) (broadcast S8x128 (ltOff lt))) (broadcast S8x128 8#32)) (broadcast S8x128 127#32)) shapeCasts_S8x128_S8x128x1) shapeCasts_S8x128x1_S8x128 (ValueIdx.ix2 a l)
        = laneW a.val l.val (bOff eo h) (pOff p) (ltOff lt) := by
      rw [shapeCast_shapeCast]
      show laneW (0 * 8 + a.val) (0 * 128 + l.val) _ _ _ = _
      rw [Nat.zero_mul, Nat.zero_add, Nat.zero_add]
      rfl
    rw [shapeCast_shapeCast]
    show g _ = g _
    refine congrArg g (funext fun x => Fin.ext ?_)
    fin_cases x
    · rfl
    · refine (congrArg (fun z : BitVec 32 => z.toNat % 128) e).trans ((laneW_eq eo h p lt a l hl).trans ?_)
      rw [hn, hr]

/-- The scale of row `n` of a block and column block `b`. -/
def scl (o : Elt F .f32) (C : S1024x256.Idx → Elt F .i8) (G : S16x128.Idx → Elt F .f32) (n : Fin 1024) (b : Fin 140) : Elt F .bf16 :=
  FloatOps.truncf .bf16 bitsLt_bf16_f32 (FloatOps.addf (FloatOps.mulf (FloatOps.sitofp .f32 ((C (ValueIdx.ix2 n ⟨b.val, by have := b.isLt; show _ < 256; omega⟩)).signExtend 32))
    (G (ValueIdx.ix2 ⟨n.val / 64, by have := n.isLt; show _ < 16; omega⟩ ⟨(n.val % 64 * 140 + b.val) / 256, by have := b.isLt; show _ < 128; omega⟩))) o)

/-- The scale scratch at an entry. -/
theorem absC_apply (o : Elt F .f32) (C : S1024x256.Idx → Elt F .i8) (G : S16x128.Idx → Elt F .f32) (lt : Fin 2) (R i : Fin 32) (l : Fin 128)
    (n : Fin 1024) (b : Fin 140) (hn : n.val = 32 * R.val + 2 * (i.val % 16) + i.val / 16) (hb : b.val = 128 * lt.val + l.val) :
    absC o C G (ValueIdx.ix4 lt R i l) = scl o C G n b := by
  have hR := R.isLt; have hi := i.isLt; have hb' := b.isLt
  have h32 : n.val % 32 = 2 * (i.val % 16) + i.val / 16 := by omega
  have hq : n.val / 32 = R.val := by omega
  have h64 : n.val % 64 = 32 * (R.val % 2) + n.val % 32 := by omega
  unfold absC absTile
  refine Eq.trans (shapeCast_apply _ shapeCasts_S16x128_S1x1x16x128 _ (ValueIdx.ix2 (n0 := 16) (n1 := 128) ⟨i.val % 16, by omega⟩ l) (by
    rw [rowMajor_val4 _ 2048 2048 128 rfl rfl rfl, rowMajor_val2 _ 128 rfl]; show i.val % 16 * 128 + l.val = 0 * 2048 + 0 * 2048 + i.val % 16 * 128 + l.val; omega)) ?_
  refine (interleave_apply (n := 8) (m := 16) (w := 128) _ _ _ rfl _ _).trans ?_
  have key : ∀ (h : Fin 2), i.val % 16 % 2 = h.val →
      truncf .bf16 (absHalf (codeLoad C R lt) (gsLoad G ⟨R.val / 2, by omega⟩) o (bOff ⟨i.val / 16, by omega⟩ h) (pOff ⟨R.val % 2, by omega⟩) (ltOff lt) (shOff ⟨i.val / 16, by omega⟩ h)) bitsLt_bf16_f32
        (ValueIdx.ix2 ⟨i.val % 16 / 2, by omega⟩ l) = scl o C G n b := by
    intro h hh
    refine congrArg (FloatOps.truncf .bf16 bitsLt_bf16_f32) ?_
    refine (absHalf_apply (codeLoad C R lt) (gsLoad G ⟨R.val / 2, by omega⟩) o ⟨R.val % 2, by omega⟩ lt ⟨i.val / 16, by omega⟩ h ⟨i.val % 16 / 2, by omega⟩ l
      ⟨n.val % 32, by omega⟩ ⟨(n.val % 64 * 140 + b.val) / 256, by omega⟩ (by omega) (by show n.val % 32 = 4 * (i.val % 16 / 2) + i.val / 16 + 2 * h.val; omega)
      (by show (n.val % 64 * 140 + b.val) / 256 = ((32 * (R.val % 2) + n.val % 32) * 140 + (128 * lt.val + l.val)) / 256; rw [h64, hb])).trans ?_
    refine congrArg (fun z => FloatOps.addf z o) (congrArg₂ FloatOps.mulf (congrArg (FloatOps.sitofp .f32) (congrArg (BitVec.signExtend 32) ?_)) ?_)
    · refine congrArg C (funext fun x => Fin.ext ?_)
      fin_cases x
      · show 32 * R.val + n.val % 32 = n.val; omega
      · show 128 * lt.val + l.val = b.val; omega
    · refine congrArg G (funext fun x => Fin.ext ?_)
      fin_cases x
      · show R.val / 2 = n.val / 64; omega
      · rfl
  split
  · exact key 0 (by assumption)
  · have h : ¬ i.val % 16 % 2 = 0 := by assumption
    exact key 1 (by show _ = 1; omega)

end Cert.KernelIdeal.Val

end
-- ==== Proof.Dots.lean ====
/- The three products of the body as sums of products of entries, over the extended reals. -/
module

public import proofs.«01_k».proof.Proof.OutDefs
public import Idealize.ShloMosaic.PureOps.Ideal.Laws

@[expose] public section

set_option maxRecDepth 16384

noncomputable section

open Idealize.ShloMosaic

namespace Cert.KernelIdeal.Val

open Cert.KernelIdeal Cert.KernelIdeal.Gen

/-- The tile product's left operand is read at the result's row. -/
theorem accDot_l0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl

/-- The tile product's right operand is read at the result's column. -/
theorem accDot_r1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The product at an entry, as a sum. -/
theorem accDot_apply (x : FVec Ideal S1024x256 .bf16) (y : FVec Ideal S256x256 .bf16) (i : S1024x256.Idx) :
    FloatOps.matmul dot_S1024x256_S256x256_S1024x256_1_0_0_1_n_n none x y (constant S1024x256 .f32 0x00000000#32) i = ∑ k : Fin 256, (x (ValueIdx.ix2 (i 0) k) : EReal) * (y (ValueIdx.ix2 k (i 1)) : EReal) := by
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx i ((ValueIdx.contrEquiv1 dot_S1024x256_S256x256_S1024x256_1_0_0_1_n_n 256 rfl rfl).symm k) = ValueIdx.ix2 (i 0) k := funext fun a => Fin.ext (by
    match a with
    | ⟨0, _⟩ => exact accDot_l0 _ _
    | ⟨1, _⟩ => exact (dot_S1024x256_S256x256_S1024x256_1_0_0_1_n_n.lhsIdx_val_of_single rfl i _).trans hk)
  have er : dot_S1024x256_S256x256_S1024x256_1_0_0_1_n_n.rhsIdx i ((ValueIdx.contrEquiv1 dot_S1024x256_S256x256_S1024x256_1_0_0_1_n_n 256 rfl rfl).symm k) = ValueIdx.ix2 k (i 1) := funext fun a => Fin.ext (by
    match a with
    | ⟨0, _⟩ => exact (dot_S1024x256_S256x256_S1024x256_1_0_0_1_n_n.rhsIdx_val_of_single rfl i _).trans hk
    | ⟨1, _⟩ => exact accDot_r1 _ _)
  rw [el, er]
  rfl

/-- The low-rank product's left operand is read at the result's row. -/
theorem loraDot_l0 (i : S1024x256.Idx) (q : dot_S1024x16_S256x16_S1024x256_1_1_0_0_n_n.contr.Idx) :
    (dot_S1024x16_S256x16_S1024x256_1_1_0_0_n_n.lhsIdx i q 0).val = (i 0).val := by
  unfold DotDims.lhsIdx
  rw [dif_neg (show ¬(0 : Fin S1024x16.rank) ∈ dot_S1024x16_S256x16_S1024x256_1_1_0_0_n_n.lhsBatch by decide), dif_pos (show (0 : Fin S1024x16.rank) ∈ dot_S1024x16_S256x16_S1024x256_1_1_0_0_n_n.lhsNonContracting by decide)]
  rfl

/-- The low-rank product's right operand is read at the result's column (as its row). -/
theorem loraDot_r0 (i : S1024x256.Idx) (q : dot_S1024x16_S256x16_S1024x256_1_1_0_0_n_n.contr.Idx) :
    (dot_S1024x16_S256x16_S1024x256_1_1_0_0_n_n.rhsIdx i q 0).val = (i 1).val := by
  unfold DotDims.rhsIdx
  rw [dif_neg (show ¬(0 : Fin S256x16.rank) ∈ dot_S1024x16_S256x16_S1024x256_1_1_0_0_n_n.rhsBatch by decide), dif_pos (show (0 : Fin S256x16.rank) ∈ dot_S1024x16_S256x16_S1024x256_1_1_0_0_n_n.rhsNonContracting by decide)]
  rfl

/-- The product at an entry, as a sum. -/
theorem loraDot_apply (x : FVec Ideal S1024x16 .bf16) (y : FVec Ideal S256x16 .bf16) (i : S1024x256.Idx) :
    FloatOps.matmul dot_S1024x16_S256x16_S1024x256_1_1_0_0_n_n none x y (constant S1024x256 .f32 0x00000000#32) i = ∑ k : Fin 16, (x (ValueIdx.ix2 (i 0) k) : EReal) * (y (ValueIdx.ix2 (i 1) k) : EReal) := by
  rw [Ideal.matmul_constant_zero_apply, ← Equiv.sum_comp (ValueIdx.contrEquiv1 dot_S1024x16_S256x16_S1024x256_1_1_0_0_n_n 16 rfl rfl).symm]
  refine Finset.sum_congr rfl fun k _ => ?_
  have hk := ValueIdx.contrEquiv1_symm_val dot_S1024x16_S256x16_S1024x256_1_1_0_0_n_n 16 rfl rfl k
  have el : dot_S1024x16_S256x16_S1024x256_1_1_0_0_n_n.lhsIdx i ((ValueIdx.contrEquiv1 dot_S1024x16_S256x16_S1024x256_1_1_0_0_n_n 16 rfl rfl).symm k) = ValueIdx.ix2 (i 0) k := funext fun a => Fin.ext (by
    match a with
    | ⟨0, _⟩ => exact loraDot_l0 _ _
    | ⟨1, _⟩ => exact (dot_S1024x16_S256x16_S1024x256_1_1_0_0_n_n.lhsIdx_val_of_single rfl i _).trans hk)
  have er : dot_S1024x16_S256x16_S1024x256_1_1_0_0_n_n.rhsIdx i ((ValueIdx.contrEquiv1 dot_S1024x16_S256x16_S1024x256_1_1_0_0_n_n 16 rfl rfl).symm k) = ValueIdx.ix2 (i 1) k := funext fun a => Fin.ext (by
    match a with
    | ⟨0, _⟩ => exact loraDot_r0 _ _
    | ⟨1, _⟩ => exact (dot_S1024x16_S256x16_S1024x256_1_1_0_0_n_n.rhsIdx_val_of_single rfl i _).trans hk)
  rw [el, er]
  rfl

/-- The first low-rank product's left operand is read at the result's row. -/
theorem tDot_l0 (i : S256x16.Idx) (q : dot_S256x8960_S8960x16_S256x16_1_0_0_1_n_n.contr.Idx) :
    (dot_S256x8960_S8960x16_S256x16_1_0_0_1_n_n.lhsIdx i q 0).val = (i 0).val := by
  unfold DotDims.lhsIdx
  rw [dif_neg (show ¬(0 : Fin S256x8960.rank) ∈ dot_S256x8960_S8960x16_S256x16_1_0_0_1_n_n.lhsBatch by decide), dif_pos (show (0 : Fin S256x8960.rank) ∈ dot_S256x8960_S8960x16_S256x16_1_0_0_1_n_n.lhsNonContracting by decide)]
  rfl

/-- The first low-rank product's right operand is read at the result's column. -/
theorem tDot_r1 (i : S256x16.Idx) (q : dot_S256x8960_S8960x16_S256x16_1_0_0_1_n_n.contr.Idx) :
    (dot_S256x8960_S8960x16_S256x16_1_0_0_1_n_n.rhsIdx i q 1).val = (i 1).val := by
  unfold DotDims.rhsIdx
  rw [dif_neg (show ¬(1 : Fin S8960x16.rank) ∈ dot_S256x8960_S8960x16_S256x16_1_0_0_1_n_n.rhsBatch by decide), dif_pos (show (1 : Fin S8960x16.rank) ∈ dot_S256x8960_S8960x16_S256x16_1_0_0_1_n_n.rhsNonContracting by decide)]
  rfl

/-- The product at an entry, as a sum. -/
theorem tDot_apply (x : FVec Ideal S256x8960 .bf16) (y : FVec Ideal S8960x16 .bf16) (i : S256x16.Idx) :
    FloatOps.matmul dot_S256x8960_S8960x16_S256x16_1_0_0_1_n_n none x y (constant S256x16 .f32 0x00000000#32) i = ∑ k : Fin 8960, (x (ValueIdx.ix2 (i 0) k) : EReal) * (y (ValueIdx.ix2 k (i 1)) : EReal) := by
  rw [Ideal.matmul_constant_zero_apply, ← Equiv.sum_comp (ValueIdx.contrEquiv1 dot_S256x8960_S8960x16_S256x16_1_0_0_1_n_n 8960 rfl rfl).symm]
  refine Finset.sum_congr rfl fun k _ => ?_
  have hk := ValueIdx.contrEquiv1_symm_val dot_S256x8960_S8960x16_S256x16_1_0_0_1_n_n 8960 rfl rfl k
  have el : dot_S256x8960_S8960x16_S256x16_1_0_0_1_n_n.lhsIdx i ((ValueIdx.contrEquiv1 dot_S256x8960_S8960x16_S256x16_1_0_0_1_n_n 8960 rfl rfl).symm k) = ValueIdx.ix2 (i 0) k := funext fun a => Fin.ext (by
    match a with
    | ⟨0, _⟩ => exact tDot_l0 _ _
    | ⟨1, _⟩ => exact (dot_S256x8960_S8960x16_S256x16_1_0_0_1_n_n.lhsIdx_val_of_single rfl i _).trans hk)
  have er : dot_S256x8960_S8960x16_S256x16_1_0_0_1_n_n.rhsIdx i ((ValueIdx.contrEquiv1 dot_S256x8960_S8960x16_S256x16_1_0_0_1_n_n 8960 rfl rfl).symm k) = ValueIdx.ix2 k (i 1) := funext fun a => Fin.ext (by
    match a with
    | ⟨0, _⟩ => exact (dot_S256x8960_S8960x16_S256x16_1_0_0_1_n_n.rhsIdx_val_of_single rfl i _).trans hk
    | ⟨1, _⟩ => exact tDot_r1 _ _)
  rw [el, er]
  rfl

end Cert.KernelIdeal.Val

end
-- ==== Proof.Closed.lean ====
/- The output block in closed form over the extended reals. -/
module

public import proofs.«01_k».proof.Proof.Scales
public import proofs.«01_k».proof.Proof.Dots

@[expose] public section

set_option maxRecDepth 16384

noncomputable section

open Idealize.ShloMosaic

namespace Cert.KernelIdeal.Val

open Cert.KernelIdeal Cert.KernelIdeal.Gen ValueIdx

/-- The value a nibble of a packed byte looks up in the table of value bytes. -/
def wt (T : S2x32x128.Idx → BitVec 8) (b : BitVec 8) (nib : Fin 2) (l : Fin 128) : EReal :=
  Ideal.ofBits .bf16 (T (ValueIdx.ix3 1 ⟨(nibB b nib).toNat, by have := nibB_lt b nib; show _ < 32; omega⟩ l)
    ++ T (ValueIdx.ix3 0 ⟨(nibB b nib).toNat, by have := nibB_lt b nib; show _ < 32; omega⟩ l))

/-- The word of the scale lane, for every trip and lane, by evaluation. -/
theorem siC_word : ∀ (k : Fin 35) (l : Fin 128),
    (IntOp.addi (Scalar.andi (Scalar.muli (Scf.iv 0#32 1#32 k.val) 4#32) 127#32) (IntOp.shrui .vector (BitVec.ofNat 32 l.val) 5#32)).toNat % 128 = 4 * k.val % 128 + l.val / 32 := by
  decide +kernel

/-- The scale lane of a trip at a lane: four scales to a trip, one for 32 lanes. -/
theorem siC_apply (k : Fin 35) (s : Fin 16) (l : Fin 128) : (siC k.val (ValueIdx.ix2 s l)).toNat % 128 = 4 * k.val % 128 + l.val / 32 := by
  rw [← siC_word k l]
  show (IntOp.addi _ (IntOp.shrui .vector (BitVec.ofNat 32 (0 * 128 + l.val)) 5#32)).toNat % 128 = _
  rw [Nat.zero_mul, Nat.zero_add]
  rfl

/-- A block of scales gathered at the lanes of a tile. -/
theorem gatherA_apply (k : Fin 35) (a : Vec Ideal S1x1x16x128 .bf16) (s : Fin 16) (l j : Fin 128) (hj : j.val = 4 * k.val % 128 + l.val / 32) :
    k0_pay473 (F := Ideal) (siC k.val) a (ValueIdx.ix2 s l) = a (ValueIdx.ix4 0 0 s j) := by
  have e : shapeCast S16x128 (shapeCast S16x128x1 (siC k.val) shapeCasts_S16x128_S16x128x1) shapeCasts_S16x128x1_S16x128 = siC k.val := by
    rw [shapeCast_shapeCast]
  have e2 : k0_pay473 (F := Ideal) (siC k.val) a = dynamicGather 1 (shapeCast S16x128 a shapeCasts_S1x1x16x128_S16x128)
      (shapeCast S16x128 (shapeCast S16x128x1 (siC k.val) shapeCasts_S16x128_S16x128x1) shapeCasts_S16x128x1_S16x128) := rfl
  rw [e2, e]
  refine Eq.trans (congrArg (a₂ := (ValueIdx.ix2 s j : S16x128.Idx)) (shapeCast S16x128 a shapeCasts_S1x1x16x128_S16x128) (funext fun x => Fin.ext ?_)) ?_
  · fin_cases x
    · rfl
    · exact (siC_apply k s l).trans hj.symm
  · refine shapeCast_apply _ shapeCasts_S1x1x16x128_S16x128 _ (ValueIdx.ix4 0 0 s j) ?_
    rw [rowMajor_val4 _ 2048 2048 128 rfl rfl rfl, rowMajor_val2 _ 128 rfl]
    show 0 * 2048 + 0 * 2048 + s.val * 128 + j.val = s.val * 128 + j.val
    omega

/-- The value look-up of a tile. -/
theorem wtT_apply (T : S2x32x128.Idx → BitVec 8) (w : Vec Ideal S32x128 .i8) (nib eo : Fin 2) (s : Fin 16) (l : Fin 128) (p : Fin 32) (hp : p.val = 2 * s.val + eo.val) :
    bitcastToFloat (F := Ideal) .bf16 (bitcast S16x128 16 (bitcast S8x128 32
      (mixT k0_pay1303 (k0_pay481 (k0_pay1301 (F := Ideal) (tabS (F := Ideal) T 0)) (nibT w nib)) (k0_pay482 (k0_pay1302 (F := Ideal) (tabS (F := Ideal) T 1)) (nibT w nib)) eo) bitcasts_S32x128_w8_S8x128_w32) bitcasts_S8x128_w32_S16x128_w16) (ValueIdx.ix2 s l)
      = wt T (w (ValueIdx.ix2 p l)) nib l := by
  have et : ∀ (e : Fin 2) (n : Fin 32), shapeCast S32x128 (tabS (F := Ideal) T e) shapeCasts_S1x32x128_S32x128 (ValueIdx.ix2 n l) = T (ValueIdx.ix3 e n l) := fun e n => by
    refine (shapeCast_apply (tabS (F := Ideal) T e) shapeCasts_S1x32x128_S32x128 _ (ValueIdx.ix3 0 n l) ?_).trans rfl
    rw [rowMajor_val3 _ 4096 128 rfl rfl, rowMajor_val2 _ 128 rfl]
    show 0 * 4096 + n.val * 128 + l.val = n.val * 128 + l.val
    omega
  refine congrArg (Ideal.ofBits .bf16) ?_
  refine (mixT_apply _ _ eo s l p hp).trans ?_
  rw [gatherHi_apply (F := Ideal) _ w nib p l ⟨(nibB (w (ValueIdx.ix2 p l)) nib).toNat, by have := nibB_lt (w (ValueIdx.ix2 p l)) nib; omega⟩ rfl, gatherLo_apply (F := Ideal) _ w nib p l ⟨(nibB (w (ValueIdx.ix2 p l)) nib).toNat, by have := nibB_lt (w (ValueIdx.ix2 p l)) nib; omega⟩ rfl]
  exact congrArg₂ (fun a b : BitVec 8 => a ++ b) (et 1 _) (et 0 _)

/-- A weight tile at an entry. -/
theorem wsTile_apply (T : S2x32x128.Idx → BitVec 8) (w : Vec Ideal S32x128 .i8) (a : Vec Ideal S1x1x16x128 .bf16) (nib eo : Fin 2) (k : Fin 35) (s : Fin 16) (l j : Fin 128) (p : Fin 32)
    (hp : p.val = 2 * s.val + eo.val) (hj : j.val = 4 * k.val % 128 + l.val / 32) :
    wsTile (F := Ideal) (k0_pay1301 (F := Ideal) (tabS (F := Ideal) T 0)) (k0_pay1302 (F := Ideal) (tabS (F := Ideal) T 1)) k0_pay1303 (siC k.val) w a nib eo (ValueIdx.ix2 s l)
      = (wt T (w (ValueIdx.ix2 p l)) nib l * (a (ValueIdx.ix4 0 0 s j) : EReal) : EReal) := by
  unfold wsTile
  refine Eq.trans (congrFun (shapeCast_id (s := S16x128) _ _) _) ?_
  exact congrArg₂ (fun a b : EReal => a * b) (wtT_apply T w nib eo s l p hp) (gatherA_apply k a s l j hj)

/-- The weight scratch at an entry. -/
theorem wsC_apply (T : S2x32x128.Idx → BitVec 8) (o : EReal) (W : S1024x4480.Idx → BitVec 8) (C : S1024x256.Idx → BitVec 8) (G : S16x128.Idx → EReal)
    (k : Fin 35) (r : Fin 1024) (c : Fin 256) :
    wsC (F := Ideal) (k0_pay1301 (F := Ideal) (tabS (F := Ideal) T 0)) (k0_pay1302 (F := Ideal) (tabS (F := Ideal) T 1)) k0_pay1303 (siC k.val) W (absC (F := Ideal) o C G) k (ValueIdx.ix2 r c)
      = wt T (W (ValueIdx.ix2 (rowCol r) ⟨128 * k.val + c.val % 128, by have := k.isLt; show _ < 4480; omega⟩)) ⟨c.val / 128, by have := c.isLt; omega⟩ ⟨c.val % 128, by omega⟩
        * (scl (F := Ideal) o C G (rowCol r) ⟨4 * k.val + c.val % 128 / 32, by have := k.isLt; omega⟩ : EReal) := by
  have hr := r.isLt; have hc := c.isLt; have hk := k.isLt
  refine (wsTile_apply T (wLoad (F := Ideal) W k ⟨r.val / 32, by omega⟩) (aLoad (F := Ideal) (absC (F := Ideal) o C G) k ⟨r.val / 32, by omega⟩ ⟨r.val % 32 / 16, by omega⟩) ⟨c.val / 128, by omega⟩ ⟨r.val % 32 / 16, by omega⟩ k
    ⟨r.val % 16, by omega⟩ ⟨c.val % 128, by omega⟩ ⟨4 * k.val % 128 + c.val % 128 / 32, by omega⟩ ⟨2 * (r.val % 16) + r.val % 32 / 16, by omega⟩ rfl rfl).trans ?_
  refine congrArg₂ (fun a b : EReal => a * b) ?_ ?_
  · refine congrArg (fun z => wt T z _ _) ?_
    refine congrArg W (funext fun a => Fin.ext ?_)
    fin_cases a
    · show 32 * (r.val / 32) + (2 * (r.val % 16) + r.val % 32 / 16) = 32 * (r.val / 32) + 2 * (r.val % 16) + r.val % 32 / 16; omega
    · rfl
  · refine absC_apply (F := Ideal) o C G ⟨k.val / 32, by omega⟩ ⟨r.val / 32, by omega⟩ ⟨16 * (r.val % 32 / 16) + r.val % 16, by omega⟩ ⟨4 * k.val % 128 + c.val % 128 / 32, by omega⟩ (rowCol r) _ ?_ ?_
    · show 32 * (r.val / 32) + 2 * (r.val % 16) + r.val % 32 / 16 = 32 * (r.val / 32) + 2 * ((16 * (r.val % 32 / 16) + r.val % 16) % 16) + (16 * (r.val % 32 / 16) + r.val % 16) / 16
      omega
    · show 4 * k.val + c.val % 128 / 32 = 128 * (k.val / 32) + (4 * k.val % 128 + c.val % 128 / 32)
      omega

/-- One tile's contribution to an output entry. -/
def tileSum (T : S2x32x128.Idx → BitVec 8) (o : EReal) (W : S1024x4480.Idx → BitVec 8) (C : S1024x256.Idx → BitVec 8) (G : S16x128.Idx → EReal)
    (XS : S35x256x256.Idx → EReal) (n : Fin 1024) (m : Fin 256) (k : Fin 35) : EReal :=
  ∑ c : Fin 256, wt T (W (ValueIdx.ix2 n ⟨128 * k.val + c.val % 128, by have := k.isLt; show _ < 4480; omega⟩)) ⟨c.val / 128, by have := c.isLt; omega⟩ ⟨c.val % 128, by omega⟩
    * (scl (F := Ideal) o C G n ⟨4 * k.val + c.val % 128 / 32, by have := k.isLt; omega⟩ : EReal) * XS (ValueIdx.ix3 k c m)

/-- One trip at an entry of the accumulator. -/
theorem accStep_apply (T : S2x32x128.Idx → BitVec 8) (o : EReal) (W : S1024x4480.Idx → BitVec 8) (C : S1024x256.Idx → BitVec 8) (G : S16x128.Idx → EReal)
    (XS : S35x256x256.Idx → EReal) (A : S1024x256.Idx → EReal) (k : Fin 35) (r : Fin 1024) (m : Fin 256) :
    accStep (F := Ideal) (k0_pay1301 (F := Ideal) (tabS (F := Ideal) T 0)) (k0_pay1302 (F := Ideal) (tabS (F := Ideal) T 1)) k0_pay1303 W XS (absC (F := Ideal) o C G) A k (ValueIdx.ix2 r m)
      = A (ValueIdx.ix2 r m) + tileSum T o W C G XS (rowCol r) m k := by
  unfold accStep k0_pay485
  refine Eq.trans (congrFun (shapeCast_id (s := S1024x256) _ _) _) ?_
  refine congrArg (fun z : EReal => A (ValueIdx.ix2 r m) + z) ?_
  refine (accDot_apply _ _ _).trans (Finset.sum_congr rfl fun c _ => ?_)
  refine congrArg₂ (fun a b : EReal => a * b) (wsC_apply T o W C G k r c) ?_
  refine (shapeCast_apply (xsLoad (F := Ideal) XS k) shapeCasts_S1x256x256_S256x256 _ (ValueIdx.ix3 0 c m) ?_).trans rfl
  rw [rowMajor_val3 _ 65536 256 rfl rfl, rowMajor_val2 _ 256 rfl]
  show 0 * 65536 + c.val * 256 + m.val = c.val * 256 + m.val
  omega

/-- The accumulator after `j` trips. -/
theorem accK_apply (T : S2x32x128.Idx → BitVec 8) (o : EReal) (W : S1024x4480.Idx → BitVec 8) (C : S1024x256.Idx → BitVec 8) (Gs : S16x128.Idx → EReal)
    (XS : S35x256x256.Idx → EReal) (G : S1024x256.Idx → EReal) (r : Fin 1024) (m : Fin 256) (j : ℕ) :
    accK (F := Ideal) (k0_pay1301 (F := Ideal) (tabS (F := Ideal) T 0)) (k0_pay1302 (F := Ideal) (tabS (F := Ideal) T 1)) k0_pay1303 W XS (absC (F := Ideal) o C Gs) G j (ValueIdx.ix2 r m)
      = (G (ValueIdx.ix2 r m) + ∑ k ∈ Finset.range j, (if h : k < 35 then tileSum T o W C Gs XS (rowCol r) m ⟨k, h⟩ else 0) : EReal) := by
  induction j with
  | zero => rw [Finset.sum_range_zero, add_zero]; rfl
  | succ j ih =>
    rw [Finset.sum_range_succ, ← add_assoc]
    refine Eq.trans ?_ (congrArg (fun z : EReal => z + _) ih)
    by_cases h : j < 35
    · rw [dif_pos h]
      refine Eq.trans (congrFun (dif_pos h) _) ?_
      exact accStep_apply T o W C Gs XS _ ⟨j, h⟩ r m
    · rw [dif_neg h, add_zero]
      exact congrFun (dif_neg h) _

/-- The two column and row maps are inverse to each other, one way round. -/
theorem rowCol_colRow (n : Fin 1024) : rowCol (colRow n) = n := by
  revert n; decide +kernel

/-- An output entry: the low-rank branch, doubled, plus the sum of the tiles. -/
def yVal (o : EReal) (W : S1024x4480.Idx → BitVec 8) (C : S1024x256.Idx → BitVec 8) (Gs : S16x128.Idx → EReal) (LB : S16x1024.Idx → EReal) (T : S2x32x128.Idx → BitVec 8)
    (XS : S35x256x256.Idx → EReal) (t : S256x16.Idx → EReal) (m : Fin 256) (n : Fin 1024) : EReal :=
  Ideal.ofBits .f32 0x40000000#32 * (∑ r : Fin 16, LB (ValueIdx.ix2 r n) * t (ValueIdx.ix2 m r)) + ∑ k : Fin 35, tileSum T o W C Gs XS n m k

/-- An element of the output block of a grid point, in closed form. -/
theorem outV_apply (o : EReal) (W : S1024x4480.Idx → BitVec 8) (C : S1024x256.Idx → BitVec 8) (Gs : S16x128.Idx → EReal) (LB : S16x1024.Idx → EReal) (T : S2x32x128.Idx → BitVec 8)
    (XS : S35x256x256.Idx → EReal) (t : S256x16.Idx → EReal) (m : Fin 256) (n : Fin 1024) :
    outV (F := Ideal) o W C Gs LB T XS t (ValueIdx.ix2 m n) = yVal o W C Gs LB T XS t m n := by
  unfold outV outC yVal
  refine (accK_apply T o W C Gs XS _ (colRow n) m 35).trans ?_
  rw [Finset.sum_range, rowCol_colRow]
  refine congrArg₂ (fun a b : EReal => a + b) ?_ (Finset.sum_congr rfl fun k _ => by rw [dif_pos k.isLt])
  unfold k0_pay1300
  refine Eq.trans (congrFun (shapeCast_id (s := S1024x256) _ _) _) ?_
  refine congrArg (fun z : EReal => Ideal.ofBits .f32 0x40000000#32 * z) ?_
  refine (loraDot_apply _ _ _).trans (Finset.sum_congr rfl fun r _ => ?_)
  refine congrArg (fun z : EReal => z * _) ?_
  show LB (ValueIdx.ix2 r (rowCol (colRow n))) = _
  rw [rowCol_colRow]

/-- The output block reads the codes at the lanes below 140 only. -/
theorem outV_congr (o : EReal) (W : S1024x4480.Idx → BitVec 8) (C C' : S1024x256.Idx → BitVec 8) (Gs : S16x128.Idx → EReal) (LB : S16x1024.Idx → EReal) (T : S2x32x128.Idx → BitVec 8)
    (XS : S35x256x256.Idx → EReal) (t : S256x16.Idx → EReal) (h : ∀ (n : Fin 1024) (b : Fin 256), b.val < 140 → C (ValueIdx.ix2 n b) = C' (ValueIdx.ix2 n b)) :
    outV (F := Ideal) o W C Gs LB T XS t = outV (F := Ideal) o W C' Gs LB T XS t := by
  funext y
  obtain ⟨m, n, rfl⟩ : ∃ (m : Fin 256) (n : Fin 1024), y = ValueIdx.ix2 m n := ⟨y 0, y 1, funext fun a => by fin_cases a <;> rfl⟩
  rw [outV_apply, outV_apply]
  unfold yVal tileSum
  refine congrArg _ (Finset.sum_congr rfl fun k _ => Finset.sum_congr rfl fun c _ => ?_)
  refine congrArg (fun z : EReal => _ * z * _) ?_
  unfold scl
  rw [h]
  have := k.isLt
  show 4 * k.val + c.val % 128 / 32 < 140
  omega

end Cert.KernelIdeal.Val

end
-- ==== Proof.ValDat.lean ====
/- The body at a grid point of the idealized kernel, with what it leaves: the output block is `outV` of the input blocks, the tile scratch and
   the LoRA product scratch hold what the first point stored. -/
module

public import proofs.«01_k».proof.Proof.IdealFrame
public import proofs.«01_k».proof.Proof.OutLater
public import proofs.«01_k».proof.Proof.OutFirst
public import proofs.«01_k».proof.Proof.Closed

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

namespace Cert.KernelIdeal.Val

open Cert.KernelIdeal Cert.KernelIdeal.Gen Cert.KernelIdeal.Run

variable (m : (ℓ : Loc nD τ sig) → Buf (Elt Ideal) ℓ) (ρ : Dev nD → PrngReg)

/-- The first grid point. -/
abbrev t0 : Fin cfg0.N := ⟨0, by decide⟩

/-- The codes' staging buffer at a point, beside anything. -/
abbrev codesB (c : Dev nD) (t : Fin cfg0.N) (d : S1024x256.Idx → BitVec 8) : S1024x256.Idx → BitVec 8 :=
  (cfg0.win 3).fill (cfg0.grid.coords t) d (iblk m c 3 t)

/-- What the tile scratch holds once the first point is through. -/
def xsV (c : Dev nD) : S35x256x256.Idx → Elt Ideal .bf16 := tilesC (F := Ideal) (iblk m c 1 t0)

/-- What the LoRA product scratch holds once the first point is through. -/
def tV (c : Dev nD) : S256x16.Idx → Elt Ideal .bf16 := k0_pay486 (F := Ideal) (iblk m c 1 t0) (iblk m c 5 t0)

/-- The output block of a point. -/
def outB (c : Dev nD) (t : Fin cfg0.N) : S256x1024.Idx → Elt Ideal .bf16 :=
  outV (F := Ideal) (iblk m c 0 t (Shape.Idx.first (s := S1x1) (by decide))) (iblk m c 2 t) (codesB m c t (fun _ => Classical.arbitrary _)) (iblk m c 4 t) (iblk m c 6 t) (iblk m c 7 t) (xsV m c) (tV m c)

/-- The lanes the kernel reads of the codes come from the array, whatever stood in the buffer. -/
theorem codesB_congr (c : Dev nD) (t : Fin cfg0.N) (d d' : S1024x256.Idx → BitVec 8) (n : Fin 1024) (b : Fin 256) (h : b.val < 140) :
    codesB m c t d (ValueIdx.ix2 n b) = codesB m c t d' (ValueIdx.ix2 n b) := by
  have hm : (cfg0.win 3).moved (cfg0.grid.coords t) (ValueIdx.ix2 n b : S1024x256.Idx) = true :=
    ((cfg0.win 3).moved_iff _ _).mpr (by
      have hx : ∀ t : Fin cfg0.N, (cfg0.win 3).xsize (cfg0.grid.coords t) 0 = 1024 ∧ (cfg0.win 3).xsize (cfg0.grid.coords t) 1 = 140 := by decide +kernel
      intro a
      match a with
      | 0 => have := n.isLt; have h1 := (hx t).1; show n.val < _; omega
      | 1 => have h1 := (hx t).2; show b.val < _; omega)
  show Window.fill _ _ _ _ _ = Window.fill _ _ _ _ _
  unfold Window.fill; rw [dif_pos hm, dif_pos hm]

/-- The output block with the codes' buffer beside anything. -/
theorem outB_eq (c : Dev nD) (t : Fin cfg0.N) (d : S1024x256.Idx → BitVec 8) :
    outV (F := Ideal) (iblk m c 0 t (Shape.Idx.first (s := S1x1) (by decide))) (iblk m c 2 t) (codesB m c t d) (iblk m c 4 t) (iblk m c 6 t) (iblk m c 7 t) (xsV m c) (tV m c) = outB m c t :=
  outV_congr _ _ _ _ _ _ _ _ _ fun n b h => codesB_congr m c t d _ n b h

/-- Between points after the first, the two scratches hold their values; the others are at anything. -/
def PhiV (c : Dev nD) : sProp (MT nD τ sig Unit (Elt Ideal) ℕ (UR sig nD τ) ℕ) :=
  iprop(iprop((∃ f, ⌜(Memref.whole cc0_scratch0).view.read (Elt Ideal) f = xsV m c⌝ ∗ ((Memref.whole cc0_scratch0).view.loc (c : Thread nD τ) ↦[(Memref.whole cc0_scratch0).view.set]{fullShare} f)) ∗ (∃ f, (Memref.whole cc0_scratch1).view.loc (c : Thread nD τ) ↦[(Memref.whole cc0_scratch1).view.set]{fullShare} f) ∗ (∃ f, ⌜(Memref.whole cc0_scratch2).view.read (Elt Ideal) f = tV m c⌝ ∗ ((Memref.whole cc0_scratch2).view.loc (c : Thread nD τ) ↦[(Memref.whole cc0_scratch2).view.set]{fullShare} f)) ∗ (∃ f, (Memref.whole cc0_scratch3).view.loc (c : Thread nD τ) ↦[(Memref.whole cc0_scratch3).view.set]{fullShare} f) ∗ (∃ f, (Memref.whole cc0_scratch4).view.loc (c : Thread nD τ) ↦[(Memref.whole cc0_scratch4).view.set]{fullShare} f) ∗ (∃ f, (Memref.whole cc0_scratch5).view.loc (c : Thread nD τ) ↦[(Memref.whole cc0_scratch5).view.set]{fullShare} f) ∗ (∃ f, (Memref.whole cc0_scratch6).view.loc (c : Thread nD τ) ↦[(Memref.whole cc0_scratch6).view.set]{fullShare} f)) ∗ (∃ r, prngReg c r))

/-- The scratches' values forgotten. -/
theorem PhiV_forget (c : Dev nD) : PhiV m c ⊢ Pipeline.ΦA spec0 c := by
  rw [PhiA_eq]; unfold PhiV
  iintro ⟨⟨⟨%f0, %h0, S0⟩, S1, ⟨%f2, %h2, S2⟩, S3, S4, S5, S6⟩, Hr⟩
  isplitr [Hr]
  · isplitl [S0]; · iexists f0; iexact S0
    isplitl [S1]; · iexact S1
    isplitl [S2]; · iexists f2; iexact S2
    isplitl [S3]; · iexact S3
    isplitl [S4]; · iexact S4
    isplitl [S5]; · iexact S5
    iexact S6
  · iexact Hr

/-- The proof data: each input's block stays in its buffer, the output's buffer ends at `outB`. -/
def datV : (p : Fin 1) → (c : Dev nD) → Dat τ (Elt Ideal) Unit ℕ (UR sig nD τ) ℕ (cfgs p) c := fun _ c =>
  { A := fun w => V m c (Pipeline.arrRef spec0 w)
    after := fun w => match w with
      | 0 => fun t => iblk m c 0 t
      | 1 => fun t => iblk m c 1 t
      | 2 => fun t => iblk m c 2 t
      | 3 => fun t => codesB m c t (fun _ => Classical.arbitrary _)
      | 4 => fun t => iblk m c 4 t
      | 5 => fun t => iblk m c 5 t
      | 6 => fun t => iblk m c 6 t
      | 7 => fun t => iblk m c 7 t
      | 8 => fun t => outB m c t
    Φ := fun t => if t.val = 0 then Pipeline.ΦA spec0 c else PhiV m c
    q := fun _ => fullShare
    owed := fun _ => 0 }

/-- Window 0 before a point's body: its block. -/
theorem beforeV_0 (c : Dev nD) (t : Fin cfg0.N) (d) : (datV m 0 c).before 0 t d = iblk m c 0 t :=
  before0_0_of m (datV m 0 c) rfl (fun _ => rfl) t d
/-- Window 1 before a point's body: its block. -/
theorem beforeV_1 (c : Dev nD) (t : Fin cfg0.N) (d) : (datV m 0 c).before 1 t d = iblk m c 1 t :=
  before0_1_of m (datV m 0 c) rfl (fun _ => rfl) t d
/-- Window 2 before a point's body: its block. -/
theorem beforeV_2 (c : Dev nD) (t : Fin cfg0.N) (d) : (datV m 0 c).before 2 t d = iblk m c 2 t :=
  before0_2_of m (datV m 0 c) rfl (fun _ => rfl) t d
/-- Window 4 before a point's body: its block. -/
theorem beforeV_4 (c : Dev nD) (t : Fin cfg0.N) (d) : (datV m 0 c).before 4 t d = iblk m c 4 t :=
  before0_4_of m (datV m 0 c) rfl (fun _ => rfl) t d
/-- Window 5 before a point's body: its block. -/
theorem beforeV_5 (c : Dev nD) (t : Fin cfg0.N) (d) : (datV m 0 c).before 5 t d = iblk m c 5 t :=
  before0_5_of m (datV m 0 c) rfl (fun _ => rfl) t d
/-- Window 6 before a point's body: its block. -/
theorem beforeV_6 (c : Dev nD) (t : Fin cfg0.N) (d) : (datV m 0 c).before 6 t d = iblk m c 6 t :=
  before0_6_of m (datV m 0 c) rfl (fun _ => rfl) t d
/-- Window 7 before a point's body: its block. -/
theorem beforeV_7 (c : Dev nD) (t : Fin cfg0.N) (d) : (datV m 0 c).before 7 t d = iblk m c 7 t :=
  before0_7_of m (datV m 0 c) rfl (fun _ => rfl) t d
/-- Window 3 before a point's body: its block where there is one, anything beyond. -/
theorem beforeV_3 (c : Dev nD) (t : Fin cfg0.N) (d) :
    (datV m 0 c).before 3 t d = codesB m c t d := by
  unfold Dat.before
  rw [if_pos (fetch0_3 t)]
  rfl

/-- Only the first point takes the branch that fills the scratches. -/
theorem cond_iff : ∀ t : Fin cfg0.N, (k0_cond1 (grid0.coords t) = 1#1) ↔ t.val = 0 := by decide +kernel

end Cert.KernelIdeal.Val

end
-- ==== Proof.RunLater.lean ====
/- The body at a grid point of the idealized kernel, with what it leaves: the output block is `outV` of the input blocks, the tile scratch and
   the LoRA product scratch hold what the first point stored. -/
module

public import proofs.«01_k».proof.Proof.IdealFrame
public import proofs.«01_k».proof.Proof.OutLater
public import proofs.«01_k».proof.Proof.OutFirst
public import proofs.«01_k».proof.Proof.Closed

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

namespace Cert.KernelIdeal.Val

open Cert.KernelIdeal Cert.KernelIdeal.Gen Cert.KernelIdeal.Run

set_option maxHeartbeats 0 in
/-- The body at a later point, run: what the output block reads as after it. -/
theorem run_later (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (hc : ¬ k0_cond1 i = 1#1) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X10 : BufTy.Contents (Elt Ideal) arg10.view.ty) (X12 : BufTy.Contents (Elt Ideal) arg12.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f9 : BufTy.Contents (Elt Ideal) arg9.view.ty, (arg9.view.loc (c : Thread nD τ) ↦[arg9.view.set]{fullShare} f9)) ∗ (arg10.view.loc (c : Thread nD τ) ↦[arg10.view.set]{fullShare} X10) ∗ (∃ f11 : BufTy.Contents (Elt Ideal) arg11.view.ty, (arg11.view.loc (c : Thread nD τ) ↦[arg11.view.set]{fullShare} f11)) ∗ (arg12.view.loc (c : Thread nD τ) ↦[arg12.view.set]{fullShare} X12) ∗ (∃ f13 : BufTy.Contents (Elt Ideal) arg13.view.ty, (arg13.view.loc (c : Thread nD τ) ↦[arg13.view.set]{fullShare} f13)) ∗ (∃ f14 : BufTy.Contents (Elt Ideal) arg14.view.ty, (arg14.view.loc (c : Thread nD τ) ↦[arg14.view.set]{fullShare} f14)) ∗ (∃ f15 : BufTy.Contents (Elt Ideal) arg15.view.ty, (arg15.view.loc (c : Thread nD τ) ↦[arg15.view.set]{fullShare} f15)) ∗ (∃ f16 : BufTy.Contents (Elt Ideal) arg16.view.ty, (arg16.view.loc (c : Thread nD τ) ↦[arg16.view.set]{fullShare} f16))) : sProp (MT nD τ sig Unit (Elt Ideal) ℕ (UR sig nD τ) ℕ))
      ⊢ wp frame (wpE (defs₀ (F := Ideal)) 𝒱₀ (c : Thread nD τ) none) Set.univ (cc0__body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f9 : BufTy.Contents (Elt Ideal) arg9.view.ty, ⌜arg9.view.read (Elt Ideal) f9 = outV (F := Ideal) (arg1.view.read (Elt Ideal) X1 (Shape.Idx.first (s := S1x1) (by decide))) (arg3.view.read (Elt Ideal) X3) (arg4.view.read (Elt Ideal) X4) (arg5.view.read (Elt Ideal) X5) (arg7.view.read (Elt Ideal) X7) (arg8.view.read (Elt Ideal) X8) (arg10.view.read (Elt Ideal) X10) (arg12.view.read (Elt Ideal) X12)⌝ ∗ (arg9.view.loc (c : Thread nD τ) ↦[arg9.view.set]{fullShare} f9)) ∗ (arg10.view.loc (c : Thread nD τ) ↦[arg10.view.set]{fullShare} X10) ∗ (∃ f11 : BufTy.Contents (Elt Ideal) arg11.view.ty, (arg11.view.loc (c : Thread nD τ) ↦[arg11.view.set]{fullShare} f11)) ∗ (arg12.view.loc (c : Thread nD τ) ↦[arg12.view.set]{fullShare} X12) ∗ (∃ f13 : BufTy.Contents (Elt Ideal) arg13.view.ty, (arg13.view.loc (c : Thread nD τ) ↦[arg13.view.set]{fullShare} f13)) ∗ (∃ f14 : BufTy.Contents (Elt Ideal) arg14.view.ty, (arg14.view.loc (c : Thread nD τ) ↦[arg14.view.set]{fullShare} f14)) ∗ (∃ f15 : BufTy.Contents (Elt Ideal) arg15.view.ty, (arg15.view.loc (c : Thread nD τ) ↦[arg15.view.set]{fullShare} f15)) ∗ (∃ f16 : BufTy.Contents (Elt Ideal) arg16.view.ty, (arg16.view.loc (c : Thread nD τ) ↦[arg16.view.set]{fullShare} f16))) : sProp (MT nD τ sig Unit (Elt Ideal) ℕ (UR sig nD τ) ℕ))) := by
  iintro ⟨H1, H2, H3, H4, H5, H6, H7, H8, ⟨%f9, H9⟩, H10, ⟨%f11, H11⟩, H12, ⟨%f13, H13⟩, ⟨%f14, H14⟩, H15, ⟨%f16, H16⟩⟩
  iapply (wp_wand_r Idealize.ShloMosaic.frame (wpE (defs₀ (F := Ideal)) 𝒱₀ (c : Thread nD τ) none) Set.univ)
  isplitl [H1 H2 H3 H4 H5 H6 H7 H8 H9 H10 H11 H12 H13 H14 H15 H16]
  · iapply ((bodyLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12).2 f9 f11 f13 f14 f16)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %_ ⟨H1, H2, H3, H4, H5, H6, H7, H8, H9, H10, H11, H12, H13, H14, H15, H16⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr [H9]; rotate_left; · iexact H9
    ipureintro
    exact (read_bodyLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 X10 X12 f13 f9).trans
      (congrArg (fun o => outV (F := Ideal) o _ _ _ _ _ _ _) (congrFun (readAt_whole2 (arg := arg1) X1 _) _))
  isplitl [H10]; · iexact H10
  isplitl [H11]; · iexact H11
  isplitl [H12]; · iexact H12
  isplitl [H13]; · iexact H13
  isplitl [H14]; · iexact H14
  isplitl [H15]; · iexact H15
  iexact H16

end Cert.KernelIdeal.Val

end
-- ==== Proof.RunFirst.lean ====
/- The body at a grid point of the idealized kernel, with what it leaves: the output block is `outV` of the input blocks, the tile scratch and
   the LoRA product scratch hold what the first point stored. -/
module

public import proofs.«01_k».proof.Proof.IdealFrame
public import proofs.«01_k».proof.Proof.OutLater
public import proofs.«01_k».proof.Proof.OutFirst
public import proofs.«01_k».proof.Proof.Closed

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

namespace Cert.KernelIdeal.Val

open Cert.KernelIdeal Cert.KernelIdeal.Gen Cert.KernelIdeal.Run

set_option maxHeartbeats 0 in
/-- The body at the first point, run: what the output block and the two scratches read as after it. -/
theorem run_first (c : Dev nD) (i : grid0.Coords) (arg1 : Memref sig .tc .smem S1x1 .f32) (harg1 : arg1.IsWhole) (arg2 : Memref sig .tc .vmem S256x8960 .bf16) (harg2 : arg2.IsWhole) (arg3 : Memref sig .tc .vmem S1024x4480 .i8) (harg3 : arg3.IsWhole) (arg4 : Memref sig .tc .vmem S1024x256 .i8) (harg4 : arg4.IsWhole) (arg5 : Memref sig .tc .vmem S16x128 .f32) (harg5 : arg5.IsWhole) (arg6 : Memref sig .tc .vmem S8960x16 .bf16) (harg6 : arg6.IsWhole) (arg7 : Memref sig .tc .vmem S16x1024 .bf16) (harg7 : arg7.IsWhole) (arg8 : Memref sig .tc .vmem S2x32x128 .i8) (harg8 : arg8.IsWhole) (arg9 : Memref sig .tc .vmem S256x1024 .bf16) (harg9 : arg9.IsWhole) (arg10 : Memref sig .tc .vmem S35x256x256 .bf16) (harg10 : arg10.IsWhole) (arg11 : Memref sig .tc .vmem S2x32x32x128 .bf16) (harg11 : arg11.IsWhole) (arg12 : Memref sig .tc .vmem S256x16 .bf16) (harg12 : arg12.IsWhole) (arg13 : Memref sig .tc .vmem S256x128 .bf16) (harg13 : arg13.IsWhole) (arg14 : Memref sig .tc .vmem S1024x16 .bf16) (harg14 : arg14.IsWhole) (arg15 : Memref sig .tc .vmem S1024x256 .bf16) (harg15 : arg15.IsWhole) (arg16 : Memref sig .tc .vmem S1024x256 .f32) (harg16 : arg16.IsWhole) (hc : k0_cond1 i = 1#1) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f9 : BufTy.Contents (Elt Ideal) arg9.view.ty, (arg9.view.loc (c : Thread nD τ) ↦[arg9.view.set]{fullShare} f9)) ∗ (∃ f10 : BufTy.Contents (Elt Ideal) arg10.view.ty, (arg10.view.loc (c : Thread nD τ) ↦[arg10.view.set]{fullShare} f10)) ∗ (∃ f11 : BufTy.Contents (Elt Ideal) arg11.view.ty, (arg11.view.loc (c : Thread nD τ) ↦[arg11.view.set]{fullShare} f11)) ∗ (∃ f12 : BufTy.Contents (Elt Ideal) arg12.view.ty, (arg12.view.loc (c : Thread nD τ) ↦[arg12.view.set]{fullShare} f12)) ∗ (∃ f13 : BufTy.Contents (Elt Ideal) arg13.view.ty, (arg13.view.loc (c : Thread nD τ) ↦[arg13.view.set]{fullShare} f13)) ∗ (∃ f14 : BufTy.Contents (Elt Ideal) arg14.view.ty, (arg14.view.loc (c : Thread nD τ) ↦[arg14.view.set]{fullShare} f14)) ∗ (∃ f15 : BufTy.Contents (Elt Ideal) arg15.view.ty, (arg15.view.loc (c : Thread nD τ) ↦[arg15.view.set]{fullShare} f15)) ∗ (∃ f16 : BufTy.Contents (Elt Ideal) arg16.view.ty, (arg16.view.loc (c : Thread nD τ) ↦[arg16.view.set]{fullShare} f16))) : sProp (MT nD τ sig Unit (Elt Ideal) ℕ (UR sig nD τ) ℕ))
      ⊢ wp frame (wpE (defs₀ (F := Ideal)) 𝒱₀ (c : Thread nD τ) none) Set.univ (cc0__body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f9 : BufTy.Contents (Elt Ideal) arg9.view.ty, ⌜arg9.view.read (Elt Ideal) f9 = outV (F := Ideal) (arg1.view.read (Elt Ideal) X1 (Shape.Idx.first (s := S1x1) (by decide))) (arg3.view.read (Elt Ideal) X3) (arg4.view.read (Elt Ideal) X4) (arg5.view.read (Elt Ideal) X5) (arg7.view.read (Elt Ideal) X7) (arg8.view.read (Elt Ideal) X8) (tilesC (F := Ideal) (arg2.view.read (Elt Ideal) X2)) (k0_pay486 (F := Ideal) (arg2.view.read (Elt Ideal) X2) (arg6.view.read (Elt Ideal) X6))⌝ ∗ (arg9.view.loc (c : Thread nD τ) ↦[arg9.view.set]{fullShare} f9)) ∗ (∃ f10 : BufTy.Contents (Elt Ideal) arg10.view.ty, ⌜arg10.view.read (Elt Ideal) f10 = (tilesC (F := Ideal) (arg2.view.read (Elt Ideal) X2))⌝ ∗ (arg10.view.loc (c : Thread nD τ) ↦[arg10.view.set]{fullShare} f10)) ∗ (∃ f11 : BufTy.Contents (Elt Ideal) arg11.view.ty, (arg11.view.loc (c : Thread nD τ) ↦[arg11.view.set]{fullShare} f11)) ∗ (∃ f12 : BufTy.Contents (Elt Ideal) arg12.view.ty, ⌜arg12.view.read (Elt Ideal) f12 = (k0_pay486 (F := Ideal) (arg2.view.read (Elt Ideal) X2) (arg6.view.read (Elt Ideal) X6))⌝ ∗ (arg12.view.loc (c : Thread nD τ) ↦[arg12.view.set]{fullShare} f12)) ∗ (∃ f13 : BufTy.Contents (Elt Ideal) arg13.view.ty, (arg13.view.loc (c : Thread nD τ) ↦[arg13.view.set]{fullShare} f13)) ∗ (∃ f14 : BufTy.Contents (Elt Ideal) arg14.view.ty, (arg14.view.loc (c : Thread nD τ) ↦[arg14.view.set]{fullShare} f14)) ∗ (∃ f15 : BufTy.Contents (Elt Ideal) arg15.view.ty, (arg15.view.loc (c : Thread nD τ) ↦[arg15.view.set]{fullShare} f15)) ∗ (∃ f16 : BufTy.Contents (Elt Ideal) arg16.view.ty, (arg16.view.loc (c : Thread nD τ) ↦[arg16.view.set]{fullShare} f16))) : sProp (MT nD τ sig Unit (Elt Ideal) ℕ (UR sig nD τ) ℕ))) := by
  iintro ⟨H1, H2, H3, H4, H5, H6, H7, H8, ⟨%f9, H9⟩, ⟨%f10, H10⟩, ⟨%f11, H11⟩, ⟨%f12, H12⟩, ⟨%f13, H13⟩, ⟨%f14, H14⟩, H15, ⟨%f16, H16⟩⟩
  iapply (wp_wand_r Idealize.ShloMosaic.frame (wpE (defs₀ (F := Ideal)) 𝒱₀ (c : Thread nD τ) none) Set.univ)
  isplitl [H1 H2 H3 H4 H5 H6 H7 H8 H9 H10 H11 H12 H13 H14 H15 H16]
  · iapply ((bodyFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8).2.2.2 f9 f10 f11 f12 f13 f14 f16)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %_ ⟨H1, H2, H3, H4, H5, H6, H7, H8, H9, H10, H11, H12, H13, H14, H15, H16⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr [H9]; rotate_left; · iexact H9
    ipureintro
    exact (read_bodyFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13 f9).trans
      (congrArg (fun o => outV (F := Ideal) o _ _ _ _ _ _ _) (congrFun (readAt_whole2 (arg := arg1) X1 _) _))
  isplitl [H10]
  · iexists _; isplitr [H10]; rotate_left; · iexact H10
    ipureintro
    exact (congrArg _ (xs_first (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13)).trans (harg10.read_unread _)
  isplitl [H11]; · iexact H11
  isplitl [H12]
  · iexists _; isplitr [H12]; rotate_left; · iexact H12
    ipureintro
    exact (congrArg _ (t_first (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc X1 X2 X3 X4 X5 X6 X7 X8 f10 f13 f12)).trans (harg12.read_unread _)
  isplitl [H13]; · iexact H13
  isplitl [H14]; · iexact H14
  isplitl [H15]; · iexact H15
  iexact H16

end Cert.KernelIdeal.Val

end
-- ==== Proof.ValFirst.lean ====
/- The body at every grid point, between what the pipeline hands it and what it takes back. -/
module

public import proofs.«01_k».proof.Proof.ValDat
public import proofs.«01_k».proof.Proof.RunFirst

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

namespace Cert.KernelIdeal.Val

open Cert.KernelIdeal Cert.KernelIdeal.Gen Cert.KernelIdeal.Run

variable (m : (ℓ : Loc nD τ sig) → Buf (Elt Ideal) ℓ) (ρ : Dev nD → PrngReg)

/-- Equal arguments, equal output blocks. -/
theorem outV_args {o o' : EReal} {W W' : S1024x4480.Idx → BitVec 8} {C C' : S1024x256.Idx → BitVec 8} {Gs Gs' : S16x128.Idx → EReal} {LB LB' : S16x1024.Idx → EReal}
    {T T' : S2x32x128.Idx → BitVec 8} {XS XS' : S35x256x256.Idx → EReal} {t t' : S256x16.Idx → EReal} (h0 : o = o') (h2 : W = W') (h3 : C = C') (h4 : Gs = Gs') (h6 : LB = LB') (h7 : T = T')
    (hx : XS = XS') (ht : t = t') : outV (F := Ideal) o W C Gs LB T XS t = outV (F := Ideal) o' W' C' Gs' LB' T' XS' t' := by
  subst h0 h2 h3 h4 h6 h7 hx ht; rfl

set_option maxHeartbeats 0 in
/-- The first point: fills the scratches and leaves its output block. -/
theorem sound_first (c : Dev nD) (hc : k0_cond1 (grid0.coords t0) = 1#1) :
    iprop(Pipeline.ΦA spec0 c ∗ (datV m 0 c).owesAt () t0.castSucc ∗ (∃ d, owns (c : Thread nD τ) (win0_0.stage (cfg0.slots t0 0)) fullShare ((datV m 0 c).before 0 t0 d)) ∗ (∃ d, owns (c : Thread nD τ) (win0_1.stage (cfg0.slots t0 1)) fullShare ((datV m 0 c).before 1 t0 d)) ∗ (∃ d, owns (c : Thread nD τ) (win0_2.stage (cfg0.slots t0 2)) fullShare ((datV m 0 c).before 2 t0 d)) ∗ (∃ d, owns (c : Thread nD τ) (win0_3.stage (cfg0.slots t0 3)) fullShare ((datV m 0 c).before 3 t0 d)) ∗ (∃ d, owns (c : Thread nD τ) (win0_4.stage (cfg0.slots t0 4)) fullShare ((datV m 0 c).before 4 t0 d)) ∗ (∃ d, owns (c : Thread nD τ) (win0_5.stage (cfg0.slots t0 5)) fullShare ((datV m 0 c).before 5 t0 d)) ∗ (∃ d, owns (c : Thread nD τ) (win0_6.stage (cfg0.slots t0 6)) fullShare ((datV m 0 c).before 6 t0 d)) ∗ (∃ d, owns (c : Thread nD τ) (win0_7.stage (cfg0.slots t0 7)) fullShare ((datV m 0 c).before 7 t0 d)) ∗ (∃ d, owns (c : Thread nD τ) (win0_8.stage (cfg0.slots t0 8)) fullShare ((datV m 0 c).before 8 t0 d)))
      ⊢ wp frame (wpE (defs₀ (F := Ideal)) 𝒱₀ (c : Thread nD τ) none) Set.univ (bodyAt0 t0)
        (fun _ => iprop(PhiV m c ∗ (datV m 0 c).owesAt () t0.castSucc ∗ owns (c : Thread nD τ) (win0_0.stage (cfg0.slots t0 0)) fullShare ((datV m 0 c).after 0 t0) ∗ owns (c : Thread nD τ) (win0_1.stage (cfg0.slots t0 1)) fullShare ((datV m 0 c).after 1 t0) ∗ owns (c : Thread nD τ) (win0_2.stage (cfg0.slots t0 2)) fullShare ((datV m 0 c).after 2 t0) ∗ (∃ d, owns (c : Thread nD τ) (win0_3.stage (cfg0.slots t0 3)) fullShare ((cfg0.win 3).fill (cfg0.grid.coords t0) d ((cfg0.win 3).cut (cfg0.grid.coords t0) ((datV m 0 c).after 3 t0)))) ∗ owns (c : Thread nD τ) (win0_4.stage (cfg0.slots t0 4)) fullShare ((datV m 0 c).after 4 t0) ∗ owns (c : Thread nD τ) (win0_5.stage (cfg0.slots t0 5)) fullShare ((datV m 0 c).after 5 t0) ∗ owns (c : Thread nD τ) (win0_6.stage (cfg0.slots t0 6)) fullShare ((datV m 0 c).after 6 t0) ∗ owns (c : Thread nD τ) (win0_7.stage (cfg0.slots t0 7)) fullShare ((datV m 0 c).after 7 t0) ∗ owns (c : Thread nD τ) (win0_8.stage (cfg0.slots t0 8)) fullShare ((datV m 0 c).after 8 t0))) := by
  unfold bodyAt0
  simp only [beforeV_0, beforeV_1, beforeV_2, beforeV_3, beforeV_4, beforeV_5, beforeV_6, beforeV_7]
  rw [PhiA_eq]
  unfold PhiV owns
  iintro ⟨⟨⟨S0, S1, S2, S3, S4, S5, S6⟩, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩⟩
  iapply (wp_wand_r Idealize.ShloMosaic.frame (wpE (defs₀ (F := Ideal)) 𝒱₀ (c : Thread nD τ) none) Set.univ)
  isplitl [S0 S1 S2 S3 S4 S5 S6 H0 H1 H2 H3 H4 H5 H6 H7 H8]
  · iapply (run_first c (grid0.coords t0) (win0_0.stage (cfg0.slots t0 0)) (hstage0_0 ((cfg0.slots t0 0).cast nbuf0_0)) (win0_1.stage (cfg0.slots t0 1)) (hstage0_1 ((cfg0.slots t0 1).cast nbuf0_1)) (win0_2.stage (cfg0.slots t0 2)) (hstage0_2 ((cfg0.slots t0 2).cast nbuf0_2)) (win0_3.stage (cfg0.slots t0 3)) (hstage0_3 ((cfg0.slots t0 3).cast nbuf0_3)) (win0_4.stage (cfg0.slots t0 4)) (hstage0_4 ((cfg0.slots t0 4).cast nbuf0_4)) (win0_5.stage (cfg0.slots t0 5)) (hstage0_5 ((cfg0.slots t0 5).cast nbuf0_5)) (win0_6.stage (cfg0.slots t0 6)) (hstage0_6 ((cfg0.slots t0 6).cast nbuf0_6)) (win0_7.stage (cfg0.slots t0 7)) (hstage0_7 ((cfg0.slots t0 7).cast nbuf0_7)) (win0_8.stage (cfg0.slots t0 8)) (hstage0_8 ((cfg0.slots t0 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) hc f0 f1 f2 f3 f4 f5 f6 f7)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists f8; iexact H8
    isplitl [S0]; · iexact S0
    isplitl [S1]; · iexact S1
    isplitl [S2]; · iexact S2
    isplitl [S3]; · iexact S3
    isplitl [S4]; · iexact S4
    isplitl [S5]; · iexact S5
    iexact S6
  iintro %_ ⟨H0, H1, H2, H3, H4, H5, H6, H7, ⟨%e8, %he8, H8⟩, ⟨%e0, %he0, S0⟩, S1, ⟨%e2, %he2, S2⟩, S3, S4, S5, S6⟩
  isplitl [S0 S1 S2 S3 S4 S5 S6 Hr]
  · isplitr [Hr]
    · isplitl [S0]
      · iexists e0; isplitr; · ipureintro; exact he0.trans (congrArg (tilesC (F := Ideal)) h1)
        iexact S0
      isplitl [S1]; · iexact S1
      isplitl [S2]
      · iexists e2; isplitr; · ipureintro; exact he2.trans (congrArg₂ (k0_pay486 (F := Ideal)) h1 h5)
        iexact S2
      isplitl [S3]; · iexact S3
      isplitl [S4]; · iexact S4
      isplitl [S5]; · iexact S5
      iexact S6
    · iexact Hr
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists d3; iexists f3; isplitr; · ipureintro; rw [h3]; exact congrArg _ ((cfg0.win 3).cut_fill _ _ _).symm
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  iexists e8; isplitr
  · ipureintro
    exact he8.trans ((outV_args (congrFun h0 _) h2 h3 h4 h6 h7 (congrArg (tilesC (F := Ideal)) h1) (congrArg₂ (k0_pay486 (F := Ideal)) h1 h5)).trans (outB_eq m c t0 d3))
  iexact H8

end Cert.KernelIdeal.Val

end
-- ==== Proof.ValLater.lean ====
/- The body at every grid point, between what the pipeline hands it and what it takes back. -/
module

public import proofs.«01_k».proof.Proof.ValDat
public import proofs.«01_k».proof.Proof.RunLater
public import proofs.«01_k».proof.Proof.ValFirst

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

namespace Cert.KernelIdeal.Val

open Cert.KernelIdeal Cert.KernelIdeal.Gen Cert.KernelIdeal.Run

variable (m : (ℓ : Loc nD τ sig) → Buf (Elt Ideal) ℓ) (ρ : Dev nD → PrngReg)

set_option maxHeartbeats 0 in
/-- A later point: reads the scratches and leaves its output block. -/
theorem sound_later (c : Dev nD) (t : Fin cfg0.N) (hc : ¬ k0_cond1 (grid0.coords t) = 1#1) :
    iprop(PhiV m c ∗ (datV m 0 c).owesAt () t.castSucc ∗ (∃ d, owns (c : Thread nD τ) (win0_0.stage (cfg0.slots t 0)) fullShare ((datV m 0 c).before 0 t d)) ∗ (∃ d, owns (c : Thread nD τ) (win0_1.stage (cfg0.slots t 1)) fullShare ((datV m 0 c).before 1 t d)) ∗ (∃ d, owns (c : Thread nD τ) (win0_2.stage (cfg0.slots t 2)) fullShare ((datV m 0 c).before 2 t d)) ∗ (∃ d, owns (c : Thread nD τ) (win0_3.stage (cfg0.slots t 3)) fullShare ((datV m 0 c).before 3 t d)) ∗ (∃ d, owns (c : Thread nD τ) (win0_4.stage (cfg0.slots t 4)) fullShare ((datV m 0 c).before 4 t d)) ∗ (∃ d, owns (c : Thread nD τ) (win0_5.stage (cfg0.slots t 5)) fullShare ((datV m 0 c).before 5 t d)) ∗ (∃ d, owns (c : Thread nD τ) (win0_6.stage (cfg0.slots t 6)) fullShare ((datV m 0 c).before 6 t d)) ∗ (∃ d, owns (c : Thread nD τ) (win0_7.stage (cfg0.slots t 7)) fullShare ((datV m 0 c).before 7 t d)) ∗ (∃ d, owns (c : Thread nD τ) (win0_8.stage (cfg0.slots t 8)) fullShare ((datV m 0 c).before 8 t d)))
      ⊢ wp frame (wpE (defs₀ (F := Ideal)) 𝒱₀ (c : Thread nD τ) none) Set.univ (bodyAt0 t)
        (fun _ => iprop(PhiV m c ∗ (datV m 0 c).owesAt () t.castSucc ∗ owns (c : Thread nD τ) (win0_0.stage (cfg0.slots t 0)) fullShare ((datV m 0 c).after 0 t) ∗ owns (c : Thread nD τ) (win0_1.stage (cfg0.slots t 1)) fullShare ((datV m 0 c).after 1 t) ∗ owns (c : Thread nD τ) (win0_2.stage (cfg0.slots t 2)) fullShare ((datV m 0 c).after 2 t) ∗ (∃ d, owns (c : Thread nD τ) (win0_3.stage (cfg0.slots t 3)) fullShare ((cfg0.win 3).fill (cfg0.grid.coords t) d ((cfg0.win 3).cut (cfg0.grid.coords t) ((datV m 0 c).after 3 t)))) ∗ owns (c : Thread nD τ) (win0_4.stage (cfg0.slots t 4)) fullShare ((datV m 0 c).after 4 t) ∗ owns (c : Thread nD τ) (win0_5.stage (cfg0.slots t 5)) fullShare ((datV m 0 c).after 5 t) ∗ owns (c : Thread nD τ) (win0_6.stage (cfg0.slots t 6)) fullShare ((datV m 0 c).after 6 t) ∗ owns (c : Thread nD τ) (win0_7.stage (cfg0.slots t 7)) fullShare ((datV m 0 c).after 7 t) ∗ owns (c : Thread nD τ) (win0_8.stage (cfg0.slots t 8)) fullShare ((datV m 0 c).after 8 t))) := by
  unfold bodyAt0
  simp only [beforeV_0, beforeV_1, beforeV_2, beforeV_3, beforeV_4, beforeV_5, beforeV_6, beforeV_7]
  unfold PhiV owns
  iintro ⟨⟨⟨⟨%g0, %hg0, S0⟩, S1, ⟨%g2, %hg2, S2⟩, S3, S4, S5, S6⟩, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩⟩
  iapply (wp_wand_r Idealize.ShloMosaic.frame (wpE (defs₀ (F := Ideal)) 𝒱₀ (c : Thread nD τ) none) Set.univ)
  isplitl [S0 S1 S2 S3 S4 S5 S6 H0 H1 H2 H3 H4 H5 H6 H7 H8]
  · iapply (run_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) hc f0 f1 f2 f3 f4 f5 f6 f7 g0 g2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists f8; iexact H8
    isplitl [S0]; · iexact S0
    isplitl [S1]; · iexact S1
    isplitl [S2]; · iexact S2
    isplitl [S3]; · iexact S3
    isplitl [S4]; · iexact S4
    isplitl [S5]; · iexact S5
    iexact S6
  iintro %_ ⟨H0, H1, H2, H3, H4, H5, H6, H7, ⟨%e8, %he8, H8⟩, S0, S1, S2, S3, S4, S5, S6⟩
  isplitl [S0 S1 S2 S3 S4 S5 S6 Hr]
  · isplitr [Hr]
    · isplitl [S0]
      · iexists g0; isplitr; · ipureintro; exact hg0
        iexact S0
      isplitl [S1]; · iexact S1
      isplitl [S2]
      · iexists g2; isplitr; · ipureintro; exact hg2
        iexact S2
      isplitl [S3]; · iexact S3
      isplitl [S4]; · iexact S4
      isplitl [S5]; · iexact S5
      iexact S6
    · iexact Hr
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists d3; iexists f3; isplitr; · ipureintro; rw [h3]; exact congrArg _ ((cfg0.win 3).cut_fill _ _ _).symm
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  iexists e8; isplitr
  · ipureintro
    exact he8.trans ((outV_args (congrFun h0 _) h2 h3 h4 h6 h7 (hg0) (hg2)).trans (outB_eq m c t d3))
  iexact H8

set_option maxHeartbeats 0 in
/-- The body at every point, as the pipeline asks it. -/
theorem body_obligationV (c : Dev nD) : BodyObligationLoose (datV m 0 c) (defs₀ (F := Ideal)) 𝒱₀ () Set.univ := by
  intro t
  rw [bigSep_W0, bigSep_W0, defs₀_row]
  by_cases hc : k0_cond1 (grid0.coords t) = 1#1
  · have ht : t = t0 := Fin.ext ((cond_iff t).mp hc)
    subst ht
    exact triple_restated (sound_first m c hc) rfl .rfl fun _ => .rfl
  · have h0 : ¬ t.val = 0 := fun h => hc ((cond_iff t).mpr h)
    have e1 : (datV m 0 c).Φ t.castSucc = PhiV m c := if_neg h0
    have e2 : (datV m 0 c).Φ t.succ = PhiV m c := by
      show (if t.val + 1 = 0 then Pipeline.ΦA spec0 c else PhiV m c) = PhiV m c
      exact if_neg (Nat.succ_ne_zero t.val)
    rw [e1, e2]
    exact triple_restated (sound_later m c t hc) rfl .rfl fun _ => .rfl

end Cert.KernelIdeal.Val

end
-- ==== Proof.ValRun.lean ====
/- The run of the idealized kernel: every result element is a block element, and the arguments are as launched. -/
module

public import proofs.«01_k».proof.Proof.ValLater
public import Idealize.ShloMosaic.Lib.Claim
public import Idealize.ShloMosaic.Lib.Pipeline.ValueKit.Geometry

@[expose] public section

set_option maxRecDepth 16384

noncomputable section

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation BodyObligationLoose cellOf)

namespace Cert.KernelIdeal.Val

open Cert.KernelIdeal Cert.KernelIdeal.Gen Cert.KernelIdeal.Run

variable (m : (ℓ : Loc nD τ sig) → Buf (Elt Ideal) ℓ) (ρ : Dev nD → PrngReg)

/-- The region's result array: column n of it is column n % 1024 of what point n / 1024 leaves. -/
def arrV (c : Dev nD) : S256x5120.Idx → Elt Ideal .bf16 := fun i =>
  outB m c (⟨(i 1).val / 1024, by have h : (i 1).val < 5120 := (i 1).isLt; show _ < 5; omega⟩ : Fin cfg0.N)
    (ix2 (i 0) (⟨(i 1).val % 1024, by omega⟩ : Fin 1024))

/-- The output window's block at a point. -/
theorem idx8 : ∀ t : Fin grid0.N, win0_8.index t = ![0, (grid0.coords t 0).val] := by decide +kernel

/-- A point's coordinate is its number. -/
theorem coord0 : ∀ t : Fin grid0.N, (grid0.coords t 0).val = t.val := by decide +kernel

/-- The array after the run. -/
theorem arr8 (c : Dev nD) : (datV m 0 c).arrAt 8 cfg0.N = arrV m c := by
  refine (datV m 0 c).arrAt_eq_of_covers 8 _ (by decide +kernel) fun t hf y => ?_
  blk_simp [idx8]
  have key : ∀ (j : S256x5120.Idx), (j 0).val = (y 0).val → (j 1).val = t.val * 1024 + (y 1).val → outB m c t y = arrV m c j := by
    intro j h0 h1
    have hy : (y 1).val < 1024 := (y 1).isLt
    unfold arrV
    have ht : (⟨(j 1).val / 1024, by have h : (j 1).val < 5120 := (j 1).isLt; show _ < 5; omega⟩ : Fin cfg0.N) = t :=
      Fin.ext (show (j 1).val / 1024 = t.val by omega)
    have hy' : (ix2 (j 0) (⟨(j 1).val % 1024, by omega⟩ : Fin 1024) : S256x1024.Idx) = y := by
      funext a; match a with
        | ⟨0, _⟩ => exact Fin.ext h0
        | ⟨1, _⟩ => exact Fin.ext (show (j 1).val % 1024 = (y 1).val by omega)
    rw [ht, hy']
  refine key _ ?_ ?_
  · blk_simp [idx8, coord0]
  · blk_simp [idx8, coord0]

/-- The run: the result array reshaped, the arguments as launched. -/
theorem run : θ_run defs (onTc (τ := τ) (main (F := Ideal))) ⟨m, fun _ => 0, ρ⟩ (fun r => ∀ c : Dev nD,
      r.2.mem ((c.tc : Thread nD τ).loc main_v5) = shapeCast S256x1x5120 (arrV m c) (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hv : ∀ c, Pipeline.afterTail₀ cfgs (datV m) 0 (V0 m) [hostOps1] c main_v5 = shapeCast S256x1x5120 (arrV m c) (by decide) := by
    intro c
    unfold Pipeline.afterTail₀
    simp only [hostOps1, List.flatten_cons, List.flatten_nil, List.append_nil]
    rw [StableHlo.after_cons, StableHlo.after_nil, StableHlo.reshape_result']
    rw [Pipeline.withArrays_arr spec0 launch0.win.arr_inj c (V0 m c) _ 8, arr8]
    rfl
  refine (θ_run defs _ _).mono (fun _ h c => ⟨((h c).2 main_v5 (Pipeline.mem_restRefs_of main_v5 (by decide) (by decide))).trans (hv c),
      (((h c).2 main_arg0 (Pipeline.mem_restRefs_of main_arg0 (by decide) (by decide))).trans (W_main_arg0 m (datV m) c)),
      ((h c).1 2).trans (((datV m 0 c).arrAt_in 2 rfl _).trans (V_main_arg1 m c)),
      ((h c).1 3).trans (((datV m 0 c).arrAt_in 3 rfl _).trans (V_main_arg2 m c)),
      (((h c).2 main_arg3 (Pipeline.mem_restRefs_of main_arg3 (by decide) (by decide))).trans (W_main_arg3 m (datV m) c)),
      (((h c).2 main_arg4 (Pipeline.mem_restRefs_of main_arg4 (by decide) (by decide))).trans (W_main_arg4 m (datV m) c)),
      ((h c).1 5).trans (((datV m 0 c).arrAt_in 5 rfl _).trans (V_main_arg5 m c)),
      ((h c).1 6).trans (((datV m 0 c).arrAt_in 6 rfl _).trans (V_main_arg6 m c))⟩)
    (Pipeline.θ_run_frame_around_track cfgs (datV m) 0 launch0 defs₀ 𝒱₀ m ρ (main (F := Ideal))
      (hbody := body_obligationV m)
      (hshare := fun c w => by unfold Dat.share; split <;> rfl)
      (howed := fun _ _ => rfl) (V₀ := V0 m) (opss := [hostOps1]) (hsub := sfx_sub) (hfresh := sfx_fresh) (hkeep := sfx_keeps)
      (hmain := hmain m 𝒱₀) (hA := fun _ _ => rfl) (hin := fun c => .rfl) (hout := fun c => PhiV_forget m c))

end Cert.KernelIdeal.Val

end
-- ==== Proof.Blocks.lean ====
/- The blocks a grid point reads, element by element, from the arguments. -/
module

public import proofs.«01_k».proof.Proof.ValDat
public import Idealize.ShloMosaic.Lib.Claim
public import Idealize.ShloMosaic.Lib.StableHlo.RunRead
public import Idealize.ShloMosaic.Lib.Pipeline.ValueKit.Geometry
public import Idealize.ShloMosaic.Lib.Pipeline.Value

@[expose] public section

set_option maxRecDepth 16384

noncomputable section

open Idealize.ShloMosaic Idealize.ShloMosaic.TcCoe Idealize.ShloMosaic.Tactic
open Idealize.ShloMosaic.Pipeline (Dat Cfg Window)

namespace Cert.KernelIdeal.Val

open Cert.KernelIdeal Cert.KernelIdeal.Gen Cert.KernelIdeal.Run

variable (m : (ℓ : Loc nD τ sig) → Buf (Elt Ideal) ℓ)

/-- The grid has one axis: a point's coordinate is its number. -/
theorem pt : ∀ t : Fin grid0.N, (grid0.coords t 0).val = t.val := by decide +kernel
/-- The block of window 0 at a point. -/
theorem ix_0 : ∀ t : Fin grid0.N, win0_0.index t = ![0, 0] := by decide +kernel
/-- The block of window 1 at a point. -/
theorem ix_1 : ∀ t : Fin grid0.N, win0_1.index t = ![0, 0] := by decide +kernel
/-- The block of window 2 at a point. -/
theorem ix_2 : ∀ t : Fin grid0.N, win0_2.index t = ![(grid0.coords t 0).val, 0] := by decide +kernel
/-- The block of window 3 at a point. -/
theorem ix_3 : ∀ t : Fin grid0.N, win0_3.index t = ![(grid0.coords t 0).val, 0] := by decide +kernel
/-- The block of window 4 at a point. -/
theorem ix_4 : ∀ t : Fin grid0.N, win0_4.index t = ![(grid0.coords t 0).val, 0] := by decide +kernel
/-- The block of window 5 at a point. -/
theorem ix_5 : ∀ t : Fin grid0.N, win0_5.index t = ![0, 0] := by decide +kernel
/-- The block of window 6 at a point. -/
theorem ix_6 : ∀ t : Fin grid0.N, win0_6.index t = ![0, (grid0.coords t 0).val] := by decide +kernel
/-- The block of window 7 at a point. -/
theorem ix_7 : ∀ t : Fin grid0.N, win0_7.index t = ![0, 0, 0] := by decide +kernel

/-- The offset as the region finds it. -/
theorem V_v2 (c : Dev nD) : V m c main_v2 = shapeCast S1x1 (m ((c.tc : Thread nD τ).loc main_arg4)) shapeCasts_S_S1x1 := by
  unfold V V0
  simp only [hostOps0, hostOps0_1, hostOps0_2, List.flatten_cons, List.flatten_nil, List.append_nil, List.cons_append, List.nil_append]
  after_reads_simp
  rfl

/-- The activations as the region finds them. -/
theorem V_v3 (c : Dev nD) : V m c main_v3 = shapeCast S256x8960 (m ((c.tc : Thread nD τ).loc main_arg0)) shapeCasts_S256x1x8960_S256x8960 := by
  unfold V V0
  simp only [hostOps0, hostOps0_1, hostOps0_2, List.flatten_cons, List.flatten_nil, List.append_nil, List.cons_append, List.nil_append]
  after_reads_simp
  rfl

/-- The scales of the blocks as the region finds them, beside padding. -/
theorem V_v1 (c : Dev nD) : V m c main_v1 = pad S80x128 ![0, 0] ![0, 93] ![0, 0]
    (shapeCast S80x35 (m ((c.tc : Thread nD τ).loc main_arg3)) shapeCasts_S2800_S80x35)
    (sitofp (F := Ideal) .f32 (constantI S_ 32 0#32)) pads_S80x35_S80x128_000_0930 h_S_ := by
  unfold V V0
  simp only [hostOps0, hostOps0_1, hostOps0_2, List.flatten_cons, List.flatten_nil, List.append_nil, List.cons_append, List.nil_append]
  after_reads_simp
  rfl

/-- The packed bytes of point t: rows 1024 t and on. -/
theorem blk2 (c : Dev nD) (t : Fin cfg0.N) (n : Fin 1024) (j : Fin 4480) :
    iblk m c 2 t (ValueIdx.ix2 n j) = m ((c.tc : Thread nD τ).loc main_arg1) (ValueIdx.ix2 (⟨t.val * 1024 + n.val, by have h : t.val < 5 := t.isLt; omega⟩ : Fin 5120) j) := by
  blk_simp [iblk]
  rw [V_main_arg1]
  refine congrArg (m ((c.tc : Thread nD τ).loc main_arg1)) ?_
  blk_ext [ix_2, pt]

/-- The activations: the whole array. -/
theorem blk1 (c : Dev nD) (t : Fin cfg0.N) (r : Fin 256) (k : Fin 8960) :
    iblk m c 1 t (ValueIdx.ix2 r k) = m ((c.tc : Thread nD τ).loc main_arg0) (ValueIdx.ix3 r (0 : Fin 1) k) := by
  blk_simp [iblk]
  have e : ((cfg0.win 1).blk t).view.emb (ValueIdx.ix2 r k) = (ValueIdx.ix2 r k : S256x8960.Idx) := by blk_ext [ix_1]
  rw [V_v3]
  refine (congrArg _ e).trans ?_
  refine (shapeCast_apply (s := S256x1x8960) (t := S256x8960) _ _ (ValueIdx.ix2 r k) (ValueIdx.ix3 r (0 : Fin 1) k) ?_)
  rewrite [Shape.rowMajor_val_three, Shape.rowMajor_val_two]
  show (r.val * 1 + 0) * 8960 + k.val = r.val * 8960 + k.val
  omega

/-- The offset. -/
theorem blk0 (c : Dev nD) (t : Fin cfg0.N) (i : S1x1.Idx) :
    iblk m c 0 t i = m ((c.tc : Thread nD τ).loc main_arg4) (fun a => a.elim0) := by
  blk_simp [iblk]
  rw [V_v2]
  unfold shapeCast
  exact congrArg (m ((c.tc : Thread nD τ).loc main_arg4)) (funext fun a => a.elim0)

/-- The low-rank factors. -/
theorem blk5 (c : Dev nD) (t : Fin cfg0.N) (k : Fin 8960) (r : Fin 16) :
    iblk m c 5 t (ValueIdx.ix2 k r) = m ((c.tc : Thread nD τ).loc main_arg5) (ValueIdx.ix2 k r) := by
  blk_simp [iblk]
  rw [V_main_arg5]
  refine congrArg (m ((c.tc : Thread nD τ).loc main_arg5)) ?_
  blk_ext [ix_5, pt]

/-- Window 6 at a point: that point's 1024 columns of the second low-rank factor. -/
theorem blk6 (c : Dev nD) (t : Fin cfg0.N) (r : Fin 16) (n : Fin 1024) :
    iblk m c 6 t (ValueIdx.ix2 r n) = m ((c.tc : Thread nD τ).loc main_arg6) (ValueIdx.ix2 r (⟨t.val * 1024 + n.val, by have h : t.val < 5 := t.isLt; omega⟩ : Fin 5120)) := by
  blk_simp [iblk]
  rw [V_main_arg6]
  refine congrArg (m ((c.tc : Thread nD τ).loc main_arg6)) ?_
  blk_ext [ix_6, pt]

/-- The scales of the blocks of 256 codes. -/
theorem blk4 (c : Dev nD) (t : Fin cfg0.N) (a : Fin 16) (g : Fin 128) (hg : g.val < 35) :
    iblk m c 4 t (ValueIdx.ix2 a g) = m ((c.tc : Thread nD τ).loc main_arg3) (ValueIdx.ix1 (⟨(t.val * 16 + a.val) * 35 + g.val, by have h : t.val < 5 := t.isLt; omega⟩ : Fin 2800)) := by
  blk_simp [iblk]
  have e : ((cfg0.win 4).blk t).view.emb (ValueIdx.ix2 a g) = (ValueIdx.ix2 (⟨t.val * 16 + a.val, by have h : t.val < 5 := t.isLt; omega⟩ : Fin 80) g : S80x128.Idx) := by blk_ext [ix_4, pt]
  rw [e, V_v1]
  unfold pad
  rw [dif_pos]
  · refine shapeCast_apply (s := S2800) (t := S80x35) _ _ _ (ValueIdx.ix1 _) ?_
    rewrite [Shape.rowMajor_val_one, Shape.rowMajor_val_two]
    show (t.val * 16 + a.val) * 35 + g.val = (t.val * 16 + a.val - 0) / 1 * 35 + (g.val - 0) / 1
    rw [Nat.div_one, Nat.div_one]; rfl
  · have h5 : t.val < 5 := t.isLt
    intro b; match b with
      | ⟨0, _⟩ => exact ⟨Nat.zero_le _, Nat.mod_one _, (show (t.val * 16 + a.val - 0) / 1 < 80 by omega)⟩
      | ⟨1, _⟩ => exact ⟨Nat.zero_le _, Nat.mod_one _, (show (g.val - 0) / 1 < 35 by omega)⟩

/-- The table. -/
theorem blk7 (c : Dev nD) (t : Fin cfg0.N) (i : S2x32x128.Idx) :
    iblk m c 7 t i = lit0 (S2x32x128.rowMajor i) := by
  blk_simp [iblk]
  have e : ((cfg0.win 7).blk t).view.emb i = i := by blk_ext [ix_7]
  entry_read
  exact congrArg (fun i => lit0 (S2x32x128.rowMajor i)) e

/-- The codes of point t. -/
theorem blk3 (c : Dev nD) (t : Fin cfg0.N) (d : S1024x256.Idx → BitVec 8) (n : Fin 1024) (b : Fin 256) (hb : b.val < 140) :
    codesB m c t d (ValueIdx.ix2 n b) = m ((c.tc : Thread nD τ).loc main_arg2) (ValueIdx.ix2 (⟨t.val * 1024 + n.val, by have h : t.val < 5 := t.isLt; omega⟩ : Fin 5120) (⟨b.val, hb⟩ : Fin 140)) := by
  have hm : (cfg0.win 3).moved (cfg0.grid.coords t) (ValueIdx.ix2 n b : S1024x256.Idx) = true :=
    ((cfg0.win 3).moved_iff _ _).mpr (by
      have hx : ∀ t : Fin cfg0.N, (cfg0.win 3).xsize (cfg0.grid.coords t) 0 = 1024 ∧ (cfg0.win 3).xsize (cfg0.grid.coords t) 1 = 140 := by decide +kernel
      intro a
      match a with
      | 0 => have := n.isLt; have h1 := (hx t).1; show n.val < _; omega
      | 1 => have h1 := (hx t).2; show b.val < _; omega)
  show Window.fill _ _ _ _ _ = _
  unfold Window.fill
  refine (dif_pos hm).trans ?_
  blk_simp [iblk]
  rw [V_main_arg2]
  refine congrArg (m ((c.tc : Thread nD τ).loc main_arg2)) ?_
  blk_ext [ix_3, pt]

end Cert.KernelIdeal.Val

end
-- ==== Proof.RefTree.lean ====
module

public import proofs.«01_k».proof.Proof.Gen.ReferenceIdeal.Read
public import Idealize.ShloMosaic.Lib.Pipeline.ValueKit.Tiles

@[expose] public section

/-! # The reference's weights

The reference turns a packed byte into two weights by four layers of selections, one per bit of the half-byte. Each is the
entry of the sixteen-entry table that the half-byte names. -/

namespace Cert.ReferenceIdeal.Val

open Idealize.ShloMosaic Idealize.ShloMosaic.Pipeline Idealize.ShloMosaic.ValueIdx
open Cert.ReferenceIdeal Cert.ReferenceIdeal.Read

/-- The sixteen values a half-byte stands for, as their 16-bit words. -/
def nfW (p : ℕ) : BitVec 16 :=
  match p with
  | 0 => 0xBF80#16 | 1 => 0xBF32#16 | 2 => 0xBF06#16 | 3 => 0xBECA#16
  | 4 => 0xBE92#16 | 5 => 0xBE3D#16 | 6 => 0xBDBA#16 | 7 => 0x0000#16
  | 8 => 0x3DA3#16 | 9 => 0x3E25#16 | 10 => 0x3E7C#16 | 11 => 0x3EAD#16
  | 12 => 0x3EE2#16 | 13 => 0x3F10#16 | 14 => 0x3F39#16 | _ => 0x3F80#16

/-- The four layers of selections over sixteen entries, by four conditions. -/
def tree {α : Type} (c0 c1 c2 c3 : BitVec 1) (w : ℕ → α) : α :=
  Scalar.select c3
    (Scalar.select c2
      (Scalar.select c1 (Scalar.select c0 (w 15) (w 14)) (Scalar.select c0 (w 13) (w 12)))
      (Scalar.select c1 (Scalar.select c0 (w 11) (w 10)) (Scalar.select c0 (w 9) (w 8))))
    (Scalar.select c2
      (Scalar.select c1 (Scalar.select c0 (w 7) (w 6)) (Scalar.select c0 (w 5) (w 4)))
      (Scalar.select c1 (Scalar.select c0 (w 3) (w 2)) (Scalar.select c0 (w 1) (w 0))))

/-- A function of the entries goes through the selections. -/
theorem tree_map {α β : Type} (f : α → β) (c0 c1 c2 c3 : BitVec 1) (w : ℕ → α) :
    tree c0 c1 c2 c3 (fun k => f (w k)) = f (tree c0 c1 c2 c3 w) := by
  have s : ∀ (c : BitVec 1) (x y : α), Scalar.select c (f x) (f y) = f (Scalar.select c x y) := by
    intro c x y
    unfold Scalar.select
    split <;> rfl
  unfold tree
  simp only [s]

/-- Bit s of the upper half of a byte, as the reference tests it. -/
def hiBit (b : BitVec 8) (s : BitVec 32) : BitVec 1 :=
  IntOp.cmpi .ne (IntOp.andi (IntOp.shrsi .host (IntOp.andi (IntOp.shrsi .host (b.setWidth 32) 4#32) 15#32) s) 1#32) 0#32

/-- Bit s of the lower half of a byte, as the reference tests it. -/
def loBit (b : BitVec 8) (s : BitVec 32) : BitVec 1 :=
  IntOp.cmpi .ne (IntOp.andi (IntOp.shrsi .host (IntOp.andi (b.setWidth 32) 15#32) s) 1#32) 0#32

/-- The selection by the bits of the upper nibble takes that nibble's word, for every byte. -/
theorem hi_words : ∀ n : Fin 256, tree (hiBit (BitVec.ofNat 8 n.val) 0#32) (hiBit (BitVec.ofNat 8 n.val) 1#32)
    (hiBit (BitVec.ofNat 8 n.val) 2#32) (hiBit (BitVec.ofNat 8 n.val) 3#32) nfW = nfW (BitVec.ofNat 8 n.val >>> 4).toNat := by
  decide +kernel

/-- The selection by the bits of the lower nibble takes that nibble's word, for every byte. -/
theorem lo_words : ∀ n : Fin 256, tree (loBit (BitVec.ofNat 8 n.val) 0#32) (loBit (BitVec.ofNat 8 n.val) 1#32)
    (loBit (BitVec.ofNat 8 n.val) 2#32) (loBit (BitVec.ofNat 8 n.val) 3#32) nfW = nfW (BitVec.ofNat 8 n.val &&& 15#8).toNat := by
  decide +kernel

/-- The weight of the upper half of a byte. -/
noncomputable def nfHi (b : BitVec 8) : EReal := Ideal.ofBits .bf16 (nfW (b >>> 4).toNat)

/-- The weight of the lower half of a byte. -/
noncomputable def nfLo (b : BitVec 8) : EReal := Ideal.ofBits .bf16 (nfW (b &&& 15#8).toNat)

/-- The selections over the upper half give its weight. -/
theorem hi_tree (b : BitVec 8) : tree (hiBit b 0#32) (hiBit b 1#32) (hiBit b 2#32) (hiBit b 3#32)
    (fun k => Ideal.ofBits .bf16 (nfW k)) = nfHi b := by
  rw [tree_map (Ideal.ofBits .bf16)]
  have h := hi_words ⟨b.toNat, b.isLt⟩
  have e : BitVec.ofNat 8 b.toNat = b := by simp
  simp only [e] at h
  rw [h]; rfl

/-- The selections over the lower half give its weight. -/
theorem lo_tree (b : BitVec 8) : tree (loBit b 0#32) (loBit b 1#32) (loBit b 2#32) (loBit b 3#32)
    (fun k => Ideal.ofBits .bf16 (nfW k)) = nfLo b := by
  rw [tree_map (Ideal.ofBits .bf16)]
  have h := lo_words ⟨b.toNat, b.isLt⟩
  have e : BitVec.ofNat 8 b.toNat = b := by simp
  simp only [e] at h
  rw [h]; rfl

variable (x1 : (⟨S5120x4480, .i8⟩ : BufTy).Contents (Elt Ideal))

/-- Upper weights of the first 2560 rows. -/
theorem v71_apply (i : S2560x4480.Idx) : val_main_v71 (F := Ideal) x1 i = nfHi (val_main_v26 (F := Ideal) x1 i) :=
  Eq.trans (b := tree (hiBit (val_main_v26 (F := Ideal) x1 i) 0#32) (hiBit (val_main_v26 (F := Ideal) x1 i) 1#32) (hiBit (val_main_v26 (F := Ideal) x1 i) 2#32)
    (hiBit (val_main_v26 (F := Ideal) x1 i) 3#32) (fun k => Ideal.ofBits .bf16 (nfW k))) rfl (hi_tree _)

/-- Lower weights of the first 2560 rows. -/
theorem v113_apply (i : S2560x4480.Idx) : val_main_v113 (F := Ideal) x1 i = nfLo (val_main_v26 (F := Ideal) x1 i) :=
  Eq.trans (b := tree (loBit (val_main_v26 (F := Ideal) x1 i) 0#32) (loBit (val_main_v26 (F := Ideal) x1 i) 1#32) (loBit (val_main_v26 (F := Ideal) x1 i) 2#32)
    (loBit (val_main_v26 (F := Ideal) x1 i) 3#32) (fun k => Ideal.ofBits .bf16 (nfW k))) rfl (lo_tree _)

/-- Upper weights of the last 2560 rows. -/
theorem v169_apply (i : S2560x4480.Idx) : val_main_v169 (F := Ideal) x1 i = nfHi (val_main_v124 (F := Ideal) x1 i) :=
  Eq.trans (b := tree (hiBit (val_main_v124 (F := Ideal) x1 i) 0#32) (hiBit (val_main_v124 (F := Ideal) x1 i) 1#32) (hiBit (val_main_v124 (F := Ideal) x1 i) 2#32)
    (hiBit (val_main_v124 (F := Ideal) x1 i) 3#32) (fun k => Ideal.ofBits .bf16 (nfW k))) rfl (hi_tree _)

/-- Lower weights of the last 2560 rows. -/
theorem v211_apply (i : S2560x4480.Idx) : val_main_v211 (F := Ideal) x1 i = nfLo (val_main_v124 (F := Ideal) x1 i) :=
  Eq.trans (b := tree (loBit (val_main_v124 (F := Ideal) x1 i) 0#32) (loBit (val_main_v124 (F := Ideal) x1 i) 1#32) (loBit (val_main_v124 (F := Ideal) x1 i) 2#32)
    (loBit (val_main_v124 (F := Ideal) x1 i) 3#32) (fun k => Ideal.ofBits .bf16 (nfW k))) rfl (lo_tree _)

end Cert.ReferenceIdeal.Val

end
-- ==== Proof.Table.lean ====
/- The kernel's table of value bytes: the two bytes of each entry are the word of the value the half-byte stands for. -/
module

public import proofs.«01_k».proof.Proof.Blocks
public import proofs.«01_k».proof.Proof.RefTree

@[expose] public section

set_option maxRecDepth 16384

noncomputable section

open Idealize.ShloMosaic

namespace Cert.KernelIdeal.Val

open Cert.KernelIdeal Cert.KernelIdeal.Gen Cert.ReferenceIdeal.Val

/-- Every entry of the table, at every lane. -/
theorem tab_words : ∀ (p : Fin 16) (l : Fin 128),
    lit0 ⟨(1 * 32 + p.val) * 128 + l.val, by have := p.isLt; have := l.isLt; show _ < 8192; omega⟩
      ++ lit0 ⟨(0 * 32 + p.val) * 128 + l.val, by have := p.isLt; have := l.isLt; show _ < 8192; omega⟩ = nfW p.val := by
  decide +kernel

end Cert.KernelIdeal.Val

end
-- ==== Proof.Regroup.lean ====
/- The kernel sums tile by tile, both halves of each byte together; the reference sums the two halves apart. Addition of extended reals is
   commutative and associative, so the two sums are one. -/
module

public import Idealize.ShloMosaic.PureOps.Ideal.Laws

@[expose] public section

namespace Cert.KernelIdeal.Val

/-- A sum over 256 rows is a sum over two halves of 128. -/
theorem sum_halves (f : Fin 2 → Fin 128 → EReal) :
    (∑ c : Fin 256, f ⟨c.val / 128, by omega⟩ ⟨c.val % 128, by omega⟩) = (∑ l : Fin 128, f 0 l) + ∑ l : Fin 128, f 1 l := by
  rw [← Fin.sum_univ_two (fun a => ∑ l : Fin 128, f a l), ← Fintype.sum_prod_type' (f := f)]
  symm
  refine Fintype.sum_equiv (finProdFinEquiv (m := 2) (n := 128)) _ _ fun x => ?_
  obtain ⟨a, l⟩ := x
  have ha := a.isLt
  have hl := l.isLt
  have e1 : (⟨(finProdFinEquiv (m := 2) (n := 128) (a, l)).val / 128, by have := (finProdFinEquiv (m := 2) (n := 128) (a, l)).isLt; omega⟩ : Fin 2) = a :=
    Fin.ext (show (l.val + 128 * a.val) / 128 = a.val by omega)
  have e2 : (⟨(finProdFinEquiv (m := 2) (n := 128) (a, l)).val % 128, by omega⟩ : Fin 128) = l :=
    Fin.ext (show (l.val + 128 * a.val) % 128 = l.val by omega)
  rw [e1, e2]

/-- A sum over 4480 columns is a sum over 35 tiles of 128. -/
theorem sum_tiles (f : Fin 4480 → EReal) :
    (∑ k : Fin 35, ∑ l : Fin 128, f ⟨128 * k.val + l.val, by omega⟩) = ∑ j : Fin 4480, f j := by
  rw [← Fintype.sum_prod_type' (f := fun (k : Fin 35) (l : Fin 128) => f ⟨128 * k.val + l.val, by omega⟩)]
  refine Fintype.sum_equiv (finProdFinEquiv (m := 35) (n := 128)) _ _ fun x => ?_
  obtain ⟨k, l⟩ := x
  exact congrArg f (Fin.ext (show 128 * k.val + l.val = l.val + 128 * k.val by omega))

/-- The two together. -/
theorem regroup (f : Fin 2 → Fin 4480 → EReal) :
    (∑ k : Fin 35, ∑ c : Fin 256, f ⟨c.val / 128, by omega⟩ ⟨128 * k.val + c.val % 128, by omega⟩) = (∑ j : Fin 4480, f 0 j) + ∑ j : Fin 4480, f 1 j := by
  have h : ∀ k : Fin 35, (∑ c : Fin 256, f ⟨c.val / 128, by omega⟩ ⟨128 * k.val + c.val % 128, by omega⟩)
      = (∑ l : Fin 128, f 0 ⟨128 * k.val + l.val, by omega⟩) + ∑ l : Fin 128, f 1 ⟨128 * k.val + l.val, by omega⟩ :=
    fun k => sum_halves (fun a l => f a ⟨128 * k.val + l.val, by omega⟩)
  rw [Finset.sum_congr rfl fun k _ => h k, Finset.sum_add_distrib, sum_tiles, sum_tiles]

end Cert.KernelIdeal.Val
-- ==== Proof.RefScale.lean ====
module

public import proofs.«01_k».proof.Proof.Gen.ReferenceIdeal.Read
public import Idealize.ShloMosaic.Lib.Pipeline.ValueKit.Tiles

@[expose] public section

/-! # The reference's scales

What the reference multiplies a weight by: the scale of its row and of its group of 32 columns, picked by a product with
a matrix of zeros and ones. The product is the picked entry exactly. -/

namespace Cert.ReferenceIdeal.Val

open Idealize.ShloMosaic Idealize.ShloMosaic.Pipeline Idealize.ShloMosaic.ValueIdx
open Cert.ReferenceIdeal Cert.ReferenceIdeal.Read

/-- The quotient of column j by 32, as the reference's rounding-down division computes it. -/
theorem floor_bits : ∀ j : Fin 4480,
    Scalar.select (IntOp.andi (IntOp.cmpi .ne
        (if (BitVec.ofNat 32 j.val) = 0 then (0 : BitVec 32) else if (BitVec.ofNat 32 j.val).msb then -1 else 1)
        (if (32#32 : BitVec 32) = 0 then (0 : BitVec 32) else if (32#32 : BitVec 32).msb then -1 else 1))
        (IntOp.cmpi .ne (IntOp.remsi .host (BitVec.ofNat 32 j.val) 32#32) 0#32))
      (IntOp.subi (IntOp.divsi .host (BitVec.ofNat 32 j.val) 32#32) 1#32)
      (IntOp.divsi .host (BitVec.ofNat 32 j.val) 32#32) = BitVec.ofNat 32 (j.val / 32) := by
  decide +kernel

/-- The quotient as the reference computes it, at an index. -/
theorem v12_apply (i : S1x4480.Idx) : val_main_v12 (F := Ideal) i = BitVec.ofNat 32 ((i 1).val / 32) := by
  have h := floor_bits (i 1)
  exact h

/-- The zero or one that decides whether column j takes its scale from group k. -/
theorem v17_bits : ∀ (j : Fin 4480) (k : Fin 140),
    IntOp.cmpi .eq (BitVec.ofNat 32 (j.val / 32)) (BitVec.ofNat 32 k.val) = if k.val = j.val / 32 then 1#1 else 0#1 := by
  intro j k
  have hj := j.isLt
  have hk := k.isLt
  have e : (BitVec.ofNat 32 (j.val / 32) = BitVec.ofNat 32 k.val) ↔ k.val = j.val / 32 := by
    constructor
    · intro h
      have := congrArg BitVec.toNat h
      rw [BitVec.toNat_ofNat, BitVec.toNat_ofNat] at this
      omega
    · intro h; rw [h]
  by_cases h : k.val = j.val / 32
  · rw [if_pos h, h]; simp [IntOp.cmpi]
  · rw [if_neg h]
    have h' := mt e.mp h
    show BitVec.ofBool (BitVec.ofNat 32 (j.val / 32) == BitVec.ofNat 32 k.val) = 0#1
    rw [beq_eq_false_iff_ne.mpr h']; rfl

/-- The matrix of zeros and ones, at an index. -/
theorem v18_apply (k : Fin 140) (j : Fin 4480) :
    val_main_v18 (F := Ideal) (ix2 k j) = if k.val = j.val / 32 then (1 : EReal) else 0 := by
  rw [val_main_v18_apply, val_main_v17_apply, val_main_v15_apply, val_main_v16_apply, v12_apply]
  have := v17_bits j k
  have e : IntOp.cmpi .eq (BitVec.ofNat 32 (j.val / 32)) (val_main_v14 (F := Ideal) (idx_main_v16 (ix2 k j))) = if k.val = j.val / 32 then 1#1 else 0#1 := this
  refine (congrArg (FloatOps.uitofp (F := Ideal) .bf16) e).trans ?_
  split
  · show (((1 : ℕ) : ℝ) : EReal) = 1; simp
  · show (((0 : ℕ) : ℝ) : EReal) = 0; simp

/-- The scale the reference uses at row n and column j is entry (n, j/32) of the table of scales. -/
theorem v20_apply (x2 : (⟨S5120x140, .i8⟩ : BufTy).Contents (Elt Ideal)) (x3 : (⟨S2800, .f32⟩ : BufTy).Contents (Elt Ideal))
    (x4 : (⟨S_, .f32⟩ : BufTy).Contents (Elt Ideal)) (i : S5120x4480.Idx) :
    val_main_v20 (F := Ideal) x2 x3 x4 i
      = val_main_v9 (F := Ideal) x2 x3 x4 (ix2 (i 0) ⟨(i 1).val / 32, by have := (i 1).isLt; change (i 1).val < 4480 at this; omega⟩) := by
  rw [val_main_v20_apply]
  refine Eq.trans (b := val_main_v19 (F := Ideal) x2 x3 x4 i) rfl ?_
  rw [val_main_v19_apply]
  refine (Finset.sum_eq_single (⟨(i 1).val / 32, by have := (i 1).isLt; change (i 1).val < 4480 at this; omega⟩ : Fin 140) ?_ ?_).trans ?_
  · intro k _ hk
    have e : val_main_v18 (F := Ideal) (ridx_main_v19 i k) = (0 : EReal) := by
      refine (congrArg (val_main_v18 (F := Ideal)) (a₂ := ix2 k (i 1)) ?_).trans ((v18_apply k (i 1)).trans (if_neg fun h => hk (Fin.ext h)))
      funext a; match a with
        | ⟨0, _⟩ => rfl
        | ⟨1, _⟩ => rfl
    rw [e]; exact mul_zero _
  · intro h; exact absurd (Finset.mem_univ _) h
  · have e : val_main_v18 (F := Ideal) (ridx_main_v19 i ⟨(i 1).val / 32, by have := (i 1).isLt; change (i 1).val < 4480 at this; omega⟩) = (1 : EReal) := by
      refine (congrArg (val_main_v18 (F := Ideal)) (a₂ := ix2 ⟨(i 1).val / 32, by have := (i 1).isLt; change (i 1).val < 4480 at this; omega⟩ (i 1)) ?_).trans ((v18_apply _ (i 1)).trans (if_pos rfl))
      funext a; match a with
        | ⟨0, _⟩ => rfl
        | ⟨1, _⟩ => rfl
    rw [e, mul_one]
    refine congrArg (val_main_v9 (F := Ideal) x2 x3 x4) ?_
    funext a; match a with
      | ⟨0, _⟩ => rfl
      | ⟨1, _⟩ => rfl

/-- An entry of the table of scales, from the arguments: the code times the scale of its block of 256, plus the offset. -/
theorem v9_apply (x2 : (⟨S5120x140, .i8⟩ : BufTy).Contents (Elt Ideal)) (x3 : (⟨S2800, .f32⟩ : BufTy).Contents (Elt Ideal))
    (x4 : (⟨S_, .f32⟩ : BufTy).Contents (Elt Ideal)) (n : Fin 5120) (b : Fin 140) :
    val_main_v9 (F := Ideal) x2 x3 x4 (ix2 n b)
      = FloatOps.truncf .bf16 bitsLt_bf16_f32 (FloatOps.addf (FloatOps.mulf
          (FloatOps.sitofp (F := Ideal) .f32 ((x2 (ix2 n b)).signExtend 32))
          (x3 (ix1 ⟨(n.val * 140 + b.val) / 256, by omega⟩))) (x4 (fun a => a.elim0))) := by
  rw [val_main_v9_apply, val_main_v8_apply, val_main_v7_apply, val_main_v5_apply, val_main_v2_apply, val_main_v1_apply,
    val_main_v0_apply, val_main_v4_apply, val_main_v3_apply, val_main_v6_apply]
  have e1 : idx_main_v2 (idx_main_v8 (ix2 n b)) = ix2 n b := by
    have hn := n.isLt
    have hb := b.isLt
    funext a; match a with
      | ⟨0, _⟩ =>
        apply Fin.ext
        show ((n.val * 140 + b.val) / 256 * 256 + (n.val * 140 + b.val) % 256) / 140 = n.val
        omega
      | ⟨1, _⟩ =>
        apply Fin.ext
        show ((n.val * 140 + b.val) / 256 * 256 + (n.val * 140 + b.val) % 256) % 140 = b.val
        omega
  rw [e1]
  refine congrArg₂ (fun (u : EReal) (w : EReal) => FloatOps.truncf (F := Ideal) .bf16 bitsLt_bf16_f32 (FloatOps.addf (F := Ideal) (φ := .f32) (FloatOps.mulf (F := Ideal) (φ := .f32)
          (FloatOps.sitofp (F := Ideal) .f32 ((x2 (ix2 n b)).signExtend 32)) u) w)) ?_ ?_
  · refine congrArg x3 ?_
    funext a; match a with
      | ⟨0, _⟩ => rfl
  · refine congrArg x4 ?_
    funext a; exact a.elim0

end Cert.ReferenceIdeal.Val

end
-- ==== Proof.RefClosed.lean ====
module

public import proofs.«01_k».proof.Proof.RefScale
public import proofs.«01_k».proof.Proof.RefTree

@[expose] public section

set_option maxRecDepth 16384

/-! # The reference's result in closed form

Each element of the reference's result: the row of the activations against the row of decoded and scaled weights, even
columns against upper halves and odd columns against lower halves, plus twice the low-rank term. -/

namespace Cert.ReferenceIdeal.Val

open Idealize.ShloMosaic Idealize.ShloMosaic.Pipeline Idealize.ShloMosaic.ValueIdx
open Cert.ReferenceIdeal Cert.ReferenceIdeal.Read

variable (x0 : (⟨S256x1x8960, .bf16⟩ : BufTy).Contents (Elt Ideal)) (x1 : (⟨S5120x4480, .i8⟩ : BufTy).Contents (Elt Ideal))
  (x2 : (⟨S5120x140, .i8⟩ : BufTy).Contents (Elt Ideal)) (x3 : (⟨S2800, .f32⟩ : BufTy).Contents (Elt Ideal))
  (x4 : (⟨S_, .f32⟩ : BufTy).Contents (Elt Ideal)) (x5 : (⟨S8960x16, .bf16⟩ : BufTy).Contents (Elt Ideal))
  (x6 : (⟨S16x5120, .bf16⟩ : BufTy).Contents (Elt Ideal))

/-- The scale of row n and group b. -/
noncomputable def scaleAt (n : Fin 5120) (b : Fin 140) : EReal :=
  FloatOps.truncf (F := Ideal) .bf16 (by decide) (FloatOps.addf (FloatOps.mulf
    (FloatOps.sitofp (F := Ideal) .f32 ((x2 (ix2 n b)).signExtend 32))
    (x3 (ix1 ⟨(n.val * 140 + b.val) / 256, by omega⟩))) (x4 (fun a => a.elim0)))

/-- Element (m, n) of the result. -/
noncomputable def yRef (m : Fin 256) (n : Fin 5120) : EReal :=
  ((∑ j : Fin 4480, x0 (ix3 m (0 : Fin 1) ⟨2 * j.val, by omega⟩) * (nfHi (x1 (ix2 n j)) * scaleAt x2 x3 x4 n ⟨j.val / 32, by omega⟩))
    + (∑ j : Fin 4480, x0 (ix3 m (0 : Fin 1) ⟨1 + 2 * j.val, by omega⟩) * (nfLo (x1 (ix2 n j)) * scaleAt x2 x3 x4 n ⟨j.val / 32, by omega⟩)))
  + Ideal.ofBits .f32 0x40000000#32 * (∑ r : Fin 16, (∑ k : Fin 8960, x0 (ix3 m (0 : Fin 1) k) * x5 (ix2 k r)) * x6 (ix2 r n))

/-- The activations as a matrix. -/
theorem v21_apply (m : Fin 256) (k : Fin 8960) : val_main_v21 (F := Ideal) x0 (ix2 m k) = x0 (ix3 m (0 : Fin 1) k) := by
  rw [val_main_v21_apply]
  refine congrArg x0 ?_
  funext a; match a with
    | ⟨0, _⟩ => apply Fin.ext; show (m.val * 8960 + k.val) / 8960 = m.val; omega
    | ⟨1, _⟩ => rfl
    | ⟨2, _⟩ => apply Fin.ext; show (m.val * 8960 + k.val) % 8960 = k.val; omega

/-- The even columns of the activations. -/
theorem v22_apply (m : Fin 256) (j : Fin 4480) :
    val_main_v22 (F := Ideal) x0 (ix2 m j) = x0 (ix3 m (0 : Fin 1) ⟨2 * j.val, by omega⟩) := by
  refine Eq.trans ?_ (v21_apply x0 m ⟨2 * j.val, by omega⟩)
  unfold val_main_v22
  generalize val_main_v21 (F := Ideal) x0 = y
  unfold Host.slice
  refine congrArg y ?_
  funext a; match a with
    | ⟨0, _⟩ => apply Fin.ext; show 0 + 1 * m.val = m.val; omega
    | ⟨1, _⟩ => apply Fin.ext; show 0 + 2 * j.val = 2 * j.val; omega

/-- The odd columns of the activations. -/
theorem v23_apply (m : Fin 256) (j : Fin 4480) :
    val_main_v23 (F := Ideal) x0 (ix2 m j) = x0 (ix3 m (0 : Fin 1) ⟨1 + 2 * j.val, by omega⟩) := by
  refine Eq.trans ?_ (v21_apply x0 m ⟨1 + 2 * j.val, by omega⟩)
  unfold val_main_v23
  generalize val_main_v21 (F := Ideal) x0 = y
  unfold Host.slice
  refine congrArg y ?_
  funext a; match a with
    | ⟨0, _⟩ => apply Fin.ext; show 0 + 1 * m.val = m.val; omega
    | ⟨1, _⟩ => apply Fin.ext; show 1 + 2 * j.val = 1 + 2 * j.val; omega

/-- The first low-rank product of the reference, as a sum. -/
theorem v25_apply (m : Fin 256) (r : Fin 16) :
    val_main_v25 (F := Ideal) x0 x5 (ix2 m r) = ∑ k : Fin 8960, x0 (ix3 m (0 : Fin 1) k) * x5 (ix2 k r) := by
  rw [val_main_v25_apply]
  refine Eq.trans (b := val_main_v24 (F := Ideal) x0 x5 (ix2 m r)) rfl ?_
  rw [val_main_v24_apply]
  refine Finset.sum_congr rfl fun k _ => ?_
  refine congrArg₂ (· * ·) ((congrArg _ ?_).trans (v21_apply x0 m k)) (congrArg x5 ?_)
  · funext a; match a with
      | ⟨0, _⟩ => rfl
      | ⟨1, _⟩ => rfl
  · funext a; match a with
      | ⟨0, _⟩ => rfl
      | ⟨1, _⟩ => rfl

/-- The scale picked at row n and column j. -/
theorem v20_scale (n : Fin 5120) (j : Fin 4480) :
    val_main_v20 (F := Ideal) x2 x3 x4 (ix2 n j) = scaleAt x2 x3 x4 n ⟨j.val / 32, by omega⟩ :=
  (v20_apply x2 x3 x4 (ix2 n j)).trans (v9_apply x2 x3 x4 n ⟨j.val / 32, by omega⟩)

/-- The first 2560 columns of the result. -/
theorem v123_apply (m : Fin 256) (n : Fin 2560) :
    val_main_v123 (F := Ideal) x0 x1 x2 x3 x4 x5 x6 (ix2 m n) = yRef x0 x1 x2 x3 x4 x5 x6 m ⟨n.val, by omega⟩ := by
  rw [val_main_v123_apply]
  refine Eq.trans (b := val_main_v122 (F := Ideal) x0 x1 x2 x3 x4 x5 x6 (ix2 m n)) rfl ?_
  rw [val_main_v122_apply, val_main_v119_apply, val_main_v121_apply, val_main_v115_apply, val_main_v116_apply, val_main_v118_apply]
  refine congrArg₂ (fun u v : EReal => u + v) (congrArg₂ (fun u v : EReal => u + v) ?_ ?_) (congrArg₂ (fun u v : EReal => u * v) rfl ?_)
  · refine Finset.sum_congr rfl fun j _ => ?_
    refine congrArg₂ (fun u v : EReal => u * v) ((congrArg _ ?_).trans (v22_apply x0 m j)) ?_
    · funext a; match a with
        | ⟨0, _⟩ => rfl
        | ⟨1, _⟩ => rfl
    · rw [val_main_v72_apply, v71_apply, val_main_v26_apply, val_main_v28_apply]
      refine congrArg₂ (fun u v : EReal => u * v) (congrArg (fun i => nfHi (x1 i)) ?_)
        ((congrArg (val_main_v20 (F := Ideal) x2 x3 x4) (a₂ := ix2 ⟨n.val, by omega⟩ j) ?_).trans (v20_scale x2 x3 x4 ⟨n.val, by omega⟩ j))
      · funext a; match a with
          | ⟨0, _⟩ => rfl
          | ⟨1, _⟩ => rfl
      · funext a; match a with
          | ⟨0, _⟩ => rfl
          | ⟨1, _⟩ => rfl
  · refine Finset.sum_congr rfl fun j _ => ?_
    refine congrArg₂ (fun u v : EReal => u * v) ((congrArg _ ?_).trans (v23_apply x0 m j)) ?_
    · funext a; match a with
        | ⟨0, _⟩ => rfl
        | ⟨1, _⟩ => rfl
    · rw [val_main_v114_apply, v113_apply, val_main_v26_apply, val_main_v28_apply]
      refine congrArg₂ (fun u v : EReal => u * v) (congrArg (fun i => nfLo (x1 i)) ?_)
        ((congrArg (val_main_v20 (F := Ideal) x2 x3 x4) (a₂ := ix2 ⟨n.val, by omega⟩ j) ?_).trans (v20_scale x2 x3 x4 ⟨n.val, by omega⟩ j))
      · funext a; match a with
          | ⟨0, _⟩ => rfl
          | ⟨1, _⟩ => rfl
      · funext a; match a with
          | ⟨0, _⟩ => rfl
          | ⟨1, _⟩ => rfl
  · refine Finset.sum_congr rfl fun r _ => ?_
    refine congrArg₂ (fun u v : EReal => u * v) ((congrArg _ ?_).trans (v25_apply x0 x5 m r)) ?_
    · funext a; match a with
        | ⟨0, _⟩ => rfl
        | ⟨1, _⟩ => rfl
    · rw [val_main_v117_apply]
      refine congrArg x6 ?_
      funext a; match a with
        | ⟨0, _⟩ => rfl
        | ⟨1, _⟩ => rfl

/-- The last 2560 columns of the result. -/
theorem v221_apply (m : Fin 256) (n : Fin 2560) :
    val_main_v221 (F := Ideal) x0 x1 x2 x3 x4 x5 x6 (ix2 m n) = yRef x0 x1 x2 x3 x4 x5 x6 m ⟨2560 + n.val, by omega⟩ := by
  rw [val_main_v221_apply]
  refine Eq.trans (b := val_main_v220 (F := Ideal) x0 x1 x2 x3 x4 x5 x6 (ix2 m n)) rfl ?_
  rw [val_main_v220_apply, val_main_v217_apply, val_main_v219_apply, val_main_v213_apply, val_main_v214_apply, val_main_v216_apply]
  refine congrArg₂ (fun u v : EReal => u + v) (congrArg₂ (fun u v : EReal => u + v) ?_ ?_) (congrArg₂ (fun u v : EReal => u * v) rfl ?_)
  · refine Finset.sum_congr rfl fun j _ => ?_
    refine congrArg₂ (fun u v : EReal => u * v) ((congrArg _ ?_).trans (v22_apply x0 m j)) ?_
    · funext a; match a with
        | ⟨0, _⟩ => rfl
        | ⟨1, _⟩ => rfl
    · rw [val_main_v170_apply, v169_apply, val_main_v124_apply, val_main_v126_apply]
      refine congrArg₂ (fun u v : EReal => u * v) (congrArg (fun i => nfHi (x1 i)) ?_)
        ((congrArg (val_main_v20 (F := Ideal) x2 x3 x4) (a₂ := ix2 ⟨2560 + n.val, by omega⟩ j) ?_).trans (v20_scale x2 x3 x4 ⟨2560 + n.val, by omega⟩ j))
      · funext a; match a with
          | ⟨0, _⟩ => rfl
          | ⟨1, _⟩ => rfl
      · funext a; match a with
          | ⟨0, _⟩ => rfl
          | ⟨1, _⟩ => rfl
  · refine Finset.sum_congr rfl fun j _ => ?_
    refine congrArg₂ (fun u v : EReal => u * v) ((congrArg _ ?_).trans (v23_apply x0 m j)) ?_
    · funext a; match a with
        | ⟨0, _⟩ => rfl
        | ⟨1, _⟩ => rfl
    · rw [val_main_v212_apply, v211_apply, val_main_v124_apply, val_main_v126_apply]
      refine congrArg₂ (fun u v : EReal => u * v) (congrArg (fun i => nfLo (x1 i)) ?_)
        ((congrArg (val_main_v20 (F := Ideal) x2 x3 x4) (a₂ := ix2 ⟨2560 + n.val, by omega⟩ j) ?_).trans (v20_scale x2 x3 x4 ⟨2560 + n.val, by omega⟩ j))
      · funext a; match a with
          | ⟨0, _⟩ => rfl
          | ⟨1, _⟩ => rfl
      · funext a; match a with
          | ⟨0, _⟩ => rfl
          | ⟨1, _⟩ => rfl
  · refine Finset.sum_congr rfl fun r _ => ?_
    refine congrArg₂ (fun u v : EReal => u * v) ((congrArg _ ?_).trans (v25_apply x0 x5 m r)) ?_
    · funext a; match a with
        | ⟨0, _⟩ => rfl
        | ⟨1, _⟩ => rfl
    · rw [val_main_v215_apply]
      refine congrArg x6 ?_
      funext a; match a with
        | ⟨0, _⟩ => rfl
        | ⟨1, _⟩ => rfl

/-- The whole result. -/
theorem v223_apply (i : S256x1x5120.Idx) :
    val_main_v223 (F := Ideal) x0 x1 x2 x3 x4 x5 x6 i = yRef x0 x1 x2 x3 x4 x5 x6 (i 0) (i 2) := by
  have h2 : (i 2).val < 5120 := (i 2).isLt
  have h1 : (i 1).val < 1 := (i 1).isLt
  have h0 : (i 0).val < 256 := (i 0).isLt
  rw [val_main_v223_apply]
  have hi : idx_main_v223 i = ix2 (i 0) (i 2) := by
    funext a; match a with
      | ⟨0, _⟩ => apply Fin.ext; show (((i 0).val * 1 + (i 1).val) * 5120 + (i 2).val) / 5120 = (i 0).val; omega
      | ⟨1, _⟩ => apply Fin.ext; show (((i 0).val * 1 + (i 1).val) * 5120 + (i 2).val) % 5120 = (i 2).val; omega
  rw [hi]
  unfold val_main_v222
  by_cases h : (i 2).val < 2560
  · refine (concatenate_pair_apply_left (s₁ := S256x2560) (s₂ := S256x2560) (1 : Fin S256x5120.rank) _ _ _ _ rfl (ix2 (i 0) (⟨(i 2).val, h⟩ : Fin 2560)) ?_).trans ?_
    · intro b; match b with
        | ⟨0, _⟩ => rfl
        | ⟨1, _⟩ => rfl
    · exact v123_apply x0 x1 x2 x3 x4 x5 x6 (i 0) ⟨(i 2).val, h⟩
  · refine (concatenate_pair_apply_right (s₁ := S256x2560) (s₂ := S256x2560) (1 : Fin S256x5120.rank) _ _ _ _ rfl rfl (ix2 (i 0) (⟨(i 2).val - 2560, by omega⟩ : Fin 2560)) ?_ ?_).trans ?_
    · intro b hb; match b with
        | ⟨0, _⟩ => rfl
        | ⟨1, _⟩ => exact absurd rfl hb
    · show (i 2).val - 2560 + 2560 = (i 2).val
      omega
    · refine (v221_apply x0 x1 x2 x3 x4 x5 x6 (i 0) ⟨(i 2).val - 2560, by omega⟩).trans ?_
      refine congrArg (yRef x0 x1 x2 x3 x4 x5 x6 (i 0)) (Fin.ext ?_)
      show 2560 + ((i 2).val - 2560) = (i 2).val
      omega

end Cert.ReferenceIdeal.Val

end
-- ==== Proof.Equal.lean ====
/- Every element of the idealized kernel's result is the reference's. -/
module

public import proofs.«01_k».proof.Proof.Table
public import proofs.«01_k».proof.Proof.Regroup
public import proofs.«01_k».proof.Proof.RefClosed

@[expose] public section

set_option maxRecDepth 16384

noncomputable section

open Idealize.ShloMosaic Idealize.ShloMosaic.TcCoe

namespace Cert.KernelIdeal.Val

open Cert.KernelIdeal Cert.KernelIdeal.Gen Cert.ReferenceIdeal.Val

variable (m : (ℓ : Loc nD τ sig) → Buf (Elt Ideal) ℓ) (c : Dev nD)

/-- The activations. -/
abbrev a0 : S256x1x8960.Idx → EReal := m ((c.tc : Thread nD τ).loc main_arg0)
/-- The packed bytes. -/
abbrev a1 : S5120x4480.Idx → BitVec 8 := m ((c.tc : Thread nD τ).loc main_arg1)
/-- The codes of the scales. -/
abbrev a2 : S5120x140.Idx → BitVec 8 := m ((c.tc : Thread nD τ).loc main_arg2)
/-- The scales of the codes. -/
abbrev a3 : S2800.Idx → EReal := m ((c.tc : Thread nD τ).loc main_arg3)
/-- The offset of the scales. -/
abbrev a4 : S_.Idx → EReal := m ((c.tc : Thread nD τ).loc main_arg4)
/-- The first low-rank factor. -/
abbrev a5 : S8960x16.Idx → EReal := m ((c.tc : Thread nD τ).loc main_arg5)
/-- The second low-rank factor. -/
abbrev a6 : S16x5120.Idx → EReal := m ((c.tc : Thread nD τ).loc main_arg6)

/-- The row of the whole result that row n of point t is. -/
abbrev rowOf (t : Fin cfg0.N) (n : Fin 1024) : Fin 5120 := ⟨t.val * 1024 + n.val, by have h : t.val < 5 := t.isLt; omega⟩

/-- The value of a half of a byte. -/
def nfN (nib : Fin 2) (b : BitVec 8) : EReal := Ideal.ofBits .bf16 (nfW (nibB b nib).toNat)

/-- What the kernel looks up is that value. -/
theorem wt_eq (t : Fin cfg0.N) (b : BitVec 8) (nib : Fin 2) (l : Fin 128) : wt (iblk m c 7 t) b nib l = nfN nib b := by
  have hn : (nibB b nib).toNat < 16 := nibB_lt b nib
  unfold wt nfN
  refine congrArg (Ideal.ofBits .bf16) ?_
  rw [blk7, blk7]
  refine Eq.trans ?_ (tab_words ⟨(nibB b nib).toNat, hn⟩ l)
  refine congrArg₂ (fun x y : BitVec 8 => x ++ y) (congrArg lit0 (Fin.ext ?_)) (congrArg lit0 (Fin.ext ?_))
  · rw [Shape.rowMajor_val_three]; rfl
  · rw [Shape.rowMajor_val_three]; rfl

/-- The scale the kernel multiplies by is the reference's. -/
theorem scl_eq (t : Fin cfg0.N) (d : S1024x256.Idx → BitVec 8) (n : Fin 1024) (b : Fin 140) :
    scl (F := Ideal) (iblk m c 0 t (Shape.Idx.first (s := S1x1) (by decide))) (codesB m c t d) (iblk m c 4 t) n b
      = scaleAt (a2 m c) (a3 m c) (a4 m c) (rowOf t n) b := by
  have hn := n.isLt
  have hb := b.isLt
  unfold scl scaleAt
  rw [blk0, blk3 m c t d n ⟨b.val, by omega⟩ hb, blk4 m c t ⟨n.val / 64, by omega⟩ ⟨(n.val % 64 * 140 + b.val) / 256, by omega⟩ (show (n.val % 64 * 140 + b.val) / 256 < 35 by omega)]
  have e : (ValueIdx.ix1 (⟨(t.val * 16 + n.val / 64) * 35 + (n.val % 64 * 140 + b.val) / 256, by have h : t.val < 5 := t.isLt; omega⟩ : Fin 2800) : S2800.Idx)
      = ValueIdx.ix1 (⟨((t.val * 1024 + n.val) * 140 + b.val) / 256, by have h : t.val < 5 := t.isLt; omega⟩ : Fin 2800) :=
    congrArg ValueIdx.ix1 (Fin.ext (show (t.val * 16 + n.val / 64) * 35 + (n.val % 64 * 140 + b.val) / 256 = ((t.val * 1024 + n.val) * 140 + b.val) / 256 by omega))
  exact congrArg (fun i => FloatOps.truncf (F := Ideal) .bf16 (by decide) (FloatOps.addf (FloatOps.mulf
    (FloatOps.sitofp (F := Ideal) .f32 (((a2 m c) (ValueIdx.ix2 (rowOf t n) b)).signExtend 32))
    ((a3 m c) i)) ((a4 m c) (fun a => a.elim0)))) e

/-- The tiles of the activations at an entry. -/
theorem xs_eq (r : Fin 256) (k : Fin 35) (l : Fin 256) :
    xsV m c (ValueIdx.ix3 k l r) = (a0 m c) (ValueIdx.ix3 r (0 : Fin 1) (⟨256 * k.val + (2 * (l.val % 128) + l.val / 128), by omega⟩ : Fin 8960)) := by
  unfold xsV tilesC
  exact blk1 m c t0 r ⟨256 * k.val + (2 * (l.val % 128) + l.val / 128), by omega⟩

set_option maxHeartbeats 1000000 in
/-- The first low-rank product of any two operands at an entry. -/
theorem pay_apply (x : Vec Ideal S256x8960 .bf16) (y : Vec Ideal S8960x16 .bf16) (r : Fin 256) (q : Fin 16) :
    k0_pay486 (F := Ideal) x y (ValueIdx.ix2 r q) = ∑ k : Fin 8960, (x (ValueIdx.ix2 r k) : EReal) * (y (ValueIdx.ix2 k q) : EReal) := by
  unfold k0_pay486
  rw [shapeCast_id (s := S256x8960)]
  generalize hM : matmul dot_S256x8960_S8960x16_S256x16_1_0_0_1_n_n none x y (constant (F := Ideal) S256x16 .f32 0x00000000#32) = M
  refine Eq.trans (congrFun (shapeCast_id (s := S256x16) _ _) _) ?_
  refine Eq.trans (b := M (ValueIdx.ix2 r q)) rfl ?_
  rw [← hM]
  exact tDot_apply x y (ValueIdx.ix2 r q)

/-- The low-rank product's first factor at an entry. -/
theorem t_eq (r : Fin 256) (q : Fin 16) :
    tV m c (ValueIdx.ix2 r q) = ∑ k : Fin 8960, (a0 m c) (ValueIdx.ix3 r (0 : Fin 1) k) * (a5 m c) (ValueIdx.ix2 k q) :=
  (pay_apply (iblk m c 1 t0) (iblk m c 5 t0) r q).trans (Finset.sum_congr rfl fun k _ =>
    congrArg₂ (fun u v : EReal => u * v) (blk1 m c t0 r k) (blk5 m c t0 k q))

/-- An element of what a point leaves is the reference's element. -/
theorem outB_eq_ref (t : Fin cfg0.N) (r : Fin 256) (n : Fin 1024) :
    outB m c t (ValueIdx.ix2 r n) = yRef (a0 m c) (a1 m c) (a2 m c) (a3 m c)
      (a4 m c) (a5 m c) (a6 m c) r (rowOf t n) := by
  unfold outB
  refine (outV_apply _ _ _ _ _ _ _ _ r n).trans ?_
  unfold yVal yRef
  rw [add_comm]
  refine congrArg₂ (fun u v : EReal => u + v) ?_ (congrArg (fun v : EReal => Ideal.ofBits .f32 0x40000000#32 * v) ?_)
  · let f : Fin 2 → Fin 4480 → EReal := fun nib j =>
      (a0 m c) (ValueIdx.ix3 r (0 : Fin 1) (⟨2 * j.val + nib.val, by omega⟩ : Fin 8960))
        * (nfN nib ((a1 m c) (ValueIdx.ix2 (rowOf t n) j))
          * scaleAt (a2 m c) (a3 m c) (a4 m c) (rowOf t n) ⟨j.val / 32, by omega⟩)
    refine Eq.trans (Finset.sum_congr rfl fun k _ => ?_) ((regroup f).trans ?_)
    · unfold tileSum
      refine Finset.sum_congr rfl fun l _ => ?_
      rw [wt_eq, scl_eq, xs_eq, blk2, mul_comm]
      refine congrArg₂ (fun u v : EReal => u * v) (congrArg (fun i : Fin 8960 => (a0 m c) (ValueIdx.ix3 r (0 : Fin 1) i)) (Fin.ext ?_))
        (congrArg₂ (fun u v : EReal => u * v) rfl (congrArg (scaleAt _ _ _ (rowOf t n)) (Fin.ext ?_)))
      · show 256 * k.val + (2 * (l.val % 128) + l.val / 128) = 2 * (128 * k.val + l.val % 128) + l.val / 128
        omega
      · show 4 * k.val + l.val % 128 / 32 = (128 * k.val + l.val % 128) / 32
        omega
    · refine congrArg₂ (fun u v : EReal => u + v) (Finset.sum_congr rfl fun j _ => rfl) (Finset.sum_congr rfl fun j _ => ?_)
      refine congrArg₂ (fun u v : EReal => u * v) (congrArg (fun i : Fin 8960 => (a0 m c) (ValueIdx.ix3 r (0 : Fin 1) i)) (Fin.ext ?_)) rfl
      show 2 * j.val + 1 = 1 + 2 * j.val
      omega
  · refine Finset.sum_congr rfl fun q _ => ?_
    rw [t_eq, blk6, mul_comm]

end Cert.KernelIdeal.Val

end
-- ==== Proof.Algebraic.lean ====
/- The value claim: in exact arithmetic the idealized kernel and the reference end with the same result. -/
module

public import proofs.«01_k».proof.Defs
public import proofs.«01_k».proof.Proof.ValRun
public import proofs.«01_k».proof.Proof.Equal
public import proofs.«01_k».proof.Proof.Gen.ReferenceIdeal
public import proofs.«01_k».proof.Proof.Gen.ReferenceIdeal.Run

@[expose] public section

set_option maxRecDepth 16384

noncomputable section

open Idealize.ShloMosaic Idealize.ShloMosaic.TcCoe Idealize.SL.Sem

namespace Cert.KernelIdeal.Val

open Cert.KernelIdeal Cert.KernelIdeal.Gen Cert.ReferenceIdeal.Val

/-- The kernel's result array is the reference's term of the same arguments. -/
theorem result_eq (m : (ℓ : Loc nD τ sig) → Buf (Elt Ideal) ℓ) (c : Dev nD) :
    shapeCast S256x1x5120 (arrV m c) (by decide)
      = Cert.ReferenceIdeal.Read.val_main_v223 (F := Ideal) (a0 m c) (a1 m c) (a2 m c) (a3 m c) (a4 m c) (a5 m c) (a6 m c) := by
  funext i
  have h0 : (i 0).val < 256 := (i 0).isLt
  have h1 : (i 1).val < 1 := (i 1).isLt
  have h2 : (i 2).val < 5120 := (i 2).isLt
  refine Eq.trans ?_ (v223_apply (a0 m c) (a1 m c) (a2 m c) (a3 m c) (a4 m c) (a5 m c) (a6 m c) i).symm
  refine (shapeCast_apply (s := S256x5120) (t := S256x1x5120) _ _ i (ValueIdx.ix2 (⟨(i 0).val, h0⟩ : Fin 256) (⟨(i 2).val, h2⟩ : Fin 5120)) ?_).trans ?_
  · rw [Shape.rowMajor_val_three, Shape.rowMajor_val_two]
    show (i 0).val * 5120 + (i 2).val = ((i 0).val * 1 + (i 1).val) * 5120 + (i 2).val
    omega
  · refine (outB_eq_ref m c (⟨(i 2).val / 1024, by show _ < 5; omega⟩ : Fin cfg0.N) ⟨(i 0).val, h0⟩ ⟨(i 2).val % 1024, by omega⟩).trans ?_
    refine congrArg (yRef (a0 m c) (a1 m c) (a2 m c) (a3 m c) (a4 m c) (a5 m c) (a6 m c) (i 0)) (Fin.ext ?_)
    show (i 2).val / 1024 * 1024 + (i 2).val % 1024 = (i 2).val
    omega

/-- The value claim. -/
theorem algebraic : Cert.algebraic_KernelIdeal_ReferenceIdeal := by
  intro m g m' g' _ hargs
  refine ⟨fun c => shapeCast S256x1x5120 (arrV m c) (by decide), run m g, ?_⟩
  refine (θ_run Cert.ReferenceIdeal.defs _ _).mono (fun r h c => ⟨?_, (h c).2⟩) (Cert.ReferenceIdeal.Value.run m' g')
  have e := (h c).1
  refine e.trans ?_
  refine (Cert.ReferenceIdeal.Read.val_main_v223_eq (F := Ideal) (StableHlo.launchContents m' c)).trans ?_
  refine Eq.trans ?_ (result_eq m c).symm
  obtain ⟨e0, e1, e2, e3, e4, e5, e6⟩ := hargs c
  show Cert.ReferenceIdeal.Read.val_main_v223 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
  rw [e0, e1, e2, e3, e4, e5, e6]

end Cert.KernelIdeal.Val

end
-- ==== Proof.lean ====
/- The claims of Defs.lean, assembled from the modules beside this file. -/
module

public import proofs.«01_k».proof.Defs
public import proofs.«01_k».proof.Proof.BitsFrame
public import proofs.«01_k».proof.Proof.IdealFrame
public import proofs.«01_k».proof.Proof.Algebraic
public import proofs.«01_k».proof.Proof.Gen.ReferenceIdeal
public import proofs.«01_k».proof.Proof.Gen.ReferenceIdeal.Run
public import proofs.«01_k».proof.Proof.Gen.ReferenceIdeal.Read
public import Idealize.ShloMosaic.Lib.Bf16Pair

@[expose] public section

namespace Cert.Proof

open Idealize.ShloMosaic Idealize.ShloMosaic.TcCoe Idealize.SL.Sem

/-- The printed kernel runs to its end and leaves its arguments. -/
theorem frame_kernel : Cert.quiescent_Kernel := fun m g _ => Cert.Kernel.Run.frame m g

/-- So does the idealized kernel. -/
theorem frame_ideal : Cert.quiescent_KernelIdeal := fun m g _ => Cert.KernelIdeal.Run.frame m g

/-- So does the reference, which has no semaphore. -/
theorem frame_reference : Cert.quiescent_ReferenceIdeal := fun m g _ =>
  (θ_run Cert.ReferenceIdeal.defs _ _).mono (fun _ h => ⟨fun c => (h c).2, Idealize.ShloMosaic.sem_eq_zero_of_no_sems (by decide) _⟩) (Cert.ReferenceIdeal.Value.run m g)

/-- Every rewrite of the idealization is one its rule states. -/
theorem preserves : Cert.preserves_Kernel_KernelIdeal :=
  ⟨IdealRules.bf16_pair.statement _ _, IdealRules.bf16_pair.statement _ _, IdealRules.bf16_pair.packStatement _,
    IdealRules.bf16_pair.statement _ _, IdealRules.bf16_pair.statement _ _, IdealRules.bf16_pair.statement _ _,
    IdealRules.bf16_pair.packStatement _, IdealRules.bf16_pair.statement _ _⟩

/-- The five claims of the certificate. -/
theorem claim : Cert.Claim :=
  ⟨Cert.Kernel.Gen.facts, Cert.KernelIdeal.Gen.facts, Cert.ReferenceIdeal.Gen.facts, frame_kernel, frame_ideal, frame_reference, preserves,
    Cert.KernelIdeal.Val.algebraic⟩

end Cert.Proof
